-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_InRet (m : (ℓ : Loc Cert.InRet.nD Cert.InRet.τ Cert.InRet.sig) → Buf (Elt Bits) ℓ) : Prop :=
  True

def Pre_InRetIdeal (m : (ℓ : Loc Cert.InRetIdeal.nD Cert.InRetIdeal.τ Cert.InRetIdeal.sig) → Buf (Elt Ideal) ℓ) : Prop :=
  True

def Pre_InRetRefIdeal (m : (ℓ : Loc Cert.InRetRefIdeal.nD Cert.InRetRefIdeal.τ Cert.InRetRefIdeal.sig) → Buf (Elt Ideal) ℓ) : Prop :=
  True

def Pre_InQ (m : (ℓ : Loc Cert.InQ.nD Cert.InQ.τ Cert.InQ.sig) → Buf (Elt Bits) ℓ) : Prop :=
  True

def Pre_InQIdeal (m : (ℓ : Loc Cert.InQIdeal.nD Cert.InQIdeal.τ Cert.InQIdeal.sig) → Buf (Elt Ideal) ℓ) : Prop :=
  True

def Pre_InQRefIdeal (m : (ℓ : Loc Cert.InQRefIdeal.nD Cert.InQRefIdeal.τ Cert.InQRefIdeal.sig) → Buf (Elt Ideal) ℓ) : Prop :=
  True

def Pre_InKv (m : (ℓ : Loc Cert.InKv.nD Cert.InKv.τ Cert.InKv.sig) → Buf (Elt Bits) ℓ) : Prop :=
  True

def Pre_InKvIdeal (m : (ℓ : Loc Cert.InKvIdeal.nD Cert.InKvIdeal.τ Cert.InKvIdeal.sig) → Buf (Elt Ideal) ℓ) : Prop :=
  True

def Pre_InKvRefIdeal (m : (ℓ : Loc Cert.InKvRefIdeal.nD Cert.InKvRefIdeal.τ Cert.InKvRefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaRefIdeal (m : (ℓ : Loc Cert.MobaRefIdeal.nD Cert.MobaRefIdeal.τ Cert.MobaRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_InRet [hInRet : Cert.InRet.Facts] : Prop :=
  ∀ (m : (ℓ : Loc Cert.InRet.nD Cert.InRet.τ Cert.InRet.sig) → Buf (Elt Bits) ℓ) (g : Dev Cert.InRet.nD → PrngReg), Pre_InRet m →
    θ_run (Cert.InRet.defs (F := Bits)) (onTc (τ := Cert.InRet.τ) (Cert.InRet.main (F := Bits))) ⟨m, fun _ => 0, g⟩ (fun r => (∀ c : Dev Cert.InRet.nD,
      r.2.mem ((c.tc : Thread Cert.InRet.nD Cert.InRet.τ).loc Cert.InRet.main_arg0) = m ((c.tc : Thread Cert.InRet.nD Cert.InRet.τ).loc Cert.InRet.main_arg0)
      ∧ r.2.mem ((c.tc : Thread Cert.InRet.nD Cert.InRet.τ).loc Cert.InRet.main_arg1) = m ((c.tc : Thread Cert.InRet.nD Cert.InRet.τ).loc Cert.InRet.main_arg1))
      ∧ r.2.sem = fun _ => 0)

def quiescent_InRetIdeal [hInRetIdeal : Cert.InRetIdeal.Facts] : Prop :=
  ∀ (m : (ℓ : Loc Cert.InRetIdeal.nD Cert.InRetIdeal.τ Cert.InRetIdeal.sig) → Buf (Elt Ideal) ℓ) (g : Dev Cert.InRetIdeal.nD → PrngReg), Pre_InRetIdeal m →
    θ_run (Cert.InRetIdeal.defs (F := Ideal)) (onTc (τ := Cert.InRetIdeal.τ) (Cert.InRetIdeal.main (F := Ideal))) ⟨m, fun _ => 0, g⟩ (fun r => (∀ c : Dev Cert.InRetIdeal.nD,
      r.2.mem ((c.tc : Thread Cert.InRetIdeal.nD Cert.InRetIdeal.τ).loc Cert.InRetIdeal.main_arg0) = m ((c.tc : Thread Cert.InRetIdeal.nD Cert.InRetIdeal.τ).loc Cert.InRetIdeal.main_arg0)
      ∧ r.2.mem ((c.tc : Thread Cert.InRetIdeal.nD Cert.InRetIdeal.τ).loc Cert.InRetIdeal.main_arg1) = m ((c.tc : Thread Cert.InRetIdeal.nD Cert.InRetIdeal.τ).loc Cert.InRetIdeal.main_arg1))
      ∧ r.2.sem = fun _ => 0)

def quiescent_InRetRefIdeal [hInRetRefIdeal : Cert.InRetRefIdeal.Facts] : Prop :=
  ∀ (m : (ℓ : Loc Cert.InRetRefIdeal.nD Cert.InRetRefIdeal.τ Cert.InRetRefIdeal.sig) → Buf (Elt Ideal) ℓ) (g : Dev Cert.InRetRefIdeal.nD → PrngReg), Pre_InRetRefIdeal m →
    θ_run (Cert.InRetRefIdeal.defs (F := Ideal)) (onTc (τ := Cert.InRetRefIdeal.τ) (Cert.InRetRefIdeal.main (F := Ideal))) ⟨m, fun _ => 0, g⟩ (fun r => (∀ c : Dev Cert.InRetRefIdeal.nD,
      r.2.mem ((c.tc : Thread Cert.InRetRefIdeal.nD Cert.InRetRefIdeal.τ).loc Cert.InRetRefIdeal.main_arg0) = m ((c.tc : Thread Cert.InRetRefIdeal.nD Cert.InRetRefIdeal.τ).loc Cert.InRetRefIdeal.main_arg0)
      ∧ r.2.mem ((c.tc : Thread Cert.InRetRefIdeal.nD Cert.InRetRefIdeal.τ).loc Cert.InRetRefIdeal.main_arg1) = m ((c.tc : Thread Cert.InRetRefIdeal.nD Cert.InRetRefIdeal.τ).loc Cert.InRetRefIdeal.main_arg1))
      ∧ r.2.sem = fun _ => 0)

def quiescent_InQ [hInQ : Cert.InQ.Facts] : Prop :=
  ∀ (m : (ℓ : Loc Cert.InQ.nD Cert.InQ.τ Cert.InQ.sig) → Buf (Elt Bits) ℓ) (g : Dev Cert.InQ.nD → PrngReg), Pre_InQ m →
    θ_run (Cert.InQ.defs (F := Bits)) (onTc (τ := Cert.InQ.τ) (Cert.InQ.main (F := Bits))) ⟨m, fun _ => 0, g⟩ (fun r => (∀ c : Dev Cert.InQ.nD,
      r.2.mem ((c.tc : Thread Cert.InQ.nD Cert.InQ.τ).loc Cert.InQ.main_arg0) = m ((c.tc : Thread Cert.InQ.nD Cert.InQ.τ).loc Cert.InQ.main_arg0)
      ∧ r.2.mem ((c.tc : Thread Cert.InQ.nD Cert.InQ.τ).loc Cert.InQ.main_arg1) = m ((c.tc : Thread Cert.InQ.nD Cert.InQ.τ).loc Cert.InQ.main_arg1))
      ∧ r.2.sem = fun _ => 0)

def quiescent_InQIdeal [hInQIdeal : Cert.InQIdeal.Facts] : Prop :=
  ∀ (m : (ℓ : Loc Cert.InQIdeal.nD Cert.InQIdeal.τ Cert.InQIdeal.sig) → Buf (Elt Ideal) ℓ) (g : Dev Cert.InQIdeal.nD → PrngReg), Pre_InQIdeal m →
    θ_run (Cert.InQIdeal.defs (F := Ideal)) (onTc (τ := Cert.InQIdeal.τ) (Cert.InQIdeal.main (F := Ideal))) ⟨m, fun _ => 0, g⟩ (fun r => (∀ c : Dev Cert.InQIdeal.nD,
      r.2.mem ((c.tc : Thread Cert.InQIdeal.nD Cert.InQIdeal.τ).loc Cert.InQIdeal.main_arg0) = m ((c.tc : Thread Cert.InQIdeal.nD Cert.InQIdeal.τ).loc Cert.InQIdeal.main_arg0)
      ∧ r.2.mem ((c.tc : Thread Cert.InQIdeal.nD Cert.InQIdeal.τ).loc Cert.InQIdeal.main_arg1) = m ((c.tc : Thread Cert.InQIdeal.nD Cert.InQIdeal.τ).loc Cert.InQIdeal.main_arg1))
      ∧ r.2.sem = fun _ => 0)

def quiescent_InQRefIdeal [hInQRefIdeal : Cert.InQRefIdeal.Facts] : Prop :=
  ∀ (m : (ℓ : Loc Cert.InQRefIdeal.nD Cert.InQRefIdeal.τ Cert.InQRefIdeal.sig) → Buf (Elt Ideal) ℓ) (g : Dev Cert.InQRefIdeal.nD → PrngReg), Pre_InQRefIdeal m →
    θ_run (Cert.InQRefIdeal.defs (F := Ideal)) (onTc (τ := Cert.InQRefIdeal.τ) (Cert.InQRefIdeal.main (F := Ideal))) ⟨m, fun _ => 0, g⟩ (fun r => (∀ c : Dev Cert.InQRefIdeal.nD,
      r.2.mem ((c.tc : Thread Cert.InQRefIdeal.nD Cert.InQRefIdeal.τ).loc Cert.InQRefIdeal.main_arg0) = m ((c.tc : Thread Cert.InQRefIdeal.nD Cert.InQRefIdeal.τ).loc Cert.InQRefIdeal.main_arg0)
      ∧ r.2.mem ((c.tc : Thread Cert.InQRefIdeal.nD Cert.InQRefIdeal.τ).loc Cert.InQRefIdeal.main_arg1) = m ((c.tc : Thread Cert.InQRefIdeal.nD Cert.InQRefIdeal.τ).loc Cert.InQRefIdeal.main_arg1))
      ∧ r.2.sem = fun _ => 0)

def quiescent_InKv [hInKv : Cert.InKv.Facts] : Prop :=
  ∀ (m : (ℓ : Loc Cert.InKv.nD Cert.InKv.τ Cert.InKv.sig) → Buf (Elt Bits) ℓ) (g : Dev Cert.InKv.nD → PrngReg), Pre_InKv m →
    θ_run (Cert.InKv.defs (F := Bits)) (onTc (τ := Cert.InKv.τ) (Cert.InKv.main (F := Bits))) ⟨m, fun _ => 0, g⟩ (fun r => (∀ c : Dev Cert.InKv.nD,
      r.2.mem ((c.tc : Thread Cert.InKv.nD Cert.InKv.τ).loc Cert.InKv.main_arg0) = m ((c.tc : Thread Cert.InKv.nD Cert.InKv.τ).loc Cert.InKv.main_arg0)
      ∧ r.2.mem ((c.tc : Thread Cert.InKv.nD Cert.InKv.τ).loc Cert.InKv.main_arg1) = m ((c.tc : Thread Cert.InKv.nD Cert.InKv.τ).loc Cert.InKv.main_arg1))
      ∧ r.2.sem = fun _ => 0)

def quiescent_InKvIdeal [hInKvIdeal : Cert.InKvIdeal.Facts] : Prop :=
  ∀ (m : (ℓ : Loc Cert.InKvIdeal.nD Cert.InKvIdeal.τ Cert.InKvIdeal.sig) → Buf (Elt Ideal) ℓ) (g : Dev Cert.InKvIdeal.nD → PrngReg), Pre_InKvIdeal m →
    θ_run (Cert.InKvIdeal.defs (F := Ideal)) (onTc (τ := Cert.InKvIdeal.τ) (Cert.InKvIdeal.main (F := Ideal))) ⟨m, fun _ => 0, g⟩ (fun r => (∀ c : Dev Cert.InKvIdeal.nD,
      r.2.mem ((c.tc : Thread Cert.InKvIdeal.nD Cert.InKvIdeal.τ).loc Cert.InKvIdeal.main_arg0) = m ((c.tc : Thread Cert.InKvIdeal.nD Cert.InKvIdeal.τ).loc Cert.InKvIdeal.main_arg0)
      ∧ r.2.mem ((c.tc : Thread Cert.InKvIdeal.nD Cert.InKvIdeal.τ).loc Cert.InKvIdeal.main_arg1) = m ((c.tc : Thread Cert.InKvIdeal.nD Cert.InKvIdeal.τ).loc Cert.InKvIdeal.main_arg1))
      ∧ r.2.sem = fun _ => 0)

def quiescent_InKvRefIdeal [hInKvRefIdeal : Cert.InKvRefIdeal.Facts] : Prop :=
  ∀ (m : (ℓ : Loc Cert.InKvRefIdeal.nD Cert.InKvRefIdeal.τ Cert.InKvRefIdeal.sig) → Buf (Elt Ideal) ℓ) (g : Dev Cert.InKvRefIdeal.nD → PrngReg), Pre_InKvRefIdeal m →
    θ_run (Cert.InKvRefIdeal.defs (F := Ideal)) (onTc (τ := Cert.InKvRefIdeal.τ) (Cert.InKvRefIdeal.main (F := Ideal))) ⟨m, fun _ => 0, g⟩ (fun r => (∀ c : Dev Cert.InKvRefIdeal.nD,
      r.2.mem ((c.tc : Thread Cert.InKvRefIdeal.nD Cert.InKvRefIdeal.τ).loc Cert.InKvRefIdeal.main_arg0) = m ((c.tc : Thread Cert.InKvRefIdeal.nD Cert.InKvRefIdeal.τ).loc Cert.InKvRefIdeal.main_arg0)
      ∧ r.2.mem ((c.tc : Thread Cert.InKvRefIdeal.nD Cert.InKvRefIdeal.τ).loc Cert.InKvRefIdeal.main_arg1) = m ((c.tc : Thread Cert.InKvRefIdeal.nD Cert.InKvRefIdeal.τ).loc Cert.InKvRefIdeal.main_arg1))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3)
      ∧ r.2.mem ((c.tc : Thread Cert.Out0.nD Cert.Out0.τ).loc Cert.Out0.main_arg4) = m ((c.tc : Thread Cert.Out0.nD Cert.Out0.τ).loc Cert.Out0.main_arg4))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
      ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3)
      ∧ r.2.mem ((c.tc : Thread Cert.Out0RefIdeal.nD Cert.Out0RefIdeal.τ).loc Cert.Out0RefIdeal.main_arg4) = m ((c.tc : Thread Cert.Out0RefIdeal.nD Cert.Out0RefIdeal.τ).loc Cert.Out0RefIdeal.main_arg4))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3)
      ∧ r.2.mem ((c.tc : Thread Cert.Moba.nD Cert.Moba.τ).loc Cert.Moba.main_arg4) = m ((c.tc : Thread Cert.Moba.nD Cert.Moba.τ).loc Cert.Moba.main_arg4)
      ∧ r.2.mem ((c.tc : Thread Cert.Moba.nD Cert.Moba.τ).loc Cert.Moba.main_arg5) = m ((c.tc : Thread Cert.Moba.nD Cert.Moba.τ).loc Cert.Moba.main_arg5)
      ∧ r.2.mem ((c.tc : Thread Cert.Moba.nD Cert.Moba.τ).loc Cert.Moba.main_arg6) = m ((c.tc : Thread Cert.Moba.nD Cert.Moba.τ).loc Cert.Moba.main_arg6)
      ∧ r.2.mem ((c.tc : Thread Cert.Moba.nD Cert.Moba.τ).loc Cert.Moba.main_arg7) = m ((c.tc : Thread Cert.Moba.nD Cert.Moba.τ).loc Cert.Moba.main_arg7)
      ∧ r.2.mem ((c.tc : Thread Cert.Moba.nD Cert.Moba.τ).loc Cert.Moba.main_arg8) = m ((c.tc : Thread Cert.Moba.nD Cert.Moba.τ).loc Cert.Moba.main_arg8))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3)
      ∧ r.2.mem ((c.tc : Thread Cert.MobaIdeal.nD Cert.MobaIdeal.τ).loc Cert.MobaIdeal.main_arg4) = m ((c.tc : Thread Cert.MobaIdeal.nD Cert.MobaIdeal.τ).loc Cert.MobaIdeal.main_arg4)
      ∧ r.2.mem ((c.tc : Thread Cert.MobaIdeal.nD Cert.MobaIdeal.τ).loc Cert.MobaIdeal.main_arg5) = m ((c.tc : Thread Cert.MobaIdeal.nD Cert.MobaIdeal.τ).loc Cert.MobaIdeal.main_arg5)
      ∧ r.2.mem ((c.tc : Thread Cert.MobaIdeal.nD Cert.MobaIdeal.τ).loc Cert.MobaIdeal.main_arg6) = m ((c.tc : Thread Cert.MobaIdeal.nD Cert.MobaIdeal.τ).loc Cert.MobaIdeal.main_arg6)
      ∧ r.2.mem ((c.tc : Thread Cert.MobaIdeal.nD Cert.MobaIdeal.τ).loc Cert.MobaIdeal.main_arg7) = m ((c.tc : Thread Cert.MobaIdeal.nD Cert.MobaIdeal.τ).loc Cert.MobaIdeal.main_arg7)
      ∧ r.2.mem ((c.tc : Thread Cert.MobaIdeal.nD Cert.MobaIdeal.τ).loc Cert.MobaIdeal.main_arg8) = m ((c.tc : Thread Cert.MobaIdeal.nD Cert.MobaIdeal.τ).loc Cert.MobaIdeal.main_arg8))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2)
      ∧ r.2.mem ((c.tc : Thread Cert.MobaRefIdeal.nD Cert.MobaRefIdeal.τ).loc Cert.MobaRefIdeal.main_arg3) = m ((c.tc : Thread Cert.MobaRefIdeal.nD Cert.MobaRefIdeal.τ).loc Cert.MobaRefIdeal.main_arg3)
      ∧ r.2.mem ((c.tc : Thread Cert.MobaRefIdeal.nD Cert.MobaRefIdeal.τ).loc Cert.MobaRefIdeal.main_arg4) = m ((c.tc : Thread Cert.MobaRefIdeal.nD Cert.MobaRefIdeal.τ).loc Cert.MobaRefIdeal.main_arg4)
      ∧ r.2.mem ((c.tc : Thread Cert.MobaRefIdeal.nD Cert.MobaRefIdeal.τ).loc Cert.MobaRefIdeal.main_arg5) = m ((c.tc : Thread Cert.MobaRefIdeal.nD Cert.MobaRefIdeal.τ).loc Cert.MobaRefIdeal.main_arg5)
      ∧ r.2.mem ((c.tc : Thread Cert.MobaRefIdeal.nD Cert.MobaRefIdeal.τ).loc Cert.MobaRefIdeal.main_arg6) = m ((c.tc : Thread Cert.MobaRefIdeal.nD Cert.MobaRefIdeal.τ).loc Cert.MobaRefIdeal.main_arg6)
      ∧ r.2.mem ((c.tc : Thread Cert.MobaRefIdeal.nD Cert.MobaRefIdeal.τ).loc Cert.MobaRefIdeal.main_arg7) = m ((c.tc : Thread Cert.MobaRefIdeal.nD Cert.MobaRefIdeal.τ).loc Cert.MobaRefIdeal.main_arg7)
      ∧ r.2.mem ((c.tc : Thread Cert.MobaRefIdeal.nD Cert.MobaRefIdeal.τ).loc Cert.MobaRefIdeal.main_arg8) = m ((c.tc : Thread Cert.MobaRefIdeal.nD Cert.MobaRefIdeal.τ).loc Cert.MobaRefIdeal.main_arg8))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v18_0)) (v1 : (c : Dev Cert.RetIdeal.nD) → Buf (Elt Ideal) ((c.tc : Thread Cert.RetIdeal.nD Cert.RetIdeal.τ).loc Cert.RetIdeal.main_v18_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v18_0) = v0 c
          ∧ r.2.mem ((c.tc : Thread Cert.RetIdeal.nD Cert.RetIdeal.τ).loc Cert.RetIdeal.main_v18_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v102) = v0 c
          ∧ r.2.mem ((c.tc : Thread Cert.RetRefIdeal.nD Cert.RetRefIdeal.τ).loc Cert.RetRefIdeal.main_v100) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v27) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_InRet_InRetIdeal : Prop :=
  True

def algebraic_InRetIdeal_InRetRefIdeal [hInRetIdeal : Cert.InRetIdeal.Facts] [hInRetRefIdeal : Cert.InRetRefIdeal.Facts] : Prop :=
  ∀ (m : (ℓ : Loc Cert.InRetIdeal.nD Cert.InRetIdeal.τ Cert.InRetIdeal.sig) → Buf (Elt Ideal) ℓ) (g : Dev Cert.InRetIdeal.nD → PrngReg)
    (m' : (ℓ : Loc Cert.InRetRefIdeal.nD Cert.InRetRefIdeal.τ Cert.InRetRefIdeal.sig) → Buf (Elt Ideal) ℓ) (g' : Dev Cert.InRetRefIdeal.nD → PrngReg), Pre_InRetIdeal m →
    (∀ c : Dev Cert.InRetIdeal.nD,
      m' ((c.tc : Thread Cert.InRetRefIdeal.nD Cert.InRetRefIdeal.τ).loc Cert.InRetRefIdeal.main_arg0) = m ((c.tc : Thread Cert.InRetIdeal.nD Cert.InRetIdeal.τ).loc Cert.InRetIdeal.main_arg0)
      ∧ m' ((c.tc : Thread Cert.InRetRefIdeal.nD Cert.InRetRefIdeal.τ).loc Cert.InRetRefIdeal.main_arg1) = m ((c.tc : Thread Cert.InRetIdeal.nD Cert.InRetIdeal.τ).loc Cert.InRetIdeal.main_arg1)) →
    ∃ (v0 : (c : Dev Cert.InRetIdeal.nD) → Buf (Elt Ideal) ((c.tc : Thread Cert.InRetIdeal.nD Cert.InRetIdeal.τ).loc Cert.InRetIdeal.main_v0)),
      θ_run (Cert.InRetIdeal.defs (F := Ideal)) (onTc (τ := Cert.InRetIdeal.τ) (Cert.InRetIdeal.main (F := Ideal))) ⟨m, fun _ => 0, g⟩ (fun r => ∀ c : Dev Cert.InRetIdeal.nD,
          r.2.mem ((c.tc : Thread Cert.InRetIdeal.nD Cert.InRetIdeal.τ).loc Cert.InRetIdeal.main_v0) = v0 c
          ∧ r.2.mem ((c.tc : Thread Cert.InRetIdeal.nD Cert.InRetIdeal.τ).loc Cert.InRetIdeal.main_arg0) = m ((c.tc : Thread Cert.InRetIdeal.nD Cert.InRetIdeal.τ).loc Cert.InRetIdeal.main_arg0)
          ∧ r.2.mem ((c.tc : Thread Cert.InRetIdeal.nD Cert.InRetIdeal.τ).loc Cert.InRetIdeal.main_arg1) = m ((c.tc : Thread Cert.InRetIdeal.nD Cert.InRetIdeal.τ).loc Cert.InRetIdeal.main_arg1))
      ∧ θ_run (Cert.InRetRefIdeal.defs (F := Ideal)) (onTc (τ := Cert.InRetRefIdeal.τ) (Cert.InRetRefIdeal.main (F := Ideal))) ⟨m', fun _ => 0, g'⟩ (fun r => ∀ c : Dev Cert.InRetRefIdeal.nD,
          r.2.mem ((c.tc : Thread Cert.InRetRefIdeal.nD Cert.InRetRefIdeal.τ).loc Cert.InRetRefIdeal.main_v3) = v0 c
          ∧ r.2.mem ((c.tc : Thread Cert.InRetRefIdeal.nD Cert.InRetRefIdeal.τ).loc Cert.InRetRefIdeal.main_arg0) = m' ((c.tc : Thread Cert.InRetRefIdeal.nD Cert.InRetRefIdeal.τ).loc Cert.InRetRefIdeal.main_arg0)
          ∧ r.2.mem ((c.tc : Thread Cert.InRetRefIdeal.nD Cert.InRetRefIdeal.τ).loc Cert.InRetRefIdeal.main_arg1) = m' ((c.tc : Thread Cert.InRetRefIdeal.nD Cert.InRetRefIdeal.τ).loc Cert.InRetRefIdeal.main_arg1))

def preserves_InQ_InQIdeal : Prop :=
  True

def algebraic_InQIdeal_InQRefIdeal [hInQIdeal : Cert.InQIdeal.Facts] [hInQRefIdeal : Cert.InQRefIdeal.Facts] : Prop :=
  ∀ (m : (ℓ : Loc Cert.InQIdeal.nD Cert.InQIdeal.τ Cert.InQIdeal.sig) → Buf (Elt Ideal) ℓ) (g : Dev Cert.InQIdeal.nD → PrngReg)
    (m' : (ℓ : Loc Cert.InQRefIdeal.nD Cert.InQRefIdeal.τ Cert.InQRefIdeal.sig) → Buf (Elt Ideal) ℓ) (g' : Dev Cert.InQRefIdeal.nD → PrngReg), Pre_InQIdeal m →
    (∀ c : Dev Cert.InQIdeal.nD,
      m' ((c.tc : Thread Cert.InQRefIdeal.nD Cert.InQRefIdeal.τ).loc Cert.InQRefIdeal.main_arg0) = m ((c.tc : Thread Cert.InQIdeal.nD Cert.InQIdeal.τ).loc Cert.InQIdeal.main_arg0)
      ∧ m' ((c.tc : Thread Cert.InQRefIdeal.nD Cert.InQRefIdeal.τ).loc Cert.InQRefIdeal.main_arg1) = m ((c.tc : Thread Cert.InQIdeal.nD Cert.InQIdeal.τ).loc Cert.InQIdeal.main_arg1)) →
    ∃ (v0 : (c : Dev Cert.InQIdeal.nD) → Buf (Elt Ideal) ((c.tc : Thread Cert.InQIdeal.nD Cert.InQIdeal.τ).loc Cert.InQIdeal.main_v0)),
      θ_run (Cert.InQIdeal.defs (F := Ideal)) (onTc (τ := Cert.InQIdeal.τ) (Cert.InQIdeal.main (F := Ideal))) ⟨m, fun _ => 0, g⟩ (fun r => ∀ c : Dev Cert.InQIdeal.nD,
          r.2.mem ((c.tc : Thread Cert.InQIdeal.nD Cert.InQIdeal.τ).loc Cert.InQIdeal.main_v0) = v0 c
          ∧ r.2.mem ((c.tc : Thread Cert.InQIdeal.nD Cert.InQIdeal.τ).loc Cert.InQIdeal.main_arg0) = m ((c.tc : Thread Cert.InQIdeal.nD Cert.InQIdeal.τ).loc Cert.InQIdeal.main_arg0)
          ∧ r.2.mem ((c.tc : Thread Cert.InQIdeal.nD Cert.InQIdeal.τ).loc Cert.InQIdeal.main_arg1) = m ((c.tc : Thread Cert.InQIdeal.nD Cert.InQIdeal.τ).loc Cert.InQIdeal.main_arg1))
      ∧ θ_run (Cert.InQRefIdeal.defs (F := Ideal)) (onTc (τ := Cert.InQRefIdeal.τ) (Cert.InQRefIdeal.main (F := Ideal))) ⟨m', fun _ => 0, g'⟩ (fun r => ∀ c : Dev Cert.InQRefIdeal.nD,
          r.2.mem ((c.tc : Thread Cert.InQRefIdeal.nD Cert.InQRefIdeal.τ).loc Cert.InQRefIdeal.main_v2) = v0 c
          ∧ r.2.mem ((c.tc : Thread Cert.InQRefIdeal.nD Cert.InQRefIdeal.τ).loc Cert.InQRefIdeal.main_arg0) = m' ((c.tc : Thread Cert.InQRefIdeal.nD Cert.InQRefIdeal.τ).loc Cert.InQRefIdeal.main_arg0)
          ∧ r.2.mem ((c.tc : Thread Cert.InQRefIdeal.nD Cert.InQRefIdeal.τ).loc Cert.InQRefIdeal.main_arg1) = m' ((c.tc : Thread Cert.InQRefIdeal.nD Cert.InQRefIdeal.τ).loc Cert.InQRefIdeal.main_arg1))

def preserves_InKv_InKvIdeal : Prop :=
  True

def algebraic_InKvIdeal_InKvRefIdeal [hInKvIdeal : Cert.InKvIdeal.Facts] [hInKvRefIdeal : Cert.InKvRefIdeal.Facts] : Prop :=
  ∀ (m : (ℓ : Loc Cert.InKvIdeal.nD Cert.InKvIdeal.τ Cert.InKvIdeal.sig) → Buf (Elt Ideal) ℓ) (g : Dev Cert.InKvIdeal.nD → PrngReg)
    (m' : (ℓ : Loc Cert.InKvRefIdeal.nD Cert.InKvRefIdeal.τ Cert.InKvRefIdeal.sig) → Buf (Elt Ideal) ℓ) (g' : Dev Cert.InKvRefIdeal.nD → PrngReg), Pre_InKvIdeal m →
    (∀ c : Dev Cert.InKvIdeal.nD,
      m' ((c.tc : Thread Cert.InKvRefIdeal.nD Cert.InKvRefIdeal.τ).loc Cert.InKvRefIdeal.main_arg0) = m ((c.tc : Thread Cert.InKvIdeal.nD Cert.InKvIdeal.τ).loc Cert.InKvIdeal.main_arg0)
      ∧ m' ((c.tc : Thread Cert.InKvRefIdeal.nD Cert.InKvRefIdeal.τ).loc Cert.InKvRefIdeal.main_arg1) = m ((c.tc : Thread Cert.InKvIdeal.nD Cert.InKvIdeal.τ).loc Cert.InKvIdeal.main_arg1)) →
    ∃ (v0 : (c : Dev Cert.InKvIdeal.nD) → Buf (Elt Ideal) ((c.tc : Thread Cert.InKvIdeal.nD Cert.InKvIdeal.τ).loc Cert.InKvIdeal.main_v0)),
      θ_run (Cert.InKvIdeal.defs (F := Ideal)) (onTc (τ := Cert.InKvIdeal.τ) (Cert.InKvIdeal.main (F := Ideal))) ⟨m, fun _ => 0, g⟩ (fun r => ∀ c : Dev Cert.InKvIdeal.nD,
          r.2.mem ((c.tc : Thread Cert.InKvIdeal.nD Cert.InKvIdeal.τ).loc Cert.InKvIdeal.main_v0) = v0 c
          ∧ r.2.mem ((c.tc : Thread Cert.InKvIdeal.nD Cert.InKvIdeal.τ).loc Cert.InKvIdeal.main_arg0) = m ((c.tc : Thread Cert.InKvIdeal.nD Cert.InKvIdeal.τ).loc Cert.InKvIdeal.main_arg0)
          ∧ r.2.mem ((c.tc : Thread Cert.InKvIdeal.nD Cert.InKvIdeal.τ).loc Cert.InKvIdeal.main_arg1) = m ((c.tc : Thread Cert.InKvIdeal.nD Cert.InKvIdeal.τ).loc Cert.InKvIdeal.main_arg1))
      ∧ θ_run (Cert.InKvRefIdeal.defs (F := Ideal)) (onTc (τ := Cert.InKvRefIdeal.τ) (Cert.InKvRefIdeal.main (F := Ideal))) ⟨m', fun _ => 0, g'⟩ (fun r => ∀ c : Dev Cert.InKvRefIdeal.nD,
          r.2.mem ((c.tc : Thread Cert.InKvRefIdeal.nD Cert.InKvRefIdeal.τ).loc Cert.InKvRefIdeal.main_v3) = v0 c
          ∧ r.2.mem ((c.tc : Thread Cert.InKvRefIdeal.nD Cert.InKvRefIdeal.τ).loc Cert.InKvRefIdeal.main_arg0) = m' ((c.tc : Thread Cert.InKvRefIdeal.nD Cert.InKvRefIdeal.τ).loc Cert.InKvRefIdeal.main_arg0)
          ∧ r.2.mem ((c.tc : Thread Cert.InKvRefIdeal.nD Cert.InKvRefIdeal.τ).loc Cert.InKvRefIdeal.main_arg1) = m' ((c.tc : Thread Cert.InKvRefIdeal.nD Cert.InKvRefIdeal.τ).loc Cert.InKvRefIdeal.main_arg1))

def preserves_Out0_Out0Ideal : Prop :=
  True

def algebraic_Out0Ideal_Out0RefIdeal [hOut0Ideal : Cert.Out0Ideal.Facts] [hOut0RefIdeal : Cert.Out0RefIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)
      ∧ m' ((c.tc : Thread Cert.Out0RefIdeal.nD Cert.Out0RefIdeal.τ).loc Cert.Out0RefIdeal.main_arg2) = m ((c.tc : Thread Cert.Out0Ideal.nD Cert.Out0Ideal.τ).loc Cert.Out0Ideal.main_arg2)
      ∧ m' ((c.tc : Thread Cert.Out0RefIdeal.nD Cert.Out0RefIdeal.τ).loc Cert.Out0RefIdeal.main_arg3) = m ((c.tc : Thread Cert.Out0Ideal.nD Cert.Out0Ideal.τ).loc Cert.Out0Ideal.main_arg3)
      ∧ m' ((c.tc : Thread Cert.Out0RefIdeal.nD Cert.Out0RefIdeal.τ).loc Cert.Out0RefIdeal.main_arg4) = m ((c.tc : Thread Cert.Out0Ideal.nD Cert.Out0Ideal.τ).loc Cert.Out0Ideal.main_arg4)) →
    ∃ (v0 : (c : Dev Cert.Out0Ideal.nD) → Buf (Elt Ideal) ((c.tc : Thread Cert.Out0Ideal.nD Cert.Out0Ideal.τ).loc Cert.Out0Ideal.main_v0)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v0) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3)
          ∧ r.2.mem ((c.tc : Thread Cert.Out0Ideal.nD Cert.Out0Ideal.τ).loc Cert.Out0Ideal.main_arg4) = m ((c.tc : Thread Cert.Out0Ideal.nD Cert.Out0Ideal.τ).loc Cert.Out0Ideal.main_arg4))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          r.2.mem ((c.tc : Thread Cert.Out0RefIdeal.nD Cert.Out0RefIdeal.τ).loc Cert.Out0RefIdeal.main_v6) = v0 c
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1)
          ∧ r.2.mem ((c.tc : Thread Cert.Out0RefIdeal.nD Cert.Out0RefIdeal.τ).loc Cert.Out0RefIdeal.main_arg2) = m' ((c.tc : Thread Cert.Out0RefIdeal.nD Cert.Out0RefIdeal.τ).loc Cert.Out0RefIdeal.main_arg2)
          ∧ r.2.mem ((c.tc : Thread Cert.Out0RefIdeal.nD Cert.Out0RefIdeal.τ).loc Cert.Out0RefIdeal.main_arg3) = m' ((c.tc : Thread Cert.Out0RefIdeal.nD Cert.Out0RefIdeal.τ).loc Cert.Out0RefIdeal.main_arg3)
          ∧ r.2.mem ((c.tc : Thread Cert.Out0RefIdeal.nD Cert.Out0RefIdeal.τ).loc Cert.Out0RefIdeal.main_arg4) = m' ((c.tc : Thread Cert.Out0RefIdeal.nD Cert.Out0RefIdeal.τ).loc Cert.Out0RefIdeal.main_arg4))

def preserves_Out1_Out1Ideal : Prop :=
  True

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)) →
    ∃ (v0 : (c : Dev Cert.Out1Ideal.nD) → Buf (Elt Ideal) ((c.tc : Thread Cert.Out1Ideal.nD Cert.Out1Ideal.τ).loc Cert.Out1Ideal.main_v0)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v0) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v4) = v0 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v19) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v2_0)) (v1 : (c : Dev Cert.ModIdeal.nD) → Buf (Elt Ideal) ((c.tc : Thread Cert.ModIdeal.nD Cert.ModIdeal.τ).loc Cert.ModIdeal.main_v2_1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2_0) = v0 c
          ∧ r.2.mem ((c.tc : Thread Cert.ModIdeal.nD Cert.ModIdeal.τ).loc Cert.ModIdeal.main_v2_1) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v3) = v0 c
          ∧ r.2.mem ((c.tc : Thread Cert.ModRefIdeal.nD Cert.ModRefIdeal.τ).loc Cert.ModRefIdeal.main_v5) = v1 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Moba_MobaIdeal : Prop :=
  True

def algebraic_MobaIdeal_MobaRefIdeal [hMobaIdeal : Cert.MobaIdeal.Facts] [hMobaRefIdeal : Cert.MobaRefIdeal.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)
      ∧ m' ((c.tc : Thread Cert.MobaRefIdeal.nD Cert.MobaRefIdeal.τ).loc Cert.MobaRefIdeal.main_arg3) = m ((c.tc : Thread Cert.MobaIdeal.nD Cert.MobaIdeal.τ).loc Cert.MobaIdeal.main_arg3)
      ∧ m' ((c.tc : Thread Cert.MobaRefIdeal.nD Cert.MobaRefIdeal.τ).loc Cert.MobaRefIdeal.main_arg4) = m ((c.tc : Thread Cert.MobaIdeal.nD Cert.MobaIdeal.τ).loc Cert.MobaIdeal.main_arg4)
      ∧ m' ((c.tc : Thread Cert.MobaRefIdeal.nD Cert.MobaRefIdeal.τ).loc Cert.MobaRefIdeal.main_arg5) = m ((c.tc : Thread Cert.MobaIdeal.nD Cert.MobaIdeal.τ).loc Cert.MobaIdeal.main_arg5)
      ∧ m' ((c.tc : Thread Cert.MobaRefIdeal.nD Cert.MobaRefIdeal.τ).loc Cert.MobaRefIdeal.main_arg6) = m ((c.tc : Thread Cert.MobaIdeal.nD Cert.MobaIdeal.τ).loc Cert.MobaIdeal.main_arg6)
      ∧ m' ((c.tc : Thread Cert.MobaRefIdeal.nD Cert.MobaRefIdeal.τ).loc Cert.MobaRefIdeal.main_arg7) = m ((c.tc : Thread Cert.MobaIdeal.nD Cert.MobaIdeal.τ).loc Cert.MobaIdeal.main_arg7)
      ∧ m' ((c.tc : Thread Cert.MobaRefIdeal.nD Cert.MobaRefIdeal.τ).loc Cert.MobaRefIdeal.main_arg8) = m ((c.tc : Thread Cert.MobaIdeal.nD Cert.MobaIdeal.τ).loc Cert.MobaIdeal.main_arg8)) →
    ∃ (v0 : (c : Dev Cert.MobaIdeal.nD) → Buf (Elt Ideal) ((c.tc : Thread Cert.MobaIdeal.nD Cert.MobaIdeal.τ).loc Cert.MobaIdeal.main_v21_1)) (v1 : (c : Dev Cert.MobaIdeal.nD) → Buf (Elt Ideal) ((c.tc : Thread Cert.MobaIdeal.nD Cert.MobaIdeal.τ).loc Cert.MobaIdeal.main_v21_2)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v21_1) = v0 c
          ∧ r.2.mem ((c.tc : Thread Cert.MobaIdeal.nD Cert.MobaIdeal.τ).loc Cert.MobaIdeal.main_v21_2) = v1 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
          ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3)
          ∧ r.2.mem ((c.tc : Thread Cert.MobaIdeal.nD Cert.MobaIdeal.τ).loc Cert.MobaIdeal.main_arg4) = m ((c.tc : Thread Cert.MobaIdeal.nD Cert.MobaIdeal.τ).loc Cert.MobaIdeal.main_arg4)
          ∧ r.2.mem ((c.tc : Thread Cert.MobaIdeal.nD Cert.MobaIdeal.τ).loc Cert.MobaIdeal.main_arg5) = m ((c.tc : Thread Cert.MobaIdeal.nD Cert.MobaIdeal.τ).loc Cert.MobaIdeal.main_arg5)
          ∧ r.2.mem ((c.tc : Thread Cert.MobaIdeal.nD Cert.MobaIdeal.τ).loc Cert.MobaIdeal.main_arg6) = m ((c.tc : Thread Cert.MobaIdeal.nD Cert.MobaIdeal.τ).loc Cert.MobaIdeal.main_arg6)
          ∧ r.2.mem ((c.tc : Thread Cert.MobaIdeal.nD Cert.MobaIdeal.τ).loc Cert.MobaIdeal.main_arg7) = m ((c.tc : Thread Cert.MobaIdeal.nD Cert.MobaIdeal.τ).loc Cert.MobaIdeal.main_arg7)
          ∧ r.2.mem ((c.tc : Thread Cert.MobaIdeal.nD Cert.MobaIdeal.τ).loc Cert.MobaIdeal.main_arg8) = m ((c.tc : Thread Cert.MobaIdeal.nD Cert.MobaIdeal.τ).loc Cert.MobaIdeal.main_arg8))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v0) = v0 c
          ∧ r.2.mem ((c.tc : Thread Cert.MobaRefIdeal.nD Cert.MobaRefIdeal.τ).loc Cert.MobaRefIdeal.main_v1) = v1 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2)
          ∧ r.2.mem ((c.tc : Thread Cert.MobaRefIdeal.nD Cert.MobaRefIdeal.τ).loc Cert.MobaRefIdeal.main_arg3) = m' ((c.tc : Thread Cert.MobaRefIdeal.nD Cert.MobaRefIdeal.τ).loc Cert.MobaRefIdeal.main_arg3)
          ∧ r.2.mem ((c.tc : Thread Cert.MobaRefIdeal.nD Cert.MobaRefIdeal.τ).loc Cert.MobaRefIdeal.main_arg4) = m' ((c.tc : Thread Cert.MobaRefIdeal.nD Cert.MobaRefIdeal.τ).loc Cert.MobaRefIdeal.main_arg4)
          ∧ r.2.mem ((c.tc : Thread Cert.MobaRefIdeal.nD Cert.MobaRefIdeal.τ).loc Cert.MobaRefIdeal.main_arg5) = m' ((c.tc : Thread Cert.MobaRefIdeal.nD Cert.MobaRefIdeal.τ).loc Cert.MobaRefIdeal.main_arg5)
          ∧ r.2.mem ((c.tc : Thread Cert.MobaRefIdeal.nD Cert.MobaRefIdeal.τ).loc Cert.MobaRefIdeal.main_arg6) = m' ((c.tc : Thread Cert.MobaRefIdeal.nD Cert.MobaRefIdeal.τ).loc Cert.MobaRefIdeal.main_arg6)
          ∧ r.2.mem ((c.tc : Thread Cert.MobaRefIdeal.nD Cert.MobaRefIdeal.τ).loc Cert.MobaRefIdeal.main_arg7) = m' ((c.tc : Thread Cert.MobaRefIdeal.nD Cert.MobaRefIdeal.τ).loc Cert.MobaRefIdeal.main_arg7)
          ∧ r.2.mem ((c.tc : Thread Cert.MobaRefIdeal.nD Cert.MobaRefIdeal.τ).loc Cert.MobaRefIdeal.main_arg8) = m' ((c.tc : Thread Cert.MobaRefIdeal.nD Cert.MobaRefIdeal.τ).loc Cert.MobaRefIdeal.main_arg8))

def Claim : Prop :=
  ∃ (hRet : Cert.Ret.Facts) (hRetIdeal : Cert.RetIdeal.Facts) (hRetRefIdeal : Cert.RetRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hConv : Cert.Conv.Facts) (hConvIdeal : Cert.ConvIdeal.Facts) (hConvRefIdeal : Cert.ConvRefIdeal.Facts) (hInRet : Cert.InRet.Facts) (hInRetIdeal : Cert.InRetIdeal.Facts) (hInRetRefIdeal : Cert.InRetRefIdeal.Facts) (hInQ : Cert.InQ.Facts) (hInQIdeal : Cert.InQIdeal.Facts) (hInQRefIdeal : Cert.InQRefIdeal.Facts) (hInKv : Cert.InKv.Facts) (hInKvIdeal : Cert.InKvIdeal.Facts) (hInKvRefIdeal : Cert.InKvRefIdeal.Facts) (hOut0 : Cert.Out0.Facts) (hOut0Ideal : Cert.Out0Ideal.Facts) (hOut0RefIdeal : Cert.Out0RefIdeal.Facts) (hOut1 : Cert.Out1.Facts) (hOut1Ideal : Cert.Out1Ideal.Facts) (hOut1RefIdeal : Cert.Out1RefIdeal.Facts) (hNorm : Cert.Norm.Facts) (hNormIdeal : Cert.NormIdeal.Facts) (hNormRefIdeal : Cert.NormRefIdeal.Facts) (hFinal : Cert.Final.Facts) (hFinalIdeal : Cert.FinalIdeal.Facts) (hFinalRefIdeal : Cert.FinalRefIdeal.Facts) (hMod : Cert.Mod.Facts) (hModIdeal : Cert.ModIdeal.Facts) (hModRefIdeal : Cert.ModRefIdeal.Facts) (hMoba : Cert.Moba.Facts) (hMobaIdeal : Cert.MobaIdeal.Facts) (hMobaRefIdeal : Cert.MobaRefIdeal.Facts),
    quiescent_Ret (hRet := hRet)
    ∧ quiescent_RetIdeal (hRetIdeal := hRetIdeal)
    ∧ quiescent_RetRefIdeal (hRetRefIdeal := hRetRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Conv (hConv := hConv)
    ∧ quiescent_ConvIdeal (hConvIdeal := hConvIdeal)
    ∧ quiescent_ConvRefIdeal (hConvRefIdeal := hConvRefIdeal)
    ∧ quiescent_InRet (hInRet := hInRet)
    ∧ quiescent_InRetIdeal (hInRetIdeal := hInRetIdeal)
    ∧ quiescent_InRetRefIdeal (hInRetRefIdeal := hInRetRefIdeal)
    ∧ quiescent_InQ (hInQ := hInQ)
    ∧ quiescent_InQIdeal (hInQIdeal := hInQIdeal)
    ∧ quiescent_InQRefIdeal (hInQRefIdeal := hInQRefIdeal)
    ∧ quiescent_InKv (hInKv := hInKv)
    ∧ quiescent_InKvIdeal (hInKvIdeal := hInKvIdeal)
    ∧ quiescent_InKvRefIdeal (hInKvRefIdeal := hInKvRefIdeal)
    ∧ quiescent_Out0 (hOut0 := hOut0)
    ∧ quiescent_Out0Ideal (hOut0Ideal := hOut0Ideal)
    ∧ quiescent_Out0RefIdeal (hOut0RefIdeal := hOut0RefIdeal)
    ∧ quiescent_Out1 (hOut1 := hOut1)
    ∧ quiescent_Out1Ideal (hOut1Ideal := hOut1Ideal)
    ∧ quiescent_Out1RefIdeal (hOut1RefIdeal := hOut1RefIdeal)
    ∧ quiescent_Norm (hNorm := hNorm)
    ∧ quiescent_NormIdeal (hNormIdeal := hNormIdeal)
    ∧ quiescent_NormRefIdeal (hNormRefIdeal := hNormRefIdeal)
    ∧ quiescent_Final (hFinal := hFinal)
    ∧ quiescent_FinalIdeal (hFinalIdeal := hFinalIdeal)
    ∧ quiescent_FinalRefIdeal (hFinalRefIdeal := hFinalRefIdeal)
    ∧ quiescent_Mod (hMod := hMod)
    ∧ quiescent_ModIdeal (hModIdeal := hModIdeal)
    ∧ quiescent_ModRefIdeal (hModRefIdeal := hModRefIdeal)
    ∧ quiescent_Moba (hMoba := hMoba)
    ∧ quiescent_MobaIdeal (hMobaIdeal := hMobaIdeal)
    ∧ quiescent_MobaRefIdeal (hMobaRefIdeal := hMobaRefIdeal)
    ∧ preserves_Ret_RetIdeal
    ∧ algebraic_RetIdeal_RetRefIdeal (hRetIdeal := hRetIdeal) (hRetRefIdeal := hRetRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Conv_ConvIdeal
    ∧ algebraic_ConvIdeal_ConvRefIdeal (hConvIdeal := hConvIdeal) (hConvRefIdeal := hConvRefIdeal)
    ∧ preserves_InRet_InRetIdeal
    ∧ algebraic_InRetIdeal_InRetRefIdeal (hInRetIdeal := hInRetIdeal) (hInRetRefIdeal := hInRetRefIdeal)
    ∧ preserves_InQ_InQIdeal
    ∧ algebraic_InQIdeal_InQRefIdeal (hInQIdeal := hInQIdeal) (hInQRefIdeal := hInQRefIdeal)
    ∧ preserves_InKv_InKvIdeal
    ∧ algebraic_InKvIdeal_InKvRefIdeal (hInKvIdeal := hInKvIdeal) (hInKvRefIdeal := hInKvRefIdeal)
    ∧ preserves_Out0_Out0Ideal
    ∧ algebraic_Out0Ideal_Out0RefIdeal (hOut0Ideal := hOut0Ideal) (hOut0RefIdeal := hOut0RefIdeal)
    ∧ preserves_Out1_Out1Ideal
    ∧ algebraic_Out1Ideal_Out1RefIdeal (hOut1Ideal := hOut1Ideal) (hOut1RefIdeal := hOut1RefIdeal)
    ∧ preserves_Norm_NormIdeal
    ∧ algebraic_NormIdeal_NormRefIdeal (hNormIdeal := hNormIdeal) (hNormRefIdeal := hNormRefIdeal)
    ∧ preserves_Final_FinalIdeal
    ∧ algebraic_FinalIdeal_FinalRefIdeal (hFinalIdeal := hFinalIdeal) (hFinalRefIdeal := hFinalRefIdeal)
    ∧ preserves_Mod_ModIdeal
    ∧ algebraic_ModIdeal_ModRefIdeal (hModIdeal := hModIdeal) (hModRefIdeal := hModRefIdeal)
    ∧ preserves_Moba_MobaIdeal
    ∧ algebraic_MobaIdeal_MobaRefIdeal (hMobaIdeal := hMobaIdeal) (hMobaRefIdeal := hMobaRefIdeal)
-- ==== Ret.lean ====
abbrev S8192x8192 : Shape := ⟨2, ![8192, 8192]⟩
abbrev S1x4096 : Shape := ⟨2, ![1, 4096]⟩
abbrev S4096x12288 : Shape := ⟨2, ![4096, 12288]⟩
abbrev S12288 : Shape := ⟨1, ![12288]⟩
abbrev S8 : Shape := ⟨1, ![8]⟩
abbrev S_ : Shape := ⟨0, ![]⟩
abbrev S4096x1 : Shape := ⟨2, ![4096, 1]⟩
abbrev S4096x128 : Shape := ⟨2, ![4096, 128]⟩
abbrev S1x12288 : Shape := ⟨2, ![1, 12288]⟩
abbrev S8192x2048 : Shape := ⟨2, ![8192, 2048]⟩
abbrev S512x512 : Shape := ⟨2, ![512, 512]⟩
abbrev S64x128 : Shape := ⟨2, ![64, 128]⟩
abbrev S64x12288 : Shape := ⟨2, ![64, 12288]⟩
abbrev S2x256x256 : Shape := ⟨3, ![2, 256, 256]⟩
abbrev S8x12288 : Shape := ⟨2, ![8, 12288]⟩
abbrev S8x2048 : Shape := ⟨2, ![8, 2048]⟩
abbrev S8x128 : Shape := ⟨2, ![8, 128]⟩
abbrev S128x128 : Shape := ⟨2, ![128, 128]⟩
abbrev S128x1 : Shape := ⟨2, ![128, 1]⟩
abbrev S1 : Shape := ⟨1, ![1]⟩
abbrev S1x1 : Shape := ⟨2, ![1, 1]⟩
abbrev S128x256 : Shape := ⟨2, ![128, 256]⟩
abbrev S1x256x256 : Shape := ⟨3, ![1, 256, 256]⟩
abbrev S256x256 : Shape := ⟨2, ![256, 256]⟩
abbrev S128 : Shape := ⟨1, ![128]⟩

abbrev nBuf : Space → Nat
  | .hbm => 28
  | .vmem => 18
  | .smem => 1
  | _ => 0

abbrev bufTy : (tb : Table) → Fin (tcTables nBuf tb) → BufTy
  | .hbm, ⟨0, _⟩ => ⟨S8192x8192, .bf16⟩
  | .hbm, ⟨1, _⟩ => ⟨S1x4096, .f32⟩
  | .hbm, ⟨2, _⟩ => ⟨S4096x12288, .f32⟩
  | .hbm, ⟨3, _⟩ => ⟨S12288, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x128, .f32⟩
  | .hbm, ⟨25, _⟩ => ⟨S1x12288, .f32⟩
  | .hbm, ⟨26, _⟩ => ⟨S8192x2048, .bf16⟩
  | .hbm, ⟨27, _⟩ => ⟨S1x12288, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S64x128, .f32⟩
  | .local _ .vmem, ⟨9, _⟩ => ⟨S64x128, .f32⟩
  | .local _ .vmem, ⟨10, _⟩ => ⟨S64x12288, .f32⟩
  | .local _ .vmem, ⟨11, _⟩ => ⟨S64x12288, .f32⟩
  | .local _ .vmem, ⟨12, _⟩ => ⟨S1x12288, .f32⟩
  | .local _ .vmem, ⟨13, _⟩ => ⟨S512x512, .bf16⟩
  | .local _ .vmem, ⟨14, _⟩ => ⟨S512x512, .bf16⟩
  | .local _ .vmem, ⟨15, _⟩ => ⟨S1x12288, .f32⟩
  | .local _ .vmem, ⟨16, _⟩ => ⟨S2x256x256, .f32⟩
  | .local _ .vmem, ⟨17, _⟩ => ⟨S8x12288, .f32⟩
  | .local _ .smem, ⟨0, _⟩ => ⟨S8, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![4, 16], ![false, false]⟩

def k0_off1 (i : grid0.Coords) (c0_i32_207 : BitVec 32) : Fin 1 → Nat :=
  let arg0 : BitVec 32 := BitVec.ofNat 32 (i 0).val
  let c2_i32 : BitVec 32 := 2#32
  let v329 : BitVec 32 := Scalar.muli arg0 c2_i32
  let v330 : BitVec 32 := Scalar.addi v329 c0_i32_207
  let v331 : Index := Scalar.indexCast v330
  ![v331.toNat]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c63_i32 : BitVec 32 := 63#32
  let v317 : BitVec 1 := Scalar.cmpi .eq v1 c63_i32
  let v318 : BitVec 32 := Scalar.extui v317
  let c0_i32_204 : BitVec 32 := 0#32
  let v319 : BitVec 1 := Scalar.cmpi .ne v318 c0_i32_204
  v319

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x12288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x12288 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== RetRefIdeal.lean ====
abbrev S8192x8192 : Shape := ⟨2, ![8192, 8192]⟩
abbrev S1x4096 : Shape := ⟨2, ![1, 4096]⟩
abbrev S4096x12288 : Shape := ⟨2, ![4096, 12288]⟩
abbrev S12288 : Shape := ⟨1, ![12288]⟩
abbrev S1x8192x8192 : Shape := ⟨3, ![1, 8192, 8192]⟩
abbrev S1x8192x2048 : Shape := ⟨3, ![1, 8192, 2048]⟩
abbrev S1x8192x8x256 : Shape := ⟨4, ![1, 8192, 8, 256]⟩
abbrev S1x8x8192x256 : Shape := ⟨4, ![1, 8, 8192, 256]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S1x8x64x128x256 : Shape := ⟨5, ![1, 8, 64, 128, 256]⟩
abbrev S1x8x64x128x128 : Shape := ⟨5, ![1, 8, 64, 128, 128]⟩
abbrev S1x8x1x128x128 : Shape := ⟨5, ![1, 8, 1, 128, 128]⟩
abbrev S1x8x256x256 : Shape := ⟨4, ![1, 8, 256, 256]⟩
abbrev S64x1x8x128x256 : Shape := ⟨5, ![64, 1, 8, 128, 256]⟩
abbrev S1x1x8x128x256 : Shape := ⟨5, ![1, 1, 8, 128, 256]⟩
abbrev S1x8x128x256 : Shape := ⟨4, ![1, 8, 128, 256]⟩
abbrev S1x8x128x1 : Shape := ⟨4, ![1, 8, 128, 1]⟩
abbrev S1x8x1x1 : Shape := ⟨4, ![1, 8, 1, 1]⟩
abbrev S1x8x8192 : Shape := ⟨3, ![1, 8, 8192]⟩
abbrev S1x8x8192x1 : Shape := ⟨4, ![1, 8, 8192, 1]⟩
abbrev S1x12288 : Shape := ⟨2, ![1, 12288]⟩
abbrev S8192x2048 : Shape := ⟨2, ![8192, 2048]⟩

abbrev nBuf : Space → Nat
  | .hbm => 191
  | .vmem => 0
  | .smem => 0
  | _ => 0

abbrev hbmTy0_0 (i : Nat) : BufTy := match i % 128 with
  | 0 => ⟨S8192x8192, .bf16⟩
  | 1 => ⟨S1x4096, .f32⟩
  | 2 => ⟨S4096x12288, .f32⟩
  | 3 => ⟨S12288, .f32⟩
  | 4 => ⟨S8192x8192, .f32⟩
  | 5 => ⟨S1x8192x8192, .f32⟩
  | 6 => ⟨S1x8192x2048, .f32⟩
  | 7 => ⟨S1x8192x2048, .f32⟩
  | 8 => ⟨S1x8192x2048, .f32⟩
  | 9 => ⟨S1x8192x2048, .f32⟩
  | 10 => ⟨S1x8192x8x256, .f32⟩
  | 11 => ⟨S1x8x8192x256, .f32⟩
  | 12 => ⟨S1x8192x8x256, .f32⟩
  | 13 => ⟨S1x8x8192x256, .f32⟩
  | 14 => ⟨S1x8192x8x256, .f32⟩
  | 15 => ⟨S1x8x8192x256, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8, .f32⟩
  | 24 => ⟨S8, .f32⟩
  | 25 => ⟨S8, .f32⟩
  | 26 => ⟨S128, .f32⟩
  | 27 => ⟨S128x1, .f32⟩
  | 28 => ⟨S1x128, .f32⟩
  | 29 => ⟨S128x128, .f32⟩
  | 30 => ⟨S128x128, .f32⟩
  | 31 => ⟨S128x128, .f32⟩
  | 32 => ⟨S_, .f32⟩
  | 33 => ⟨S128x128, .f32⟩
  | 34 => ⟨S128x128, .i1⟩
  | 35 => ⟨S8x1x1, .f32⟩
  | 36 => ⟨S_, .f32⟩
  | 37 => ⟨S128x128, .f32⟩
  | 38 => ⟨S128x128, .f32⟩
  | 39 => ⟨S1x128x128, .f32⟩
  | 40 => ⟨S8x128x128, .f32⟩
  | 41 => ⟨S8x128x128, .f32⟩
  | 42 => ⟨S8x128x128, .f32⟩
  | 43 => ⟨S8x128x128, .f32⟩
  | 44 => ⟨S_, .f32⟩
  | 45 => ⟨S_, .f32⟩
  | 46 => ⟨S8x128x128, .i1⟩
  | 47 => ⟨S8x128x128, .f32⟩
  | 48 => ⟨S8x128x128, .f32⟩
  | 49 => ⟨S8x1, .f32⟩
  | 50 => ⟨S_, .f32⟩
  | 51 => ⟨S128, .f32⟩
  | 52 => ⟨S128, .f32⟩
  | 53 => ⟨S1x128, .f32⟩
  | 54 => ⟨S8x128, .f32⟩
  | 55 => ⟨S8x128, .f32⟩
  | 56 => ⟨S8x128, .f32⟩
  | 57 => ⟨S8x128, .f32⟩
  | 58 => ⟨S8x1, .f32⟩
  | 59 => ⟨S_, .f32⟩
  | 60 => ⟨S128, .f32⟩
  | 61 => ⟨S128, .f32⟩
  | 62 => ⟨S1x128, .f32⟩
  | 63 => ⟨S8x128, .f32⟩
  | 64 => ⟨S8x128, .f32⟩
  | 65 => ⟨S8x128, .f32⟩
  | 66 => ⟨S8x128, .f32⟩
  | 67 => ⟨S_, .f32⟩
  | 68 => ⟨S8, .f32⟩
  | 69 => ⟨S8, .f32⟩
  | 70 => ⟨S8, .f32⟩
  | 71 => ⟨S_, .f32⟩
  | 72 => ⟨S1x8x8192x256, .f32⟩
  | 73 => ⟨S1x8x8192x256, .f32⟩
  | 74 => ⟨S1x8x64x128x256, .f32⟩
  | 75 => ⟨S1x8x64x128x256, .f32⟩
  | 76 => ⟨S1x8x64x128x256, .f32⟩
  | 77 => ⟨S1x8x64x128x128, .f32⟩
  | 78 => ⟨S1x8x1x128x128, .f32⟩
  | 79 => ⟨S1x8x64x128x128, .f32⟩
  | 80 => ⟨S1x8x64x128x128, .f32⟩
  | 81 => ⟨S1x8x64x128x256, .f32⟩
  | 82 => ⟨S_, .f32⟩
  | 83 => ⟨S1x8x256x256, .f32⟩
  | 84 => ⟨S64x1x8x128x256, .f32⟩
  | 85 => ⟨S64x1x8x128x256, .f32⟩
  | 86 => ⟨S64x1x8x128x256, .f32⟩
  | 87 => ⟨S_, .f32⟩
  | 88 => ⟨S64x1x8x128x256, .f32⟩
  | 89 => ⟨S_, .i32⟩
  | 90 => ⟨S64x1x8x128x256, .f32⟩
  | 91 => ⟨S64x1x8x128x256, .f32⟩
  | 92 => ⟨S64x1x8x128x256, .f32⟩
  | 93 => ⟨S8x128, .f32⟩
  | 94 => ⟨S8x128, .f32⟩
  | 95 => ⟨S8, .f32⟩
  | 96 => ⟨S_, .i32⟩
  | 97 => ⟨S1x8x256x256, .f32⟩
  | 98 => ⟨S64x1x8x128x256, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1x1x8x128x256, .f32⟩
  | 106 => ⟨S1x8x128x256, .f32⟩
  | 107 => ⟨S_, .i32⟩
  | 108 => ⟨S_, .i32⟩
  | 109 => ⟨S_, .i32⟩
  | 110 => ⟨S_, .i32⟩
  | 111 => ⟨S1x1x8x128x256, .f32⟩
  | 112 => ⟨S1x8x128x256, .f32⟩
  | 113 => ⟨S_, .i32⟩
  | 114 => ⟨S_, .i32⟩
  | 115 => ⟨S_, .i32⟩
  | 116 => ⟨S_, .i32⟩
  | 117 => ⟨S1x1x8x128x256, .f32⟩
  | 118 => ⟨S1x8x128x256, .f32⟩
  | 119 => ⟨S1x8x128x256, .f32⟩
  | 120 => ⟨S1x8x128x1, .f32⟩
  | 121 => ⟨S1x8x128x256, .f32⟩
  | 122 => ⟨S1x8x128x256, .f32⟩
  | 123 => ⟨S1x8x128x1, .f32⟩
  | 124 => ⟨S1x8x128x256, .f32⟩
  | 125 => ⟨S1x8x128x256, .f32⟩
  | 126 => ⟨S1x8x256x256, .f32⟩
  | 127 => ⟨S1x8x1x1, .f32⟩
  | _ => ⟨S8192x8192, .bf16⟩

abbrev hbmTy0_1 (i : Nat) : BufTy := match i % 128 with
  | 0 => ⟨S1x8x256x256, .f32⟩
  | 1 => ⟨S1x8x256x256, .f32⟩
  | 2 => ⟨S1x8x256x256, .f32⟩
  | 3 => ⟨S1x1x8x128x256, .f32⟩
  | 4 => ⟨S_, .i32⟩
  | 5 => ⟨S_, .i32⟩
  | 6 => ⟨S_, .i32⟩
  | 7 => ⟨S_, .i32⟩
  | 8 => ⟨S64x1x8x128x256, .f32⟩
  | 9 => ⟨S_, .i32⟩
  | 10 => ⟨S_, .i32⟩
  | 11 => ⟨S1x8x64x128x256, .f32⟩
  | 12 => ⟨S1x8x64x128x256, .f32⟩
  | 13 => ⟨S1x8x8192x256, .f32⟩
  | 14 => ⟨S_, .f32⟩
  | 15 => ⟨S1x8x8192, .f32⟩
  | 16 => ⟨S1x8x8192x1, .f32⟩
  | 17 => ⟨S_, .f32⟩
  | 18 => ⟨S1x8x8192x1, .f32⟩
  | 19 => ⟨S1x8x8192x1, .f32⟩
  | 20 => ⟨S1x8x8192x256, .f32⟩
  | 21 => ⟨S1x8x8192x256, .f32⟩
  | 22 => ⟨S1x8x8192x256, .f32⟩
  | 23 => ⟨S_, .f32⟩
  | 24 => ⟨S1x8x8192, .f32⟩
  | 25 => ⟨S1x8x8192x1, .f32⟩
  | 26 => ⟨S_, .f32⟩
  | 27 => ⟨S1x8x8192x1, .f32⟩
  | 28 => ⟨S1x8x8192x1, .f32⟩
  | 29 => ⟨S1x8x8192x256, .f32⟩
  | 30 => ⟨S1x8x8192x256, .f32⟩
  | 31 => ⟨S_, .f32⟩
  | 32 => ⟨S1x8x8192x1, .f32⟩
  | 33 => ⟨S1x8x8192x1, .f32⟩
  | 34 => ⟨S1x8x8192x1, .f32⟩
  | 35 => ⟨S1x8x8192x256, .f32⟩
  | 36 => ⟨S1x8x8192x256, .f32⟩
  | 37 => ⟨S1x8192x8x256, .f32⟩
  | 38 => ⟨S1x8192x2048, .f32⟩
  | 39 => ⟨S1x8192x2048, .f32⟩
  | 40 => ⟨S1x8192x2048, .f32⟩
  | 41 => ⟨S_, .f32⟩
  | 42 => ⟨S1x8192x2048, .f32⟩
  | 43 => ⟨S1x8192x2048, .f32⟩
  | 44 => ⟨S_, .f32⟩
  | 45 => ⟨S1x8192x2048, .f32⟩
  | 46 => ⟨S1x8192x2048, .f32⟩
  | 47 => ⟨S1x8192x2048, .f32⟩
  | 48 => ⟨S1x8192x2048, .f32⟩
  | 49 => ⟨S1x4096, .f32⟩
  | 50 => ⟨S1x4096, .f32⟩
  | 51 => ⟨S_, .f32⟩
  | 52 => ⟨S1x4096, .f32⟩
  | 53 => ⟨S1x4096, .f32⟩
  | 54 => ⟨S_, .f32⟩
  | 55 => ⟨S1x4096, .f32⟩
  | 56 => ⟨S1x4096, .f32⟩
  | 57 => ⟨S1x4096, .f32⟩
  | 58 => ⟨S1x12288, .f32⟩
  | 59 => ⟨S1x12288, .f32⟩
  | 60 => ⟨S1x12288, .f32⟩
  | 61 => ⟨S8192x2048, .f32⟩
  | 62 => ⟨S8192x2048, .bf16⟩
  | _ => ⟨S8192x8192, .bf16⟩

abbrev hbmTy (i : Nat) : BufTy := match i / 128 with
  | 0 => hbmTy0_0 i
  | 1 => hbmTy0_1 i
  | _ => ⟨S8192x8192, .bf16⟩

abbrev bufTy : (tb : Table) → Fin (tcTables nBuf tb) → BufTy
  | .hbm, ⟨i, _⟩ => hbmTy i
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_c : Ref sig .tc := ⟨.hbm, 89, rfl⟩
abbrev main_v71_0 : Ref sig .tc := ⟨.hbm, 90, rfl⟩
abbrev main_v71_1 : Ref sig .tc := ⟨.hbm, 91, rfl⟩
abbrev main_v71_2 : Ref sig .tc := ⟨.hbm, 92, rfl⟩
abbrev main_v71_3 : Ref sig .tc := ⟨.hbm, 93, rfl⟩
abbrev main_v71_4 : Ref sig .tc := ⟨.hbm, 94, rfl⟩
abbrev main_v71_5 : Ref sig .tc := ⟨.hbm, 95, rfl⟩
abbrev main_v71_6 : Ref sig .tc := ⟨.hbm, 96, rfl⟩
abbrev main_v71_7 : Ref sig .tc := ⟨.hbm, 97, rfl⟩
abbrev main_v71_8 : Ref sig .tc := ⟨.hbm, 98, rfl⟩
abbrev main_while0c_c_23 : Ref sig .tc := ⟨.hbm, 99, rfl⟩
abbrev main_while0c_v103 : Ref sig .tc := ⟨.hbm, 100, rfl⟩
abbrev main_while0b_call1_c : Ref sig .tc := ⟨.hbm, 101, rfl⟩
abbrev main_while0b_call1_c_0 : Ref sig .tc := ⟨.hbm, 102, rfl⟩
abbrev main_while0b_call1_c_1 : Ref sig .tc := ⟨.hbm, 103, rfl⟩
abbrev main_while0b_call1_c_2 : Ref sig .tc := ⟨.hbm, 104, rfl⟩
abbrev main_while0b_call1_v0 : Ref sig .tc := ⟨.hbm, 105, rfl⟩
abbrev main_while0b_v103 : Ref sig .tc := ⟨.hbm, 106, rfl⟩
abbrev main_while0b_call2_c : Ref sig .tc := ⟨.hbm, 107, rfl⟩
abbrev main_while0b_call2_c_0 : Ref sig .tc := ⟨.hbm, 108, rfl⟩
abbrev main_while0b_call2_c_1 : Ref sig .tc := ⟨.hbm, 109, rfl⟩
abbrev main_while0b_call2_c_2 : Ref sig .tc := ⟨.hbm, 110, rfl⟩
abbrev main_while0b_call2_v0 : Ref sig .tc := ⟨.hbm, 111, rfl⟩
abbrev main_while0b_v104 : Ref sig .tc := ⟨.hbm, 112, rfl⟩
abbrev main_while0b_call3_c : Ref sig .tc := ⟨.hbm, 113, rfl⟩
abbrev main_while0b_call3_c_0 : Ref sig .tc := ⟨.hbm, 114, rfl⟩
abbrev main_while0b_call3_c_1 : Ref sig .tc := ⟨.hbm, 115, rfl⟩
abbrev main_while0b_call3_c_2 : Ref sig .tc := ⟨.hbm, 116, rfl⟩
abbrev main_while0b_call3_v0 : Ref sig .tc := ⟨.hbm, 117, rfl⟩
abbrev main_while0b_v105 : Ref sig .tc := ⟨.hbm, 118, rfl⟩
abbrev main_while0b_v106 : Ref sig .tc := ⟨.hbm, 119, rfl⟩
abbrev main_while0b_v107 : Ref sig .tc := ⟨.hbm, 120, rfl⟩
abbrev main_while0b_v108 : Ref sig .tc := ⟨.hbm, 121, rfl⟩
abbrev main_while0b_v109 : Ref sig .tc := ⟨.hbm, 122, rfl⟩
abbrev main_while0b_v110 : Ref sig .tc := ⟨.hbm, 123, rfl⟩
abbrev main_while0b_v111 : Ref sig .tc := ⟨.hbm, 124, rfl⟩
abbrev main_while0b_v112 : Ref sig .tc := ⟨.hbm, 125, rfl⟩
abbrev main_while0b_v113 : Ref sig .tc := ⟨.hbm, 126, rfl⟩
abbrev main_while0b_v114 : Ref sig .tc := ⟨.hbm, 127, rfl⟩
abbrev main_while0b_v115 : Ref sig .tc := ⟨.hbm, 128, rfl⟩
abbrev main_while0b_v116 : Ref sig .tc := ⟨.hbm, 129, rfl⟩
abbrev main_while0b_v117 : Ref sig .tc := ⟨.hbm, 130, rfl⟩
abbrev main_while0b_call4_v0 : Ref sig .tc := ⟨.hbm, 131, rfl⟩
abbrev main_while0b_call4_c : Ref sig .tc := ⟨.hbm, 132, rfl⟩
abbrev main_while0b_call4_c_0 : Ref sig .tc := ⟨.hbm, 133, rfl⟩
abbrev main_while0b_call4_c_1 : Ref sig .tc := ⟨.hbm, 134, rfl⟩
abbrev main_while0b_call4_c_2 : Ref sig .tc := ⟨.hbm, 135, rfl⟩
abbrev main_while0b_v118 : Ref sig .tc := ⟨.hbm, 136, rfl⟩
abbrev main_while0b_c_23 : Ref sig .tc := ⟨.hbm, 137, rfl⟩
abbrev main_while0b_v119 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_cst_10 : Ref sig .tc := ⟨.hbm, 142, rfl⟩
abbrev main_v75 : Ref sig .tc := ⟨.hbm, 143, rfl⟩
abbrev main_v76 : Ref sig .tc := ⟨.hbm, 144, rfl⟩
abbrev main_cst_11 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_12 : Ref sig .tc := ⟨.hbm, 151, rfl⟩
abbrev main_v82 : Ref sig .tc := ⟨.hbm, 152, rfl⟩
abbrev main_v83 : Ref sig .tc := ⟨.hbm, 153, rfl⟩
abbrev main_cst_13 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_cst_14 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_call5_v0 : Ref sig .tc := ⟨.hbm, 167, rfl⟩
abbrev main_call5_v1 : Ref sig .tc := ⟨.hbm, 168, rfl⟩
abbrev main_call5_cst : Ref sig .tc := ⟨.hbm, 169, rfl⟩
abbrev main_call5_v2 : Ref sig .tc := ⟨.hbm, 170, rfl⟩
abbrev main_call5_v3 : Ref sig .tc := ⟨.hbm, 171, rfl⟩
abbrev main_call5_cst_0 : Ref sig .tc := ⟨.hbm, 172, rfl⟩
abbrev main_call5_v4 : Ref sig .tc := ⟨.hbm, 173, rfl⟩
abbrev main_call5_v5 : Ref sig .tc := ⟨.hbm, 174, rfl⟩
abbrev main_v95 : Ref sig .tc := ⟨.hbm, 175, rfl⟩
abbrev main_v96 : Ref sig .tc := ⟨.hbm, 176, rfl⟩
abbrev main_call6_v0 : Ref sig .tc := ⟨.hbm, 177, rfl⟩
abbrev main_call6_v1 : Ref sig .tc := ⟨.hbm, 178, rfl⟩
abbrev main_call6_cst : Ref sig .tc := ⟨.hbm, 179, rfl⟩
abbrev main_call6_v2 : Ref sig .tc := ⟨.hbm, 180, rfl⟩
abbrev main_call6_v3 : Ref sig .tc := ⟨.hbm, 181, rfl⟩
abbrev main_call6_cst_0 : Ref sig .tc := ⟨.hbm, 182, rfl⟩
abbrev main_call6_v4 : Ref sig .tc := ⟨.hbm, 183, rfl⟩
abbrev main_call6_v5 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩

abbrev nD : Nat := 1
abbrev τ : Topo := Topo.v7x

variable {F : FTy → Type} [FloatOps F]

abbrev main_while0_count : Scf.Loop 32 := ⟨0#32, 64#32, 1#32⟩
-- ==== Up.lean ====
abbrev S8192x4096 : Shape := ⟨2, ![8192, 4096]⟩
abbrev S4096x11008 : Shape := ⟨2, ![4096, 11008]⟩
abbrev S8192x11008 : Shape := ⟨2, ![8192, 11008]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .f32⟩
  | .hbm, ⟨2, _⟩ => ⟨S4096x11008, .f32⟩
  | .hbm, ⟨3, _⟩ => ⟨S8192x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S2048x256, .bf16⟩
  | .local _ .vmem, ⟨7, _⟩ => ⟨S2048x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8192x4096 : Shape := ⟨2, ![8192, 4096]⟩
abbrev S4096x11008 : Shape := ⟨2, ![4096, 11008]⟩
abbrev S8192x11008 : Shape := ⟨2, ![8192, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .f32⟩
  | .hbm, ⟨2, _⟩ => ⟨S4096x11008, .f32⟩
  | .hbm, ⟨3, _⟩ => ⟨S8192x4096, .f32⟩
  | .hbm, ⟨4, _⟩ => ⟨S8192x11008, .f32⟩
  | .hbm, ⟨5, _⟩ => ⟨S8192x11008, .f32⟩
  | .hbm, ⟨6, _⟩ => ⟨S8192x11008, .f32⟩
  | .hbm, ⟨7, _⟩ => ⟨S_, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Down.lean ====
abbrev S8192x11008 : Shape := ⟨2, ![8192, 11008]⟩
abbrev S11008x4096 : Shape := ⟨2, ![11008, 4096]⟩
abbrev S8192x4096 : Shape := ⟨2, ![8192, 4096]⟩
abbrev S1x4096 : Shape := ⟨2, ![1, 4096]⟩
abbrev S512x11008 : Shape := ⟨2, ![512, 11008]⟩
abbrev S11008x512 : Shape := ⟨2, ![11008, 512]⟩
abbrev S512x512 : Shape := ⟨2, ![512, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DownRefIdeal.lean ====
abbrev S8192x11008 : Shape := ⟨2, ![8192, 11008]⟩
abbrev S11008x4096 : Shape := ⟨2, ![11008, 4096]⟩
abbrev S8192x4096 : Shape := ⟨2, ![8192, 4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S1x4096, .f32⟩
  | .hbm, ⟨4, _⟩ => ⟨S8192x11008, .f32⟩
  | .hbm, ⟨5, _⟩ => ⟨S11008x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Conv.lean ====
abbrev S8192x4096 : Shape := ⟨2, ![8192, 4096]⟩
abbrev S4096x12288 : Shape := ⟨2, ![4096, 12288]⟩
abbrev S3x1x4096 : Shape := ⟨3, ![3, 1, 4096]⟩
abbrev S3x4096 : Shape := ⟨2, ![3, 4096]⟩
abbrev S1024x4096 : Shape := ⟨2, ![1024, 4096]⟩
abbrev S16x4096 : Shape := ⟨2, ![16, 4096]⟩
abbrev S4096x256 : Shape := ⟨2, ![4096, 256]⟩
abbrev S3x256 : Shape := ⟨2, ![3, 256]⟩
abbrev S1024x256 : Shape := ⟨2, ![1024, 256]⟩
abbrev S1040x4096 : Shape := ⟨2, ![1040, 4096]⟩
abbrev S1040x256 : Shape := ⟨2, ![1040, 256]⟩
abbrev S1x256 : Shape := ⟨2, ![1, 256]⟩

abbrev nBuf : Space → Nat
  | .hbm => 5
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S3x1x4096, .f32⟩
  | .hbm, ⟨3, _⟩ => ⟨S3x4096, .f32⟩
  | .hbm, ⟨4, _⟩ => ⟨S8192x4096, .bf16⟩
  | .local _ .vmem, ⟨0, _⟩ => ⟨S1024x4096, .bf16⟩
  | .local _ .vmem, ⟨1, _⟩ => ⟨S16x4096, .bf16⟩
  | .local _ .vmem, ⟨2, _⟩ => ⟨S16x4096, .bf16⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S3x256, .f32⟩
  | .local _ .vmem, ⟨10, _⟩ => ⟨S3x256, .f32⟩
  | .local _ .vmem, ⟨11, _⟩ => ⟨S1024x256, .bf16⟩
  | .local _ .vmem, ⟨12, _⟩ => ⟨S1024x256, .bf16⟩
  | .local _ .vmem, ⟨13, _⟩ => ⟨S1040x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvRefIdeal.lean ====
abbrev S8192x4096 : Shape := ⟨2, ![8192, 4096]⟩
abbrev S4096x12288 : Shape := ⟨2, ![4096, 12288]⟩
abbrev S3x1x4096 : Shape := ⟨3, ![3, 1, 4096]⟩
abbrev S8192x12288 : Shape := ⟨2, ![8192, 12288]⟩
abbrev S_ : Shape := ⟨0, ![]⟩
abbrev S8194x4096 : Shape := ⟨2, ![8194, 4096]⟩
abbrev S1x1x4096 : Shape := ⟨3, ![1, 1, 4096]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x12288, .f32⟩
  | .hbm, ⟨2, _⟩ => ⟨S3x1x4096, .f32⟩
  | .hbm, ⟨3, _⟩ => ⟨S8192x4096, .f32⟩
  | .hbm, ⟨4, _⟩ => ⟨S8192x12288, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .i32⟩
  | .hbm, ⟨10, _⟩ => ⟨S_, .f32⟩
  | .hbm, ⟨11, _⟩ => ⟨S8194x4096, .f32⟩
  | .hbm, ⟨12, _⟩ => ⟨S8192x4096, .f32⟩
  | .hbm, ⟨13, _⟩ => ⟨S1x1x4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x1x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S1x1x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== InRet.lean ====
abbrev S8192x4096 : Shape := ⟨2, ![8192, 4096]⟩
abbrev S4096x14336 : Shape := ⟨2, ![4096, 14336]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .f32⟩
  | .hbm, ⟨2, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRetRefIdeal.lean ====
abbrev S8192x4096 : Shape := ⟨2, ![8192, 4096]⟩
abbrev S4096x14336 : Shape := ⟨2, ![4096, 14336]⟩
abbrev S8192x14336 : Shape := ⟨2, ![8192, 14336]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .f32⟩
  | .hbm, ⟨2, _⟩ => ⟨S8192x4096, .f32⟩
  | .hbm, ⟨3, _⟩ => ⟨S8192x14336, .f32⟩
  | .hbm, ⟨4, _⟩ => ⟨S8192x8192, .f32⟩
  | .hbm, ⟨5, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InQ.lean ====
abbrev S8192x4096 : Shape := ⟨2, ![8192, 4096]⟩
abbrev S4096x14336 : Shape := ⟨2, ![4096, 14336]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .f32⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InQRefIdeal.lean ====
abbrev S8192x4096 : Shape := ⟨2, ![8192, 4096]⟩
abbrev S4096x14336 : Shape := ⟨2, ![4096, 14336]⟩
abbrev S8192x14336 : Shape := ⟨2, ![8192, 14336]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .f32⟩
  | .hbm, ⟨2, _⟩ => ⟨S8192x4096, .f32⟩
  | .hbm, ⟨3, _⟩ => ⟨S8192x14336, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InKv.lean ====
abbrev S8192x4096 : Shape := ⟨2, ![8192, 4096]⟩
abbrev S4096x14336 : Shape := ⟨2, ![4096, 14336]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .f32⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InKvRefIdeal.lean ====
abbrev S8192x4096 : Shape := ⟨2, ![8192, 4096]⟩
abbrev S4096x14336 : Shape := ⟨2, ![4096, 14336]⟩
abbrev S8192x14336 : Shape := ⟨2, ![8192, 14336]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x14336, .f32⟩
  | .hbm, ⟨2, _⟩ => ⟨S8192x4096, .f32⟩
  | .hbm, ⟨3, _⟩ => ⟨S8192x14336, .f32⟩
  | .hbm, ⟨4, _⟩ => ⟨S8192x4096, .f32⟩
  | .hbm, ⟨5, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out0.lean ====
abbrev S8192x2048 : Shape := ⟨2, ![8192, 2048]⟩
abbrev S4096x4096 : Shape := ⟨2, ![4096, 4096]⟩
abbrev S8192x4096 : Shape := ⟨2, ![8192, 4096]⟩
abbrev S1x4096 : Shape := ⟨2, ![1, 4096]⟩
abbrev S1024x2048 : Shape := ⟨2, ![1024, 2048]⟩
abbrev S4096x512 : Shape := ⟨2, ![4096, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S1x4096, .f32⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .f32⟩
  | .local _ .vmem, ⟨5, _⟩ => ⟨S4096x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Out0RefIdeal.lean ====
abbrev S8192x2048 : Shape := ⟨2, ![8192, 2048]⟩
abbrev S4096x4096 : Shape := ⟨2, ![4096, 4096]⟩
abbrev S8192x4096 : Shape := ⟨2, ![8192, 4096]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S1x4096, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Out1.lean ====
abbrev S8192x4096 : Shape := ⟨2, ![8192, 4096]⟩
abbrev S4096x4096 : Shape := ⟨2, ![4096, 4096]⟩
abbrev S1x4096 : Shape := ⟨2, ![1, 4096]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Out1RefIdeal.lean ====
abbrev S8192x4096 : Shape := ⟨2, ![8192, 4096]⟩
abbrev S4096x4096 : Shape := ⟨2, ![4096, 4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Norm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S16x4096 : Shape := ⟨2, ![16, 4096]⟩
abbrev S16 : Shape := ⟨1, ![16]⟩
abbrev S16x1 : Shape := ⟨2, ![16, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_6 : BitVec 32 := 16#32
  let v8 : BitVec 32 := Scalar.muli arg6 c16_i32_6
  v8
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32_6 : BitVec 32 := 16#32
  let v8 : BitVec 32 := Scalar.muli arg6 c16_i32_6
  let v9 : BitVec 32 := v8
  let v10 : Index := Scalar.indexCast v9
  let c0_7 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S8192x4096 : Shape := ⟨2, ![8192, 4096]⟩
abbrev S4096 : Shape := ⟨1, ![4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S1x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Final.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S16x4096 : Shape := ⟨2, ![16, 4096]⟩
abbrev S16 : Shape := ⟨1, ![16]⟩
abbrev S16x1 : Shape := ⟨2, ![16, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32_2 : BitVec 32 := 16#32
  let v3 : BitVec 32 := Scalar.muli arg4 c16_i32_2
  v3
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c16_i32_2 : BitVec 32 := 16#32
  let v3 : BitVec 32 := Scalar.muli arg4 c16_i32_2
  let v4 : BitVec 32 := v3
  let v5 : Index := Scalar.indexCast v4
  let c0_3 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Mod.lean ====
abbrev S1x4096 : Shape := ⟨2, ![1, 4096]⟩
abbrev S4096x12288 : Shape := ⟨2, ![4096, 12288]⟩
abbrev S12288 : Shape := ⟨1, ![12288]⟩
abbrev S4096x1 : Shape := ⟨2, ![4096, 1]⟩
abbrev S1x12288 : Shape := ⟨2, ![1, 12288]⟩
abbrev S4096x128 : Shape := ⟨2, ![4096, 128]⟩
abbrev S4096x512 : Shape := ⟨2, ![4096, 512]⟩
abbrev S1x512 : Shape := ⟨2, ![1, 512]⟩
abbrev S8x512 : Shape := ⟨2, ![8, 512]⟩
abbrev S128x128 : Shape := ⟨2, ![128, 128]⟩
abbrev S128x512 : Shape := ⟨2, ![128, 512]⟩
abbrev S16x8x512 : Shape := ⟨3, ![16, 8, 512]⟩
abbrev S512 : Shape := ⟨1, ![512]⟩

abbrev nBuf : Space → Nat
  | .hbm => 7
  | .vmem => 8
  | .smem => 0
  | _ => 0

abbrev bufTy : (tb : Table) → Fin (tcTables nBuf tb) → BufTy
  | .hbm, ⟨0, _⟩ => ⟨S1x4096, .f32⟩
  | .hbm, ⟨1, _⟩ => ⟨S4096x12288, .f32⟩
  | .hbm, ⟨2, _⟩ => ⟨S12288, .f32⟩
  | .hbm, ⟨3, _⟩ => ⟨S4096x1, .f32⟩
  | .hbm, ⟨4, _⟩ => ⟨S1x12288, .f32⟩
  | .hbm, ⟨5, _⟩ => ⟨S1x12288, .f32⟩
  | .hbm, ⟨6, _⟩ => ⟨S4096x128, .f32⟩
  | .local _ .vmem, ⟨0, _⟩ => ⟨S4096x1, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S4096x128, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c128_i32 : BitVec 32 := 128#32
  let v12 : BitVec 32 := Scalar.muli arg6 c128_i32
  v12
def k0_off1 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let c128_i32 : BitVec 32 := 128#32
  let v12 : BitVec 32 := Scalar.muli arg6 c128_i32
  let v13 : BitVec 32 := v12
  let v14 : Index := Scalar.indexCast v13
  let c0_7 : Index := 0#32
  ![v14.toNat, 0]
def k0_off2 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let c128_i32 : BitVec 32 := 128#32
  let v12 : BitVec 32 := Scalar.muli arg6 c128_i32
  let v13 : BitVec 32 := v12
  let v17 : Index := Scalar.indexCast v13
  let c0_8 : Index := 0#32
  ![v17.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ModRefIdeal.lean ====
abbrev S1x4096 : Shape := ⟨2, ![1, 4096]⟩
abbrev S4096x12288 : Shape := ⟨2, ![4096, 12288]⟩
abbrev S12288 : Shape := ⟨1, ![12288]⟩
abbrev S_ : Shape := ⟨0, ![]⟩
abbrev S1x12288 : Shape := ⟨2, ![1, 12288]⟩
abbrev S4096x1 : Shape := ⟨2, ![4096, 1]⟩
abbrev S4096x128 : Shape := ⟨2, ![4096, 128]⟩

abbrev nBuf : Space → Nat
  | .hbm => 17
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096x12288, .f32⟩
  | .hbm, ⟨2, _⟩ => ⟨S12288, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x12288, .f32⟩
  | .hbm, ⟨13, _⟩ => ⟨S1x12288, .f32⟩
  | .hbm, ⟨14, _⟩ => ⟨S1x12288, .f32⟩
  | .hbm, ⟨15, _⟩ => ⟨S4096x1, .f32⟩
  | .hbm, ⟨16, _⟩ => ⟨S4096x128, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Moba.lean ====
abbrev S8192x2048 : Shape := ⟨2, ![8192, 2048]⟩
abbrev S8192x4096 : Shape := ⟨2, ![8192, 4096]⟩
abbrev S11008x4096 : Shape := ⟨2, ![11008, 4096]⟩
abbrev S1x4096 : Shape := ⟨2, ![1, 4096]⟩
abbrev S4096x12288 : Shape := ⟨2, ![4096, 12288]⟩
abbrev S12288 : Shape := ⟨1, ![12288]⟩
abbrev S16 : Shape := ⟨1, ![16]⟩
abbrev S_ : Shape := ⟨0, ![]⟩
abbrev S4096x1 : Shape := ⟨2, ![4096, 1]⟩
abbrev S4096x128 : Shape := ⟨2, ![4096, 128]⟩
abbrev S1x12288 : Shape := ⟨2, ![1, 12288]⟩
abbrev S256x256 : Shape := ⟨2, ![256, 256]⟩
abbrev S8192x256 : Shape := ⟨2, ![8192, 256]⟩
abbrev S688x256 : Shape := ⟨2, ![688, 256]⟩
abbrev S16x128 : Shape := ⟨2, ![16, 128]⟩
abbrev S16x12288 : Shape := ⟨2, ![16, 12288]⟩
abbrev S2x8x256x1024 : Shape := ⟨4, ![2, 8, 256, 1024]⟩
abbrev S2x8192x256 : Shape := ⟨3, ![2, 8192, 256]⟩
abbrev S2x128x128 : Shape := ⟨3, ![2, 128, 128]⟩
abbrev S2x256x256 : Shape := ⟨3, ![2, 256, 256]⟩
abbrev S8x12288 : Shape := ⟨2, ![8, 12288]⟩
abbrev S8x2048 : Shape := ⟨2, ![8, 2048]⟩
abbrev S8x128 : Shape := ⟨2, ![8, 128]⟩
abbrev S2048x128 : Shape := ⟨2, ![2048, 128]⟩
abbrev S128x1024 : Shape := ⟨2, ![128, 1024]⟩
abbrev S1024x128 : Shape := ⟨2, ![1024, 128]⟩
abbrev S1x1x128x1024 : Shape := ⟨4, ![1, 1, 128, 1024]⟩
abbrev S1x2048x128 : Shape := ⟨3, ![1, 2048, 128]⟩
abbrev S8x256x128 : Shape := ⟨3, ![8, 256, 128]⟩
abbrev S1x8x128 : Shape := ⟨3, ![1, 8, 128]⟩
abbrev S1 : Shape := ⟨1, ![1]⟩
abbrev S32x256 : Shape := ⟨2, ![32, 256]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S256 : Shape := ⟨1, ![256]⟩
abbrev S1x256 : Shape := ⟨2, ![1, 256]⟩
abbrev S96x256 : Shape := ⟨2, ![96, 256]⟩
abbrev S1x1x256x1024 : Shape := ⟨4, ![1, 1, 256, 1024]⟩
abbrev S256x1024 : Shape := ⟨2, ![256, 1024]⟩
abbrev S1x1024 : Shape := ⟨2, ![1, 1024]⟩
abbrev S256x1 : Shape := ⟨2, ![256, 1]⟩
abbrev S1x256x256 : Shape := ⟨3, ![1, 256, 256]⟩
abbrev S1x1024x256 : Shape := ⟨3, ![1, 1024, 256]⟩
abbrev S1024x256 : Shape := ⟨2, ![1024, 256]⟩

abbrev nBuf : Space → Nat
  | .hbm => 41
  | .vmem => 31
  | .smem => 1
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S11008x4096, .f32⟩
  | .hbm, ⟨3, _⟩ => ⟨S11008x4096, .f32⟩
  | .hbm, ⟨4, _⟩ => ⟨S1x4096, .f32⟩
  | .hbm, ⟨5, _⟩ => ⟨S4096x12288, .f32⟩
  | .hbm, ⟨6, _⟩ => ⟨S12288, .f32⟩
  | .hbm, ⟨7, _⟩ => ⟨S4096x12288, .f32⟩
  | .hbm, ⟨8, _⟩ => ⟨S12288, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x128, .f32⟩
  | .hbm, ⟨34, _⟩ => ⟨S1x12288, .f32⟩
  | .hbm, ⟨35, _⟩ => ⟨S1x12288, .f32⟩
  | .hbm, ⟨36, _⟩ => ⟨S8192x2048, .bf16⟩
  | .hbm, ⟨37, _⟩ => ⟨S11008x4096, .bf16⟩
  | .hbm, ⟨38, _⟩ => ⟨S11008x4096, .bf16⟩
  | .hbm, ⟨39, _⟩ => ⟨S1x12288, .f32⟩
  | .hbm, ⟨40, _⟩ => ⟨S1x12288, .f32⟩
  | .local _ .vmem, ⟨0, _⟩ => ⟨S256x256, .f32⟩
  | .local _ .vmem, ⟨1, _⟩ => ⟨S256x256, .f32⟩
  | .local _ .vmem, ⟨2, _⟩ => ⟨S8192x256, .bf16⟩
  | .local _ .vmem, ⟨3, _⟩ => ⟨S8192x256, .bf16⟩
  | .local _ .vmem, ⟨4, _⟩ => ⟨S688x256, .f32⟩
  | .local _ .vmem, ⟨5, _⟩ => ⟨S688x256, .f32⟩
  | .local _ .vmem, ⟨6, _⟩ => ⟨S688x256, .f32⟩
  | .local _ .vmem, ⟨7, _⟩ => ⟨S688x256, .f32⟩
  | .local _ .vmem, ⟨8, _⟩ => ⟨S16x128, .f32⟩
  | .local _ .vmem, ⟨9, _⟩ => ⟨S16x128, .f32⟩
  | .local _ .vmem, ⟨10, _⟩ => ⟨S16x12288, .f32⟩
  | .local _ .vmem, ⟨11, _⟩ => ⟨S16x12288, .f32⟩
  | .local _ .vmem, ⟨12, _⟩ => ⟨S1x12288, .f32⟩
  | .local _ .vmem, ⟨13, _⟩ => ⟨S16x12288, .f32⟩
  | .local _ .vmem, ⟨14, _⟩ => ⟨S16x12288, .f32⟩
  | .local _ .vmem, ⟨15, _⟩ => ⟨S1x12288, .f32⟩
  | .local _ .vmem, ⟨16, _⟩ => ⟨S256x256, .bf16⟩
  | .local _ .vmem, ⟨17, _⟩ => ⟨S256x256, .bf16⟩
  | .local _ .vmem, ⟨18, _⟩ => ⟨S688x256, .bf16⟩
  | .local _ .vmem, ⟨19, _⟩ => ⟨S688x256, .bf16⟩
  | .local _ .vmem, ⟨20, _⟩ => ⟨S688x256, .bf16⟩
  | .local _ .vmem, ⟨21, _⟩ => ⟨S688x256, .bf16⟩
  | .local _ .vmem, ⟨22, _⟩ => ⟨S1x12288, .f32⟩
  | .local _ .vmem, ⟨23, _⟩ => ⟨S1x12288, .f32⟩
  | .local _ .vmem, ⟨24, _⟩ => ⟨S2x8x256x1024, .bf16⟩
  | .local _ .vmem, ⟨25, _⟩ => ⟨S2x8192x256, .bf16⟩
  | .local _ .vmem, ⟨26, _⟩ => ⟨S2x128x128, .f32⟩
  | .local _ .vmem, ⟨27, _⟩ => ⟨S2x8x256x1024, .f32⟩
  | .local _ .vmem, ⟨28, _⟩ => ⟨S2x256x256, .f32⟩
  | .local _ .vmem, ⟨29, _⟩ => ⟨S8x12288, .f32⟩
  | .local _ .vmem, ⟨30, _⟩ => ⟨S8x12288, .f32⟩
  | .local _ .smem, ⟨0, _⟩ => ⟨S16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v21_3 : Ref sig .tc := ⟨.hbm, 39, rfl⟩
abbrev main_v21_4 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨2, ![8, 32], ![false, false]⟩

def k0_cond5 (i : grid0.Coords) : BitVec 1 :=
  let arg1 : BitVec 32 := BitVec.ofNat 32 (i 1).val
  let c0_i32_151 : BitVec 32 := 0#32
  let v212 : BitVec 1 := Scalar.cmpi .eq arg1 c0_i32_151
  let v213 : BitVec 32 := Scalar.extui v212
  let c0_i32_152 : BitVec 32 := 0#32
  let v214 : BitVec 1 := Scalar.cmpi .ne v213 c0_i32_152
  v214

@[reducible] def k0_t1_loop : Scf.Loop 32 :=
  let c0_i32_258 : BitVec 32 := 0#32
  let c4_i32_259 : BitVec 32 := 4#32
  let v512 : BitVec 32 := Scalar.addi c0_i32_258 c4_i32_259
  let c1_i32_260 : BitVec 32 := 1#32
  ⟨c0_i32_258, v512, c1_i32_260⟩
def k0_mult1 (k0_t1 : Fin k0_t1_loop.trips) : BitVec 32 :=
  let c0_i32_258 : BitVec 32 := 0#32
  let c1_i32_260 : BitVec 32 := 1#32
  let arg25 : BitVec 32 := Scf.iv c0_i32_258 c1_i32_260 k0_t1
  let c2048_i32 : BitVec 32 := 2048#32
  let v513 : BitVec 32 := Scalar.muli arg25 c2048_i32
  v513
def k0_off1 (k0_t1 : Fin k0_t1_loop.trips) : Fin 2 → Nat :=
  let c0_i32_258 : BitVec 32 := 0#32
  let c1_i32_260 : BitVec 32 := 1#32
  let arg25 : BitVec 32 := Scf.iv c0_i32_258 c1_i32_260 k0_t1
  let c2048_i32 : BitVec 32 := 2048#32
  let v513 : BitVec 32 := Scalar.muli arg25 c2048_i32
  let v514 : BitVec 32 := v513
  let v521 : Index := Scalar.indexCast v514
  let c0_265 : Index := 0#32
  ![v521.toNat, 0]
def k0_off2 (k0_t1 : Fin k0_t1_loop.trips) (c0_i32_267 : BitVec 32) : Fin 4 → Nat :=
  let c0_269 : Index := 0#32
  let c0_i32_258 : BitVec 32 := 0#32
  let c1_i32_260 : BitVec 32 := 1#32
  let arg25 : BitVec 32 := Scf.iv c0_i32_258 c1_i32_260 k0_t1
  let c2_i32_266 : BitVec 32 := 2#32
  let v523 : BitVec 32 := Scalar.muli arg25 c2_i32_266
  let v524 : BitVec 32 := Scalar.addi v523 c0_i32_267
  let v535 : Index := Scalar.indexCast v524
  let c0_270 : Index := 0#32
  let c0_271 : Index := 0#32
  ![0, v535.toNat, 0, 0]
def k0_off3 (k0_t1 : Fin k0_t1_loop.trips) (c0_i32_267 : BitVec 32) : Fin 4 → Nat :=
  let c0_274 : Index := 0#32
  let c0_i32_258 : BitVec 32 := 0#32
  let c1_i32_260 : BitVec 32 := 1#32
  let arg25 : BitVec 32 := Scf.iv c0_i32_258 c1_i32_260 k0_t1
  let c2_i32_266 : BitVec 32 := 2#32
  let v523 : BitVec 32 := Scalar.muli arg25 c2_i32_266
  let v524 : BitVec 32 := Scalar.addi v523 c0_i32_267
  let v543 : Index := Scalar.indexCast v524
  let c128_275 : Index := 128#32
  let c0_276 : Index := 0#32
  ![0, v543.toNat, 128, 0]
def k0_off4 (k0_t1 : Fin k0_t1_loop.trips) : Fin 3 → Nat :=
  let c0_290 : Index := 0#32
  let c0_i32_258 : BitVec 32 := 0#32
  let c1_i32_260 : BitVec 32 := 1#32
  let arg25 : BitVec 32 := Scf.iv c0_i32_258 c1_i32_260 k0_t1
  let c2048_i32 : BitVec 32 := 2048#32
  let v513 : BitVec 32 := Scalar.muli arg25 c2048_i32
  let v514 : BitVec 32 := v513
  let v573 : Index := Scalar.indexCast v514
  let c0_291 : Index := 0#32
  ![0, v573.toNat, 0]
def k0_off5 (k0_t1 : Fin k0_t1_loop.trips) : Fin 3 → Nat :=
  let c0_292 : Index := 0#32
  let c0_i32_258 : BitVec 32 := 0#32
  let c1_i32_260 : BitVec 32 := 1#32
  let arg25 : BitVec 32 := Scf.iv c0_i32_258 c1_i32_260 k0_t1
  let c2048_i32 : BitVec 32 := 2048#32
  let v513 : BitVec 32 := Scalar.muli arg25 c2048_i32
  let v514 : BitVec 32 := v513
  let v577 : Index := Scalar.indexCast v514
  let c128_293 : Index := 128#32
  ![0, v577.toNat, 128]
def k0_mult2 (k0_t1 : Fin k0_t1_loop.trips) : BitVec 32 :=
  let c0_i32_258 : BitVec 32 := 0#32
  let c1_i32_260 : BitVec 32 := 1#32
  let arg25 : BitVec 32 := Scf.iv c0_i32_258 c1_i32_260 k0_t1
  let c8_i32_296 : BitVec 32 := 8#32
  let v586 : BitVec 32 := Scalar.muli arg25 c8_i32_296
  v586
def k0_off6 (k0_t1 : Fin k0_t1_loop.trips) : Fin 3 → Nat :=
  let c0_297 : Index := 0#32
  let c0_i32_258 : BitVec 32 := 0#32
  let c1_i32_260 : BitVec 32 := 1#32
  let arg25 : BitVec 32 := Scf.iv c0_i32_258 c1_i32_260 k0_t1
  let c8_i32_296 : BitVec 32 := 8#32
  let v586 : BitVec 32 := Scalar.muli arg25 c8_i32_296
  let v587 : BitVec 32 := v586
  let v588 : Index := Scalar.indexCast v587
  let c0_298 : Index := 0#32
  ![0, v588.toNat, 0]
def k0_off7 (k0_t1 : Fin k0_t1_loop.trips) : Fin 2 → Nat :=
  let c0_i32_258 : BitVec 32 := 0#32
  let c1_i32_260 : BitVec 32 := 1#32
  let arg25 : BitVec 32 := Scf.iv c0_i32_258 c1_i32_260 k0_t1
  let c2048_i32 : BitVec 32 := 2048#32
  let v513 : BitVec 32 := Scalar.muli arg25 c2048_i32
  let v514 : BitVec 32 := v513
  let v592 : Index := Scalar.indexCast v514
  let c128_299 : Index := 128#32
  ![v592.toNat, 128]
def k0_off8 (k0_t1 : Fin k0_t1_loop.trips) (c0_i32_301 : BitVec 32) : Fin 4 → Nat :=
  let c1_304 : Index := 1#32
  let c0_i32_258 : BitVec 32 := 0#32
  let c1_i32_260 : BitVec 32 := 1#32
  let arg25 : BitVec 32 := Scf.iv c0_i32_258 c1_i32_260 k0_t1
  let c2_i32_300 : BitVec 32 := 2#32
  let v594 : BitVec 32 := Scalar.muli arg25 c2_i32_300
  let v595 : BitVec 32 := Scalar.addi v594 c0_i32_301
  let v606 : Index := Scalar.indexCast v595
  let c0_305 : Index := 0#32
  let c0_306 : Index := 0#32
  ![1, v606.toNat, 0, 0]
def k0_off9 (k0_t1 : Fin k0_t1_loop.trips) (c0_i32_301 : BitVec 32) : Fin 4 → Nat :=
  let c1_309 : Index := 1#32
  let c0_i32_258 : BitVec 32 := 0#32
  let c1_i32_260 : BitVec 32 := 1#32
  let arg25 : BitVec 32 := Scf.iv c0_i32_258 c1_i32_260 k0_t1
  let c2_i32_300 : BitVec 32 := 2#32
  let v594 : BitVec 32 := Scalar.muli arg25 c2_i32_300
  let v595 : BitVec 32 := Scalar.addi v594 c0_i32_301
  let v614 : Index := Scalar.indexCast v595
  let c128_310 : Index := 128#32
  let c0_311 : Index := 0#32
  ![1, v614.toNat, 128, 0]
def k0_off10 (k0_t1 : Fin k0_t1_loop.trips) : Fin 3 → Nat :=
  let c1_325 : Index := 1#32
  let c0_i32_258 : BitVec 32 := 0#32
  let c1_i32_260 : BitVec 32 := 1#32
  let arg25 : BitVec 32 := Scf.iv c0_i32_258 c1_i32_260 k0_t1
  let c2048_i32 : BitVec 32 := 2048#32
  let v513 : BitVec 32 := Scalar.muli arg25 c2048_i32
  let v514 : BitVec 32 := v513
  let v644 : Index := Scalar.indexCast v514
  let c0_326 : Index := 0#32
  ![1, v644.toNat, 0]
def k0_off11 (k0_t1 : Fin k0_t1_loop.trips) : Fin 3 → Nat :=
  let c1_327 : Index := 1#32
  let c0_i32_258 : BitVec 32 := 0#32
  let c1_i32_260 : BitVec 32 := 1#32
  let arg25 : BitVec 32 := Scf.iv c0_i32_258 c1_i32_260 k0_t1
  let c2048_i32 : BitVec 32 := 2048#32
  let v513 : BitVec 32 := Scalar.muli arg25 c2048_i32
  let v514 : BitVec 32 := v513
  let v648 : Index := Scalar.indexCast v514
  let c128_328 : Index := 128#32
  ![1, v648.toNat, 128]
def k0_mult3 (k0_t1 : Fin k0_t1_loop.trips) : BitVec 32 :=
  let c0_i32_258 : BitVec 32 := 0#32
  let c1_i32_260 : BitVec 32 := 1#32
  let arg25 : BitVec 32 := Scf.iv c0_i32_258 c1_i32_260 k0_t1
  let c8_i32_331 : BitVec 32 := 8#32
  let v657 : BitVec 32 := Scalar.muli arg25 c8_i32_331
  v657
def k0_off12 (k0_t1 : Fin k0_t1_loop.trips) : Fin 3 → Nat :=
  let c1_332 : Index := 1#32
  let c0_i32_258 : BitVec 32 := 0#32
  let c1_i32_260 : BitVec 32 := 1#32
  let arg25 : BitVec 32 := Scf.iv c0_i32_258 c1_i32_260 k0_t1
  let c8_i32_331 : BitVec 32 := 8#32
  let v657 : BitVec 32 := Scalar.muli arg25 c8_i32_331
  let v658 : BitVec 32 := v657
  let v659 : Index := Scalar.indexCast v658
  let c0_333 : Index := 0#32
  ![1, v659.toNat, 0]
def k0_off13 (i : grid0.Coords) (c0_i32_153 : BitVec 32) : Fin 1 → Nat :=
  let arg0 : BitVec 32 := BitVec.ofNat 32 (i 0).val
  let c2_i32 : BitVec 32 := 2#32
  let v215 : BitVec 32 := Scalar.muli arg0 c2_i32
  let v216 : BitVec 32 := Scalar.addi v215 c0_i32_153
  let v217 : Index := Scalar.indexCast v216
  ![v217.toNat]
@[reducible] def k0_t2_loop (i : grid0.Coords) : Scf.Loop 32 :=
  let c0_i32_208 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let v382 : BitVec 32 := Scalar.subi v379 c0_i32_208
  let c1_i32_209 : BitVec 32 := 1#32
  let v384 : BitVec 32 := Scalar.divsi v382 c1_i32_209
  let v385 : BitVec 32 := Scalar.muli v384 c1_i32_209
  let v386 : BitVec 32 := Scalar.addi c0_i32_208 v385
  let c1_i32_210 : BitVec 32 := 1#32
  ⟨c0_i32_208, v386, c1_i32_210⟩
def k0_mult4 (i : grid0.Coords) (k0_t2 : Fin (k0_t2_loop i).trips) : BitVec 32 :=
  let c0_i32_208 : BitVec 32 := 0#32
  let c1_i32_210 : BitVec 32 := 1#32
  let arg25 : BitVec 32 := Scf.iv c0_i32_208 c1_i32_210 k0_t2
  let c1024_i32_254 : BitVec 32 := 1024#32
  let v505 : BitVec 32 := Scalar.muli arg25 c1024_i32_254
  v505
def k0_off14 (i : grid0.Coords) (k0_t2 : Fin (k0_t2_loop i).trips) : Fin 4 → Nat :=
  let c0_255 : Index := 0#32
  let c0_i32_208 : BitVec 32 := 0#32
  let c1_i32_210 : BitVec 32 := 1#32
  let arg25 : BitVec 32 := Scf.iv c0_i32_208 c1_i32_210 k0_t2
  let v507 : Index := Scalar.indexCast arg25
  let c0_256 : Index := 0#32
  let c0_257 : Index := 0#32
  ![0, v507.toNat, 0, 0]
def k0_mult5 (i : grid0.Coords) (k0_t2 : Fin (k0_t2_loop i).trips) : BitVec 32 :=
  let c0_i32_208 : BitVec 32 := 0#32
  let c1_i32_210 : BitVec 32 := 1#32
  let arg25 : BitVec 32 := Scf.iv c0_i32_208 c1_i32_210 k0_t2
  let c1024_i32_264 : BitVec 32 := 1024#32
  let v543 : BitVec 32 := Scalar.muli arg25 c1024_i32_264
  v543
def k0_off15 (i : grid0.Coords) (k0_t2 : Fin (k0_t2_loop i).trips) : Fin 4 → Nat :=
  let c1_265 : Index := 1#32
  let c0_i32_208 : BitVec 32 := 0#32
  let c1_i32_210 : BitVec 32 := 1#32
  let arg25 : BitVec 32 := Scf.iv c0_i32_208 c1_i32_210 k0_t2
  let v545 : Index := Scalar.indexCast arg25
  let c0_266 : Index := 0#32
  let c0_267 : Index := 0#32
  ![1, v545.toNat, 0, 0]
@[reducible] def k0_t3_loop (i : grid0.Coords) : Scf.Loop 32 :=
  let c0_i32_208 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let v382 : BitVec 32 := Scalar.subi v379 c0_i32_208
  let c1_i32_209 : BitVec 32 := 1#32
  let v384 : BitVec 32 := Scalar.divsi v382 c1_i32_209
  let v385 : BitVec 32 := Scalar.muli v384 c1_i32_209
  let v386 : BitVec 32 := Scalar.addi c0_i32_208 v385
  let v383 : BitVec 32 := Scalar.addi c0_i32_208 v382
  let c1_i32_211 : BitVec 32 := 1#32
  ⟨v386, v383, c1_i32_211⟩
def k0_mult6 (i : grid0.Coords) (k0_t3 : Fin (k0_t3_loop i).trips) : BitVec 32 :=
  let c0_i32_208 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let v382 : BitVec 32 := Scalar.subi v379 c0_i32_208
  let c1_i32_209 : BitVec 32 := 1#32
  let v384 : BitVec 32 := Scalar.divsi v382 c1_i32_209
  let v385 : BitVec 32 := Scalar.muli v384 c1_i32_209
  let v386 : BitVec 32 := Scalar.addi c0_i32_208 v385
  let c1_i32_211 : BitVec 32 := 1#32
  let arg25 : BitVec 32 := Scf.iv v386 c1_i32_211 k0_t3
  let c1024_i32_254 : BitVec 32 := 1024#32
  let v505 : BitVec 32 := Scalar.muli arg25 c1024_i32_254
  v505
def k0_off16 (i : grid0.Coords) (k0_t3 : Fin (k0_t3_loop i).trips) : Fin 4 → Nat :=
  let c0_255 : Index := 0#32
  let c0_i32_208 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let v382 : BitVec 32 := Scalar.subi v379 c0_i32_208
  let c1_i32_209 : BitVec 32 := 1#32
  let v384 : BitVec 32 := Scalar.divsi v382 c1_i32_209
  let v385 : BitVec 32 := Scalar.muli v384 c1_i32_209
  let v386 : BitVec 32 := Scalar.addi c0_i32_208 v385
  let c1_i32_211 : BitVec 32 := 1#32
  let arg25 : BitVec 32 := Scf.iv v386 c1_i32_211 k0_t3
  let v507 : Index := Scalar.indexCast arg25
  let c0_256 : Index := 0#32
  let c0_257 : Index := 0#32
  ![0, v507.toNat, 0, 0]
def k0_mult7 (i : grid0.Coords) (k0_t3 : Fin (k0_t3_loop i).trips) : BitVec 32 :=
  let c0_i32_208 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let v382 : BitVec 32 := Scalar.subi v379 c0_i32_208
  let c1_i32_209 : BitVec 32 := 1#32
  let v384 : BitVec 32 := Scalar.divsi v382 c1_i32_209
  let v385 : BitVec 32 := Scalar.muli v384 c1_i32_209
  let v386 : BitVec 32 := Scalar.addi c0_i32_208 v385
  let c1_i32_211 : BitVec 32 := 1#32
  let arg25 : BitVec 32 := Scf.iv v386 c1_i32_211 k0_t3
  let c1024_i32_264 : BitVec 32 := 1024#32
  let v543 : BitVec 32 := Scalar.muli arg25 c1024_i32_264
  v543
def k0_off17 (i : grid0.Coords) (k0_t3 : Fin (k0_t3_loop i).trips) : Fin 4 → Nat :=
  let c1_265 : Index := 1#32
  let c0_i32_208 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let v382 : BitVec 32 := Scalar.subi v379 c0_i32_208
  let c1_i32_209 : BitVec 32 := 1#32
  let v384 : BitVec 32 := Scalar.divsi v382 c1_i32_209
  let v385 : BitVec 32 := Scalar.muli v384 c1_i32_209
  let v386 : BitVec 32 := Scalar.addi c0_i32_208 v385
  let c1_i32_211 : BitVec 32 := 1#32
  let arg25 : BitVec 32 := Scf.iv v386 c1_i32_211 k0_t3
  let v545 : Index := Scalar.indexCast arg25
  let c0_266 : Index := 0#32
  let c0_267 : Index := 0#32
  ![1, v545.toNat, 0, 0]
def k0_mult8 (i : grid0.Coords) : BitVec 32 :=
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let c1024_i32 : BitVec 32 := 1024#32
  let v389 : BitVec 32 := Scalar.muli v379 c1024_i32
  v389
def k0_off18 (i : grid0.Coords) : Fin 4 → Nat :=
  let c0_212 : Index := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let v391 : Index := Scalar.indexCast v379
  let c0_213 : Index := 0#32
  let c0_214 : Index := 0#32
  ![0, v391.toNat, 0, 0]
def k0_mult9 (i : grid0.Coords) : BitVec 32 :=
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let c1024_i32_221 : BitVec 32 := 1024#32
  let v432 : BitVec 32 := Scalar.muli v379 c1024_i32_221
  v432
def k0_off19 (i : grid0.Coords) : Fin 4 → Nat :=
  let c1_222 : Index := 1#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let v434 : Index := Scalar.indexCast v379
  let c0_223 : Index := 0#32
  let c0_224 : Index := 0#32
  ![1, v434.toNat, 0, 0]
@[reducible] def k0_t4_loop (i : grid0.Coords) : Scf.Loop 32 :=
  let c0_i32_240 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let c1_i32_238 : BitVec 32 := 1#32
  let v483 : BitVec 32 := Scalar.addi v379 c1_i32_238
  let v484 : BitVec 32 := Scalar.subi v483 c0_i32_240
  let c1_i32_241 : BitVec 32 := 1#32
  let v486 : BitVec 32 := Scalar.divsi v484 c1_i32_241
  let v487 : BitVec 32 := Scalar.muli v486 c1_i32_241
  let v488 : BitVec 32 := Scalar.addi c0_i32_240 v487
  let c1_i32_242 : BitVec 32 := 1#32
  ⟨c0_i32_240, v488, c1_i32_242⟩
def k0_mult10 (i : grid0.Coords) (k0_t4 : Fin (k0_t4_loop i).trips) : BitVec 32 :=
  let c0_i32_240 : BitVec 32 := 0#32
  let c1_i32_242 : BitVec 32 := 1#32
  let arg25 : BitVec 32 := Scf.iv c0_i32_240 c1_i32_242 k0_t4
  let c1024_i32_254 : BitVec 32 := 1024#32
  let v505 : BitVec 32 := Scalar.muli arg25 c1024_i32_254
  v505
def k0_off20 (i : grid0.Coords) (k0_t4 : Fin (k0_t4_loop i).trips) : Fin 4 → Nat :=
  let c0_255 : Index := 0#32
  let c0_i32_240 : BitVec 32 := 0#32
  let c1_i32_242 : BitVec 32 := 1#32
  let arg25 : BitVec 32 := Scf.iv c0_i32_240 c1_i32_242 k0_t4
  let v507 : Index := Scalar.indexCast arg25
  let c0_256 : Index := 0#32
  let c0_257 : Index := 0#32
  ![0, v507.toNat, 0, 0]
def k0_off21 (i : grid0.Coords) (k0_t4 : Fin (k0_t4_loop i).trips) : Fin 3 → Nat :=
  let c0_261 : Index := 0#32
  let c0_i32_240 : BitVec 32 := 0#32
  let c1_i32_242 : BitVec 32 := 1#32
  let arg25 : BitVec 32 := Scf.iv c0_i32_240 c1_i32_242 k0_t4
  let c1024_i32_254 : BitVec 32 := 1024#32
  let v505 : BitVec 32 := Scalar.muli arg25 c1024_i32_254
  let v506 : BitVec 32 := v505
  let v516 : Index := Scalar.indexCast v506
  let c0_262 : Index := 0#32
  ![0, v516.toNat, 0]
def k0_off22 (i : grid0.Coords) (k0_t4 : Fin (k0_t4_loop i).trips) : Fin 4 → Nat :=
  let c1_267 : Index := 1#32
  let c0_i32_240 : BitVec 32 := 0#32
  let c1_i32_242 : BitVec 32 := 1#32
  let arg25 : BitVec 32 := Scf.iv c0_i32_240 c1_i32_242 k0_t4
  let v524 : Index := Scalar.indexCast arg25
  let c0_268 : Index := 0#32
  let c0_269 : Index := 0#32
  ![1, v524.toNat, 0, 0]
def k0_off23 (i : grid0.Coords) (k0_t4 : Fin (k0_t4_loop i).trips) : Fin 3 → Nat :=
  let c1_273 : Index := 1#32
  let c0_i32_240 : BitVec 32 := 0#32
  let c1_i32_242 : BitVec 32 := 1#32
  let arg25 : BitVec 32 := Scf.iv c0_i32_240 c1_i32_242 k0_t4
  let c1024_i32_254 : BitVec 32 := 1024#32
  let v505 : BitVec 32 := Scalar.muli arg25 c1024_i32_254
  let v506 : BitVec 32 := v505
  let v533 : Index := Scalar.indexCast v506
  let c0_274 : Index := 0#32
  ![1, v533.toNat, 0]
@[reducible] def k0_t5_loop (i : grid0.Coords) : Scf.Loop 32 :=
  let c0_i32_240 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let c1_i32_238 : BitVec 32 := 1#32
  let v483 : BitVec 32 := Scalar.addi v379 c1_i32_238
  let v484 : BitVec 32 := Scalar.subi v483 c0_i32_240
  let c1_i32_241 : BitVec 32 := 1#32
  let v486 : BitVec 32 := Scalar.divsi v484 c1_i32_241
  let v487 : BitVec 32 := Scalar.muli v486 c1_i32_241
  let v488 : BitVec 32 := Scalar.addi c0_i32_240 v487
  let v485 : BitVec 32 := Scalar.addi c0_i32_240 v484
  let c1_i32_243 : BitVec 32 := 1#32
  ⟨v488, v485, c1_i32_243⟩
def k0_mult11 (i : grid0.Coords) (k0_t5 : Fin (k0_t5_loop i).trips) : BitVec 32 :=
  let c0_i32_240 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let c1_i32_238 : BitVec 32 := 1#32
  let v483 : BitVec 32 := Scalar.addi v379 c1_i32_238
  let v484 : BitVec 32 := Scalar.subi v483 c0_i32_240
  let c1_i32_241 : BitVec 32 := 1#32
  let v486 : BitVec 32 := Scalar.divsi v484 c1_i32_241
  let v487 : BitVec 32 := Scalar.muli v486 c1_i32_241
  let v488 : BitVec 32 := Scalar.addi c0_i32_240 v487
  let c1_i32_243 : BitVec 32 := 1#32
  let arg25 : BitVec 32 := Scf.iv v488 c1_i32_243 k0_t5
  let c1024_i32_254 : BitVec 32 := 1024#32
  let v505 : BitVec 32 := Scalar.muli arg25 c1024_i32_254
  v505
def k0_off24 (i : grid0.Coords) (k0_t5 : Fin (k0_t5_loop i).trips) : Fin 4 → Nat :=
  let c0_255 : Index := 0#32
  let c0_i32_240 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let c1_i32_238 : BitVec 32 := 1#32
  let v483 : BitVec 32 := Scalar.addi v379 c1_i32_238
  let v484 : BitVec 32 := Scalar.subi v483 c0_i32_240
  let c1_i32_241 : BitVec 32 := 1#32
  let v486 : BitVec 32 := Scalar.divsi v484 c1_i32_241
  let v487 : BitVec 32 := Scalar.muli v486 c1_i32_241
  let v488 : BitVec 32 := Scalar.addi c0_i32_240 v487
  let c1_i32_243 : BitVec 32 := 1#32
  let arg25 : BitVec 32 := Scf.iv v488 c1_i32_243 k0_t5
  let v507 : Index := Scalar.indexCast arg25
  let c0_256 : Index := 0#32
  let c0_257 : Index := 0#32
  ![0, v507.toNat, 0, 0]
def k0_off25 (i : grid0.Coords) (k0_t5 : Fin (k0_t5_loop i).trips) : Fin 3 → Nat :=
  let c0_261 : Index := 0#32
  let c0_i32_240 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let c1_i32_238 : BitVec 32 := 1#32
  let v483 : BitVec 32 := Scalar.addi v379 c1_i32_238
  let v484 : BitVec 32 := Scalar.subi v483 c0_i32_240
  let c1_i32_241 : BitVec 32 := 1#32
  let v486 : BitVec 32 := Scalar.divsi v484 c1_i32_241
  let v487 : BitVec 32 := Scalar.muli v486 c1_i32_241
  let v488 : BitVec 32 := Scalar.addi c0_i32_240 v487
  let c1_i32_243 : BitVec 32 := 1#32
  let arg25 : BitVec 32 := Scf.iv v488 c1_i32_243 k0_t5
  let c1024_i32_254 : BitVec 32 := 1024#32
  let v505 : BitVec 32 := Scalar.muli arg25 c1024_i32_254
  let v506 : BitVec 32 := v505
  let v516 : Index := Scalar.indexCast v506
  let c0_262 : Index := 0#32
  ![0, v516.toNat, 0]
def k0_off26 (i : grid0.Coords) (k0_t5 : Fin (k0_t5_loop i).trips) : Fin 4 → Nat :=
  let c1_267 : Index := 1#32
  let c0_i32_240 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let c1_i32_238 : BitVec 32 := 1#32
  let v483 : BitVec 32 := Scalar.addi v379 c1_i32_238
  let v484 : BitVec 32 := Scalar.subi v483 c0_i32_240
  let c1_i32_241 : BitVec 32 := 1#32
  let v486 : BitVec 32 := Scalar.divsi v484 c1_i32_241
  let v487 : BitVec 32 := Scalar.muli v486 c1_i32_241
  let v488 : BitVec 32 := Scalar.addi c0_i32_240 v487
  let c1_i32_243 : BitVec 32 := 1#32
  let arg25 : BitVec 32 := Scf.iv v488 c1_i32_243 k0_t5
  let v524 : Index := Scalar.indexCast arg25
  let c0_268 : Index := 0#32
  let c0_269 : Index := 0#32
  ![1, v524.toNat, 0, 0]
def k0_off27 (i : grid0.Coords) (k0_t5 : Fin (k0_t5_loop i).trips) : Fin 3 → Nat :=
  let c1_273 : Index := 1#32
  let c0_i32_240 : BitVec 32 := 0#32
  let arg1 : BitVec 32 := BitVec.ofNat 32 (i 1).val
  let c0_i32_200 : BitVec 32 := 0#32
  let v364 : BitVec 1 := Scalar.cmpi .sgt arg1 c0_i32_200
  let v365 : BitVec 32 := Scalar.extui v364
  let c0_i32_201 : BitVec 32 := 0#32
  let v366 : BitVec 1 := Scalar.cmpi .slt arg1 c0_i32_201
  let v367 : BitVec 32 := Scalar.extui v366
  let v368 : BitVec 32 := Scalar.subi v365 v367
  let c4_i32 : BitVec 32 := 4#32
  let c0_i32_202 : BitVec 32 := 0#32
  let v369 : BitVec 1 := Scalar.cmpi .sgt c4_i32 c0_i32_202
  let v370 : BitVec 32 := Scalar.extui v369
  let c0_i32_203 : BitVec 32 := 0#32
  let v371 : BitVec 1 := Scalar.cmpi .slt c4_i32 c0_i32_203
  let v372 : BitVec 32 := Scalar.extui v371
  let v373 : BitVec 32 := Scalar.subi v370 v372
  let v374 : BitVec 1 := Scalar.cmpi .ne v368 v373
  let v375 : BitVec 32 := Scalar.remsi arg1 c4_i32
  let c0_i32_204 : BitVec 32 := 0#32
  let v376 : BitVec 1 := Scalar.cmpi .ne v375 c0_i32_204
  let v377 : BitVec 1 := Scalar.andi v374 v376
  let v363 : BitVec 32 := Scalar.divsi arg1 c4_i32
  let c1_i32_205 : BitVec 32 := 1#32
  let v378 : BitVec 32 := Scalar.subi v363 c1_i32_205
  let v379 : BitVec 32 := Scalar.select v377 v378 v363
  let c1_i32_238 : BitVec 32 := 1#32
  let v483 : BitVec 32 := Scalar.addi v379 c1_i32_238
  let v484 : BitVec 32 := Scalar.subi v483 c0_i32_240
  let c1_i32_241 : BitVec 32 := 1#32
  let v486 : BitVec 32 := Scalar.divsi v484 c1_i32_241
  let v487 : BitVec 32 := Scalar.muli v486 c1_i32_241
  let v488 : BitVec 32 := Scalar.addi c0_i32_240 v487
  let c1_i32_243 : BitVec 32 := 1#32
  let arg25 : BitVec 32 := Scf.iv v488 c1_i32_243 k0_t5
  let c1024_i32_254 : BitVec 32 := 1024#32
  let v505 : BitVec 32 := Scalar.muli arg25 c1024_i32_254
  let v506 : BitVec 32 := v505
  let v533 : Index := Scalar.indexCast v506
  let c0_274 : Index := 0#32
  ![1, v533.toNat, 0]
def k0_cond2 (i : grid0.Coords) : BitVec 1 :=
  let arg0 : BitVec 32 := BitVec.ofNat 32 (i 0).val
  let c32_i32 : BitVec 32 := 32#32
  let v6 : BitVec 32 := Scalar.muli arg0 c32_i32
  let arg1 : BitVec 32 := BitVec.ofNat 32 (i 1).val
  let v7 : BitVec 32 := Scalar.addi v6 arg1
  let c255_i32 : BitVec 32 := 255#32
  let v107 : BitVec 1 := Scalar.cmpi .eq v7 c255_i32
  let v108 : BitVec 32 := Scalar.extui v107
  let c0_i32_74 : BitVec 32 := 0#32
  let v109 : BitVec 1 := Scalar.cmpi .ne v108 c0_i32_74
  v109

def k0_cond4 (i : grid0.Coords) : BitVec 1 :=
  let arg0 : BitVec 32 := BitVec.ofNat 32 (i 0).val
  let c32_i32 : BitVec 32 := 32#32
  let v6 : BitVec 32 := Scalar.muli arg0 c32_i32
  let arg1 : BitVec 32 := BitVec.ofNat 32 (i 1).val
  let v7 : BitVec 32 := Scalar.addi v6 arg1
  let c255_i32_149 : BitVec 32 := 255#32
  let v209 : BitVec 1 := Scalar.cmpi .eq v7 c255_i32_149
  let v210 : BitVec 32 := Scalar.extui v209
  let c0_i32_150 : BitVec 32 := 0#32
  let v211 : BitVec 1 := Scalar.cmpi .ne v210 c0_i32_150
  v211

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S688x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x12288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x12288 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x12288 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x12288 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S688x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S688x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x12288 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x12288 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== MobaRefIdeal.lean ====
abbrev S8192x2048 : Shape := ⟨2, ![8192, 2048]⟩
abbrev S8192x4096 : Shape := ⟨2, ![8192, 4096]⟩
abbrev S11008x4096 : Shape := ⟨2, ![11008, 4096]⟩
abbrev S1x4096 : Shape := ⟨2, ![1, 4096]⟩
abbrev S4096x12288 : Shape := ⟨2, ![4096, 12288]⟩
abbrev S12288 : Shape := ⟨1, ![12288]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S11008x4096, .f32⟩
  | .hbm, ⟨3, _⟩ => ⟨S11008x4096, .f32⟩
  | .hbm, ⟨4, _⟩ => ⟨S1x4096, .f32⟩
  | .hbm, ⟨5, _⟩ => ⟨S4096x12288, .f32⟩
  | .hbm, ⟨6, _⟩ => ⟨S12288, .f32⟩
  | .hbm, ⟨7, _⟩ => ⟨S4096x12288, .f32⟩
  | .hbm, ⟨8, _⟩ => ⟨S12288, .f32⟩
  | .hbm, ⟨9, _⟩ => ⟨S11008x4096, .bf16⟩
  | .hbm, ⟨10, _⟩ => ⟨S11008x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩

abbrev nD : Nat := 1
abbrev τ : Topo := Topo.v7x

variable {F : FTy → Type} [FloatOps F]
-- ==== Proof.MobaRun.lean ====
/- What the body of the block-sparse attention call does to the memory it is handed, in the bits of the machine. The values it
   computes are not followed here: each part of the body is shown to run from any contents of the buffers it may store into,
   and to leave the buffers it only reads as they were. -/
module

public import proofs.«01_k».proof.Proof.Gen.Moba.Frame
public import Idealize.ShloMosaic.Lib.Pipeline.ValueKit

@[expose] public section

set_option maxRecDepth 16384

noncomputable section

namespace Cert.Moba.Run

open Cert.Moba Cert.Moba.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of assertions the run is stated over. -/
abbrev MM (F : FTy → Type) [FloatOps F] := MT nD τ sig Unit (Elt F) ℕ (UR sig nD τ) ℕ

/-! ## Programs that keep an assertion -/

/-- The program runs from `R` and gives `R` back, whatever it returns. -/
def Keeps (c : Dev nD) (R : sProp (MM F)) {α : Type} (p : Prog (TpuEff nD τ sig (Elt F) Λ₀ .tc) α) : Prop :=
  R ⊢ wp frame (wpE (defs₀ (F := F)) Variants.none (c : Thread nD τ) none) Set.univ p (fun _ => R)

/-- `R` holds the buffer at some contents, and is had again once the same contents are given back. -/
structure Reads (c : Dev nD) (R : sProp (MM F)) {sp : CoreSpace} {s : Shape} {e : EltTy} (m : Memref sig (Proc.kind (τ := τ) .tc) sp s e) : Prop where
  /-- the step -/
  out : R ⊢ iprop(∃ d, owns (c : Thread nD τ) m fullShare d ∗ (owns (c : Thread nD τ) m fullShare d -∗ R))

/-- `R` holds the buffer at some contents, and is had again once any contents are given back. -/
structure Stores (c : Dev nD) (R : sProp (MM F)) {sp : CoreSpace} {s : Shape} {e : EltTy} (m : Memref sig (Proc.kind (τ := τ) .tc) sp s e) : Prop where
  /-- the step -/
  out : R ⊢ iprop(∃ d, owns (c : Thread nD τ) m fullShare d ∗ (∀ d', owns (c : Thread nD τ) m fullShare d' -∗ R))

section Rules

variable {c : Dev nD} {R : sProp (MM F)}

theorem Stores.reads {sp : CoreSpace} {s : Shape} {e : EltTy} {m : Memref sig (Proc.kind (τ := τ) .tc) sp s e} (h : Stores c R m) : Reads c R m := by
  refine ⟨h.out.trans ?_⟩
  iintro ⟨%d, H, HR⟩
  iexists d
  isplitl [H]; · iexact H
  iintro H
  iapply HR
  iexact H

theorem keeps_pure {α : Type} (a : α) : Keeps c R (pure a) := by
  unfold Keeps
  rw [wp_pure]
  iintro H
  imodintro
  iexact H

theorem keeps_bind {α β : Type} {p : Prog (TpuEff nD τ sig (Elt F) Λ₀ .tc) α} {k : α → Prog (TpuEff nD τ sig (Elt F) Λ₀ .tc) β}
    (hp : Keeps c R p) (hk : ∀ a, Keeps c R (k a)) : Keeps c R (p >>= k) := by
  unfold Keeps
  rw [wp_bind]
  exact BIBase.Entails.trans hp (wp_mono _ _ _ fun a => hk a)

theorem keeps_load {sp : CoreSpace} {s : Shape} {e : EltTy} {m : Memref sig (Proc.kind (τ := τ) .tc) sp s e} {r : LoadRect s} {hl : m.view.LoadsAt r}
    (h : Reads c R m) : Keeps c R (Prog.lift (.load m r hl)) := by
  unfold Keeps
  refine h.out.trans ?_
  unfold owns
  iintro ⟨%d, ⟨%f, %hf, H⟩, HR⟩
  iapply (wp_load Variants.none (c : Thread nD τ) none Set.univ (View.setOn_subset_set _ _)) $$ H
  iintro H
  rw [wp_ret]
  imodintro
  iapply HR
  iexists f
  isplitr; · ipureintro; exact hf
  iexact H

theorem keeps_store {sp : CoreSpace} {s : Shape} {e : EltTy} {m : Memref sig (Proc.kind (τ := τ) .tc) sp s e} {r : Rect s} {w : r.shape.Idx → Elt F e} {Mk : Finset r.shape.Idx}
    {hx : (m.access r).Stores Mk} {hm : Mk = Finset.univ ∨ ∀ a, r.stride a = 1} (h : Stores c R m) : Keeps c R (Prog.lift (.store m r w Mk hx hm)) := by
  unfold Keeps
  refine h.out.trans ?_
  unfold owns
  iintro ⟨%d, ⟨%f, %hf, H⟩, HR⟩
  iapply (wp_store (m := m) (r := r) (w := w) (Mk := Mk) (hx := hx) (hm := hm) (f := f) Variants.none (c : Thread nD τ) none Set.univ ((View.setOn_subset_set (m.access r) Mk).trans (View.set_slice_subset m.view r))) $$ H
  iintro H
  rw [wp_ret]
  imodintro
  iapply HR
  iexists _
  isplitr
  swap; · iexact H
  ipureintro
  rfl

theorem keeps_smem {s : Shape} {e : EltTy} {m : Memref sig (Proc.kind (τ := τ) .tc) .smem s e} {r : Rect s} {h1 : r.shape.numel = 1} {hp : e.packing = 1}
    (h : Reads c R m) : Keeps c R (smemLoad (Val := Elt F) (Λ := Λ₀) (nD := nD) (τ := τ) (p := .tc) m r h1 hp) := by
  have := keeps_load (r := r.toLoadRect) (hl := View.loadsAt_rect (View.loads_smem_one hp h1)) h
  exact this

theorem keeps_for {w : ℕ} {σ : Type} {l : Scf.Loop w} {hok : l.OK} {init : σ} {body : Fin l.trips → σ → Prog (TpuEff nD τ sig (Elt F) Λ₀ .tc) σ}
    (h : ∀ k s, Keeps c R (body k s)) : Keeps c R (Scf.Loop.for l hok init body) := by
  unfold Keeps
  refine BIBase.Entails.trans ?_ (Scf.wp_for _ _ _ _ _ _ hok init body (fun _ _ => R) (fun k s => h k s))
  iintro H
  isplitl [H]; · iexact H
  iintro %s H
  iexact H

theorem keeps_bind_pair {α α' β : Type} {p : Prog (TpuEff nD τ sig (Elt F) Λ₀ .tc) (α × α')} {k : α × α' → Prog (TpuEff nD τ sig (Elt F) Λ₀ .tc) β}
    (hp : Keeps c R p) (hk : ∀ a b, Keeps c R (k (a, b))) : Keeps c R (p >>= k) :=
  keeps_bind hp fun x => hk x.1 x.2

theorem keeps_for_pair {w : ℕ} {σ σ' : Type} {l : Scf.Loop w} {hok : l.OK} {init : σ × σ'} {body : Fin l.trips → σ × σ' → Prog (TpuEff nD τ sig (Elt F) Λ₀ .tc) (σ × σ')}
    (h : ∀ k a b, Keeps c R (body k (a, b))) : Keeps c R (Scf.Loop.for l hok init body) :=
  keeps_for fun k x => h k x.1 x.2

theorem keeps_dite {α : Type} {b : Prop} [Decidable b] {p : b → Prog (TpuEff nD τ sig (Elt F) Λ₀ .tc) α} {q : ¬ b → Prog (TpuEff nD τ sig (Elt F) Λ₀ .tc) α}
    (hp : ∀ h, Keeps c R (p h)) (hq : ∀ h, Keeps c R (q h)) : Keeps c R (dite b p q) := by
  by_cases h : b
  · rw [dif_pos h]; exact hp h
  · rw [dif_neg h]; exact hq h

end Rules

/-! ## The parts of the body -/

section Parts

variable {c : Dev nD} {R : sProp (MM F)} (i : grid0.Coords) (arg2 : Memref sig .tc .smem S16 .f32) (harg2 : arg2.IsWhole) (arg3 : Memref sig .tc .vmem S256x256 .f32) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S688x256 .f32) (harg6 : arg6.IsWhole) (arg7 : Memref sig .tc .vmem S688x256 .f32) (harg7 : arg7.IsWhole) (arg8 : Memref sig .tc .vmem S16x128 .f32) (harg8 : arg8.IsWhole) (arg9 : Memref sig .tc .vmem S16x12288 .f32) (harg9 : arg9.IsWhole) (arg10 : Memref sig .tc .vmem S1x12288 .f32) (harg10 : arg10.IsWhole) (arg11 : Memref sig .tc .vmem S16x12288 .f32) (harg11 : arg11.IsWhole) (arg12 : Memref sig .tc .vmem S1x12288 .f32) (harg12 : arg12.IsWhole) (arg13 : Memref sig .tc .vmem S256x256 .bf16) (harg13 : arg13.IsWhole) (arg14 : Memref sig .tc .vmem S688x256 .bf16) (harg14 : arg14.IsWhole) (arg15 : Memref sig .tc .vmem S688x256 .bf16) (harg15 : arg15.IsWhole) (arg16 : Memref sig .tc .vmem S1x12288 .f32) (harg16 : arg16.IsWhole) (arg17 : Memref sig .tc .vmem S1x12288 .f32) (harg17 : arg17.IsWhole) (arg18 : Memref sig .tc .vmem S2x8x256x1024 .bf16) (harg18 : arg18.IsWhole) (arg19 : Memref sig .tc .vmem S2x8192x256 .bf16) (harg19 : arg19.IsWhole) (arg20 : Memref sig .tc .vmem S2x128x128 .f32) (harg20 : arg20.IsWhole) (arg21 : Memref sig .tc .vmem S2x8x256x1024 .f32) (harg21 : arg21.IsWhole) (arg22 : Memref sig .tc .vmem S2x256x256 .f32) (harg22 : arg22.IsWhole) (arg23 : Memref sig .tc .vmem S8x12288 .f32) (harg23 : arg23.IsWhole) (arg24 : Memref sig .tc .vmem S8x12288 .f32) (harg24 : arg24.IsWhole)
variable (h2 : Reads c R arg2) (h3 : Reads c R arg3) (h4 : Reads c R arg4) (h5 : Reads c R arg5) (h6 : Reads c R arg6) (h7 : Reads c R arg7) (h8 : Reads c R arg8) (h9 : Reads c R arg9) (h10 : Reads c R arg10) (h11 : Reads c R arg11) (h12 : Reads c R arg12) (h13 : Stores c R arg13) (h14 : Stores c R arg14) (h15 : Stores c R arg15) (h16 : Stores c R arg16) (h17 : Stores c R arg17) (h18 : Stores c R arg18) (h19 : Stores c R arg19) (h20 : Stores c R arg20) (h21 : Stores c R arg21) (h22 : Stores c R arg22) (h23 : Stores c R arg23) (h24 : Stores c R arg24)
include h2 h3 h4 h5 h6 h7 h8 h9 h10 h11 h12 h13 h14 h15 h16 h17 h18 h19 h20 h21 h22 h23 h24

set_option maxHeartbeats 4000000 in
/-- Part 1 of the body keeps `R`. -/
theorem part1 (k0_h5 : k0_cond5 i = 1#1) (v509 : IVec S2048x128 32) (v510 : IVec S128x1024 32) (v511 : IVec S128x1024 32) (c0_i32_258 : BitVec 32) (c1_i32_260 : BitVec 32) (k0_t1 : Fin k0_t1_loop.trips) : Keeps c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h5 v509 v510 v511 c0_i32_258 c1_i32_260 k0_t1) := by
  unfold k0_part1
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 2 of the body keeps `R`. -/
theorem part2 (k0_h5 : k0_cond5 i = 1#1) (v510 : IVec S128x1024 32) (v511 : IVec S128x1024 32) (k0_t1 : Fin k0_t1_loop.trips) (arg25 : BitVec 32) (v514 : BitVec 32) (v520 : FVec F S2048x128 .bf16) (v522 : Vec F S2048x128 .bf16) (v548 : BitVec 32) (v549 : BitVec 32) : Keeps c R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h5 v510 v511 k0_t1 arg25 v514 v520 v522 v548 v549) := by
  unfold k0_part2
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 3 of the body keeps `R`. -/
theorem part3 (k0_h5 : k0_cond5 i = 1#1) (v510 : IVec S128x1024 32) (v511 : IVec S128x1024 32) (k0_t1 : Fin k0_t1_loop.trips) (arg25 : BitVec 32) (v514 : BitVec 32) (v585 : FVec F S8x128 .f32) (v587 : BitVec 32) : Keeps c R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h5 v510 v511 k0_t1 arg25 v514 v585 v587) := by
  unfold k0_part3
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 4 of the body keeps `R`. -/
theorem part4 (k0_h5 : k0_cond5 i = 1#1) (v509 : IVec S2048x128 32) (v510 : IVec S128x1024 32) (v511 : IVec S128x1024 32) (c0_i32_258 : BitVec 32) (c1_i32_260 : BitVec 32) (k0_t1 : Fin k0_t1_loop.trips) : Keeps c R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h5 v509 v510 v511 c0_i32_258 c1_i32_260 k0_t1) := by
  unfold k0_part4
  repeat' first
    | (with_reducible refine keeps_bind (part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _) ?_; rintro ⟨arg25, v514, v520, v522, v548, v549⟩)
    | with_reducible exact part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _
    | (with_reducible refine keeps_bind (part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _ _ _ _) ?_; rintro ⟨v585, v587⟩)
    | with_reducible exact part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _ _ _ _
    | (with_reducible refine keeps_bind (part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _ _) ?_; rintro ⟨v593, v619, v625, v626⟩)
    | with_reducible exact part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _ _
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 5 of the body keeps `R`. -/
theorem part5 (arg1 : BitVec 32) (v218 : Elt F .f32) (v293 : FVec F S256x256 .bf16) (c0_i32_208 : BitVec 32) (c1_i32_210 : BitVec 32) (k0_t2 : Fin (k0_t2_loop i).trips) (arg26 : FVec F S256x128 .f32) : Keeps c R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v218 v293 c0_i32_208 c1_i32_210 k0_t2 arg26) := by
  unfold k0_part5
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 6 of the body keeps `R`. -/
theorem part6 (arg1 : BitVec 32) (v218 : Elt F .f32) (v293 : FVec F S256x256 .bf16) (v386 : BitVec 32) (c1_i32_211 : BitVec 32) (k0_t3 : Fin (k0_t3_loop i).trips) (arg26 : FVec F S256x128 .f32) : Keeps c R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v218 v293 v386 c1_i32_211 k0_t3 arg26) := by
  unfold k0_part6
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 7 of the body keeps `R`. -/
theorem part7 (v476 : FVec F S256x1 .f32) (v478 : FVec F S256x1 .f32) (c0_i32_240 : BitVec 32) (c1_i32_242 : BitVec 32) (k0_t4 : Fin (k0_t4_loop i).trips) : Keeps c R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v476 v478 c0_i32_240 c1_i32_242 k0_t4) := by
  unfold k0_part7
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 8 of the body keeps `R`. -/
theorem part8 (v476 : FVec F S256x1 .f32) (v478 : FVec F S256x1 .f32) (v488 : BitVec 32) (c1_i32_243 : BitVec 32) (k0_t5 : Fin (k0_t5_loop i).trips) : Keeps c R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v476 v478 v488 c1_i32_243 k0_t5) := by
  unfold k0_part8
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 9 of the body keeps `R`. -/
theorem part9  : Keeps c R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  unfold k0_part9
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 10 of the body keeps `R`. -/
theorem part10 (v27 : Vec F S8x2048 .f32) : Keeps c R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v27) := by
  unfold k0_part10
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 11 of the body keeps `R`. -/
theorem part11 (v59 : Vec F S8x2048 .f32) (v60 : Vec F S8x128 .f32) : Keeps c R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v59 v60) := by
  unfold k0_part11
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 12 of the body keeps `R`. -/
theorem part12 (v7 : BitVec 32) (v91 : Vec F S8x2048 .f32) (v94 : FVec F S8x2048 .f32) : Keeps c R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v7 v91 v94) := by
  unfold k0_part12
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 13 of the body keeps `R`. -/
theorem part13 (v125 : FVec F S8x2048 .f32) : Keeps c R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v125) := by
  unfold k0_part13
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 14 of the body keeps `R`. -/
theorem part14  : Keeps c R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  unfold k0_part14
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 15 of the body keeps `R`. -/
theorem part15 (arg0 : BitVec 32) (arg1 : BitVec 32) (v7 : BitVec 32) : Keeps c R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v7) := by
  unfold k0_part15
  repeat' first
    | with_reducible exact part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 16 of the body keeps `R`. -/
theorem part16 (arg1 : BitVec 32) (v223 : IVec S32x256 32) (v224 : FVec F S32x256 .f32) (v225 : Vec F S256x128 .f32) (v226 : Vec F S1x128x128 .f32) : Keeps c R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v223 v224 v225 v226) := by
  unfold k0_part16
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 17 of the body keeps `R`. -/
theorem part17 (arg1 : BitVec 32) (v223 : IVec S32x256 32) (v224 : FVec F S32x256 .f32) (v225 : Vec F S256x128 .f32) (v267 : IVec S32x256 1) (v271 : FVec F S1x256 .f32) (v273 : IVec S32x256 1) : Keeps c R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v223 v224 v225 v267 v271 v273) := by
  unfold k0_part17
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 18 of the body keeps `R`. -/
theorem part18 (v224 : FVec F S32x256 .f32) (v294 : Vec F S256x128 .f32) (v302 : FVec F S32x256 .f32) (v304 : IVec S32x256 1) (v314 : IVec S32x256 1) (v316 : IVec S1x256 1) : Keeps c R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v224 v294 v302 v304 v314 v316) := by
  unfold k0_part18
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 19 of the body keeps `R`. -/
theorem part19 (arg1 : BitVec 32) (v218 : Elt F .f32) (v222 : Elt F .f32) (v293 : FVec F S256x256 .bf16) (v362 : FVec F S256x256 .bf16) (c4_i32 : BitVec 32) : Keeps c R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v218 v222 v293 v362 c4_i32) := by
  unfold k0_part19
  repeat' first
    | (with_reducible refine keeps_bind (part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _) ?_; rintro ⟨arg25, v542, v544, v547, cst_268⟩)
    | with_reducible exact part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _
    | (with_reducible refine keeps_bind (part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _) ?_; rintro ⟨arg25, v542, v544, v547, cst_268⟩)
    | with_reducible exact part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 20 of the body keeps `R`. -/
theorem part20 (arg1 : BitVec 32) (v222 : Elt F .f32) (v362 : FVec F S256x256 .bf16) (v379 : BitVec 32) (v388_0 : FVec F S256x128 .f32) (v396 : FVec F S256x1024 .f32) (v401 : IVec S1x1024 32) (v402 : FVec F S1x1024 .f32) (v403 : FVec F S1x1024 .f32) : Keeps c R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v222 v362 v379 v388_0 v396 v401 v402 v403) := by
  unfold k0_part20
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 21 of the body keeps `R`. -/
theorem part21 (v379 : BitVec 32) (v388_1 : FVec F S256x128 .f32) (v431 : FVec F S256x128 .f32) (v449 : FVec F S256x1024 .f32) (v450 : IVec S256x1024 32) (v451 : IVec S256x1024 32) : Keeps c R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v379 v388_1 v431 v449 v450 v451) := by
  unfold k0_part21
  repeat' first
    | with_reducible exact part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _
    | with_reducible exact part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- The whole body keeps `R`. -/
theorem body  : Keeps c R (cc0_moba (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  unfold cc0_moba
  repeat' first
    | (with_reducible refine keeps_bind (part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24) ?_; rintro ⟨arg0, arg1, v7, v27⟩)
    | with_reducible exact part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24
    | (with_reducible refine keeps_bind (part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _) ?_; rintro ⟨v59, v60⟩)
    | with_reducible exact part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _
    | (with_reducible refine keeps_bind (part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _) ?_; rintro ⟨v91, v94⟩)
    | with_reducible exact part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _
    | with_reducible exact part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _
    | with_reducible exact part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _
    | with_reducible exact part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24
    | (with_reducible refine keeps_bind (part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _) ?_; rintro ⟨v218, v222, v223, v224, v225, v226⟩)
    | with_reducible exact part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _
    | (with_reducible refine keeps_bind (part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _) ?_; rintro ⟨v267, v271, v273⟩)
    | with_reducible exact part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _
    | (with_reducible refine keeps_bind (part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _) ?_; rintro ⟨v293, v294, v302, v304, v314, v316⟩)
    | with_reducible exact part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _
    | (with_reducible refine keeps_bind (part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _) ?_; rintro ⟨v362, c4_i32⟩)
    | with_reducible exact part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _
    | (with_reducible refine keeps_bind (part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _) ?_; rintro ⟨v379, v388_0, v388_1, v396, v401, v402, v403⟩)
    | with_reducible exact part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _
    | (with_reducible refine keeps_bind (part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _ _ _) ?_; rintro ⟨v431, v449, v450, v451⟩)
    | with_reducible exact part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _ _ _ _
    | with_reducible exact part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h14 h15 h16 h17 h18 h19 h20 h21 h22 h23 h24 _ _ _ _ _ _
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

end Parts

end Cert.Moba.Run

end
-- ==== Proof.MobaIdealRun.lean ====
/- What the body of the block-sparse attention call does to the memory it is handed, over the extended reals. The two copies
   of the down-projection weights are followed: they are the body's first two stores. The other values it computes are not: each
   part of the body is shown to run from any contents of the buffers it may store into, and to leave the buffers it only reads,
   and from then on the two copies, as they were. -/
module

public import proofs.«01_k».proof.Proof.Gen.MobaIdeal.Frame
public import Idealize.ShloMosaic.Lib.Pipeline.ValueKit
public import Idealize.ShloMosaic.Lib.VecWindow

@[expose] public section

set_option maxRecDepth 16384

noncomputable section

namespace Cert.MobaIdeal.Run

open Cert.MobaIdeal Cert.MobaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of assertions the run is stated over. -/
abbrev MM (F : FTy → Type) [FloatOps F] := MT nD τ sig Unit (Elt F) ℕ (UR sig nD τ) ℕ

/-! ## Programs that keep an assertion -/

/-- The program runs from `R` and gives `R` back, whatever it returns. -/
def Keeps (c : Dev nD) (R : sProp (MM F)) {α : Type} (p : Prog (TpuEff nD τ sig (Elt F) Λ₀ .tc) α) : Prop :=
  R ⊢ wp frame (wpE (defs₀ (F := F)) Variants.none (c : Thread nD τ) none) Set.univ p (fun _ => R)

/-- `R` holds the buffer at some contents, and is had again once the same contents are given back. -/
structure Reads (c : Dev nD) (R : sProp (MM F)) {sp : CoreSpace} {s : Shape} {e : EltTy} (m : Memref sig (Proc.kind (τ := τ) .tc) sp s e) : Prop where
  /-- the step -/
  out : R ⊢ iprop(∃ d, owns (c : Thread nD τ) m fullShare d ∗ (owns (c : Thread nD τ) m fullShare d -∗ R))

/-- `R` holds the buffer at some contents, and is had again once any contents are given back. -/
structure Stores (c : Dev nD) (R : sProp (MM F)) {sp : CoreSpace} {s : Shape} {e : EltTy} (m : Memref sig (Proc.kind (τ := τ) .tc) sp s e) : Prop where
  /-- the step -/
  out : R ⊢ iprop(∃ d, owns (c : Thread nD τ) m fullShare d ∗ (∀ d', owns (c : Thread nD τ) m fullShare d' -∗ R))

section Rules

variable {c : Dev nD} {R : sProp (MM F)}

theorem Stores.reads {sp : CoreSpace} {s : Shape} {e : EltTy} {m : Memref sig (Proc.kind (τ := τ) .tc) sp s e} (h : Stores c R m) : Reads c R m := by
  refine ⟨h.out.trans ?_⟩
  iintro ⟨%d, H, HR⟩
  iexists d
  isplitl [H]; · iexact H
  iintro H
  iapply HR
  iexact H

theorem keeps_pure {α : Type} (a : α) : Keeps c R (pure a) := by
  unfold Keeps
  rw [wp_pure]
  iintro H
  imodintro
  iexact H

theorem keeps_bind {α β : Type} {p : Prog (TpuEff nD τ sig (Elt F) Λ₀ .tc) α} {k : α → Prog (TpuEff nD τ sig (Elt F) Λ₀ .tc) β}
    (hp : Keeps c R p) (hk : ∀ a, Keeps c R (k a)) : Keeps c R (p >>= k) := by
  unfold Keeps
  rw [wp_bind]
  exact BIBase.Entails.trans hp (wp_mono _ _ _ fun a => hk a)

theorem keeps_load {sp : CoreSpace} {s : Shape} {e : EltTy} {m : Memref sig (Proc.kind (τ := τ) .tc) sp s e} {r : LoadRect s} {hl : m.view.LoadsAt r}
    (h : Reads c R m) : Keeps c R (Prog.lift (.load m r hl)) := by
  unfold Keeps
  refine h.out.trans ?_
  unfold owns
  iintro ⟨%d, ⟨%f, %hf, H⟩, HR⟩
  iapply (wp_load Variants.none (c : Thread nD τ) none Set.univ (View.setOn_subset_set _ _)) $$ H
  iintro H
  rw [wp_ret]
  imodintro
  iapply HR
  iexists f
  isplitr; · ipureintro; exact hf
  iexact H

theorem keeps_store {sp : CoreSpace} {s : Shape} {e : EltTy} {m : Memref sig (Proc.kind (τ := τ) .tc) sp s e} {r : Rect s} {w : r.shape.Idx → Elt F e} {Mk : Finset r.shape.Idx}
    {hx : (m.access r).Stores Mk} {hm : Mk = Finset.univ ∨ ∀ a, r.stride a = 1} (h : Stores c R m) : Keeps c R (Prog.lift (.store m r w Mk hx hm)) := by
  unfold Keeps
  refine h.out.trans ?_
  unfold owns
  iintro ⟨%d, ⟨%f, %hf, H⟩, HR⟩
  iapply (wp_store (m := m) (r := r) (w := w) (Mk := Mk) (hx := hx) (hm := hm) (f := f) Variants.none (c : Thread nD τ) none Set.univ ((View.setOn_subset_set (m.access r) Mk).trans (View.set_slice_subset m.view r))) $$ H
  iintro H
  rw [wp_ret]
  imodintro
  iapply HR
  iexists _
  isplitr
  swap; · iexact H
  ipureintro
  rfl

theorem keeps_smem {s : Shape} {e : EltTy} {m : Memref sig (Proc.kind (τ := τ) .tc) .smem s e} {r : Rect s} {h1 : r.shape.numel = 1} {hp : e.packing = 1}
    (h : Reads c R m) : Keeps c R (smemLoad (Val := Elt F) (Λ := Λ₀) (nD := nD) (τ := τ) (p := .tc) m r h1 hp) := by
  have := keeps_load (r := r.toLoadRect) (hl := View.loadsAt_rect (View.loads_smem_one hp h1)) h
  exact this

theorem keeps_for {w : ℕ} {σ : Type} {l : Scf.Loop w} {hok : l.OK} {init : σ} {body : Fin l.trips → σ → Prog (TpuEff nD τ sig (Elt F) Λ₀ .tc) σ}
    (h : ∀ k s, Keeps c R (body k s)) : Keeps c R (Scf.Loop.for l hok init body) := by
  unfold Keeps
  refine BIBase.Entails.trans ?_ (Scf.wp_for _ _ _ _ _ _ hok init body (fun _ _ => R) (fun k s => h k s))
  iintro H
  isplitl [H]; · iexact H
  iintro %s H
  iexact H

theorem keeps_bind_pair {α α' β : Type} {p : Prog (TpuEff nD τ sig (Elt F) Λ₀ .tc) (α × α')} {k : α × α' → Prog (TpuEff nD τ sig (Elt F) Λ₀ .tc) β}
    (hp : Keeps c R p) (hk : ∀ a b, Keeps c R (k (a, b))) : Keeps c R (p >>= k) :=
  keeps_bind hp fun x => hk x.1 x.2

theorem keeps_for_pair {w : ℕ} {σ σ' : Type} {l : Scf.Loop w} {hok : l.OK} {init : σ × σ'} {body : Fin l.trips → σ × σ' → Prog (TpuEff nD τ sig (Elt F) Λ₀ .tc) (σ × σ')}
    (h : ∀ k a b, Keeps c R (body k (a, b))) : Keeps c R (Scf.Loop.for l hok init body) :=
  keeps_for fun k x => h k x.1 x.2

theorem keeps_dite {α : Type} {b : Prop} [Decidable b] {p : b → Prog (TpuEff nD τ sig (Elt F) Λ₀ .tc) α} {q : ¬ b → Prog (TpuEff nD τ sig (Elt F) Λ₀ .tc) α}
    (hp : ∀ h, Keeps c R (p h)) (hq : ∀ h, Keeps c R (q h)) : Keeps c R (dite b p q) := by
  by_cases h : b
  · rw [dif_pos h]; exact hp h
  · rw [dif_neg h]; exact hq h

end Rules

/-! ## Programs that turn one assertion into another -/

/-- The program runs from `R` and gives `R'` back, whatever it returns. -/
def Goes (c : Dev nD) (R R' : sProp (MM F)) {α : Type} (p : Prog (TpuEff nD τ sig (Elt F) Λ₀ .tc) α) : Prop :=
  R ⊢ wp frame (wpE (defs₀ (F := F)) Variants.none (c : Thread nD τ) none) Set.univ p (fun _ => R')

/-- `R` holds the buffer at the contents `d`, and is had again once they are given back. -/
structure Holds (c : Dev nD) (R : sProp (MM F)) {sp : CoreSpace} {s : Shape} {e : EltTy} (m : Memref sig (Proc.kind (τ := τ) .tc) sp s e) (d : s.Idx → Elt F e) : Prop where
  /-- the step -/
  out : R ⊢ iprop(owns (c : Thread nD τ) m fullShare d ∗ (owns (c : Thread nD τ) m fullShare d -∗ R))

/-- `R` holds the buffer at some contents, and `R'` is had once the contents `w` are given back. -/
structure Turns (c : Dev nD) (R R' : sProp (MM F)) {sp : CoreSpace} {s : Shape} {e : EltTy} (m : Memref sig (Proc.kind (τ := τ) .tc) sp s e) (w : s.Idx → Elt F e) : Prop where
  /-- the step -/
  out : R ⊢ iprop(∃ d, owns (c : Thread nD τ) m fullShare d ∗ (owns (c : Thread nD τ) m fullShare w -∗ R'))

section Goes

variable {c : Dev nD} {R R₁ R' : sProp (MM F)}

theorem goes_of_keeps {α : Type} {p : Prog (TpuEff nD τ sig (Elt F) Λ₀ .tc) α} (h : Keeps c R p) : Goes c R R p := h

theorem goes_bind {α β : Type} {p : Prog (TpuEff nD τ sig (Elt F) Λ₀ .tc) α} {k : α → Prog (TpuEff nD τ sig (Elt F) Λ₀ .tc) β}
    (hp : Goes c R R₁ p) (hk : ∀ a, Goes c R₁ R' (k a)) : Goes c R R' (p >>= k) := by
  unfold Goes
  rw [wp_bind]
  exact BIBase.Entails.trans hp (wp_mono _ _ _ fun a => hk a)

/-- A load whose value is not followed. -/
theorem goes_read {sp : CoreSpace} {s : Shape} {e : EltTy} {m : Memref sig (Proc.kind (τ := τ) .tc) sp s e} {r : LoadRect s} {hl : m.view.LoadsAt r}
    {β : Type} {k : (r.shape.Idx → Elt F e) → Prog (TpuEff nD τ sig (Elt F) Λ₀ .tc) β}
    (h : Reads c R m) (hk : ∀ a, Goes c R R' (k a)) : Goes c R R' (Prog.lift (.load m r hl) >>= k) :=
  goes_bind (keeps_load h) hk

/-- A load of a whole buffer gives its contents. -/
theorem goes_load {sp : CoreSpace} {s : Shape} {e : EltTy} {m : Memref sig (Proc.kind (τ := τ) .tc) sp s e} {d : s.Idx → Elt F e} {off : Fin s.rank → ℕ}
    {inb : ∀ a, off a + s.size a ≤ s.size a} {hl : m.view.LoadsAt (Rect.unit off s.size inb).toLoadRect}
    {β : Type} {k : (s.Idx → Elt F e) → Prog (TpuEff nD τ sig (Elt F) Λ₀ .tc) β}
    (h : Holds c R m d) (hk : Goes c R R' (k d)) : Goes c R R' (Prog.lift (.load m (Rect.unit off s.size inb).toLoadRect hl) >>= k) := by
  unfold Goes at hk ⊢
  rw [wp_bind]
  refine h.out.trans ?_
  unfold owns
  iintro ⟨⟨%f, %hf, H⟩, HR⟩
  iapply (wp_load Variants.none (c : Thread nD τ) none Set.univ (View.setOn_subset_set _ _)) $$ H
  iintro H
  rw [wp_ret, View.readAt_full, hf]
  imodintro
  iapply hk
  iapply HR
  iexists f
  isplitr; · ipureintro; exact hf
  iexact H

/-- A store over a whole buffer leaves it at the value stored. -/
theorem goes_store {sp : CoreSpace} {s : Shape} {e : EltTy} {m : Memref sig (Proc.kind (τ := τ) .tc) sp s e} {w : s.Idx → Elt F e} {off : Fin s.rank → ℕ}
    {inb : ∀ a, off a + s.size a ≤ s.size a} {hx : (m.access (Rect.unit off s.size inb)).Stores Finset.univ}
    {hm : (Finset.univ : Finset (Rect.unit off s.size inb).shape.Idx) = Finset.univ ∨ ∀ a, (Rect.unit off s.size inb).stride a = 1}
    {β : Type} {k : PUnit → Prog (TpuEff nD τ sig (Elt F) Λ₀ .tc) β}
    (h : Turns c R R₁ m w) (hk : ∀ a, Goes c R₁ R' (k a)) : Goes c R R' (Prog.lift (.store m (Rect.unit off s.size inb) w Finset.univ hx hm) >>= k) := by
  refine goes_bind ?_ hk
  unfold Goes
  refine h.out.trans ?_
  unfold owns
  iintro ⟨%d, ⟨%f, %hf, H⟩, HR⟩
  iapply (wp_store (m := m) (r := Rect.unit off s.size inb) (w := w) (Mk := Finset.univ) (hx := hx) (hm := hm) (f := f) Variants.none (c : Thread nD τ) none Set.univ ((View.setOn_subset_set (m.access (Rect.unit off s.size inb)) Finset.univ).trans (View.set_slice_subset m.view (Rect.unit off s.size inb)))) $$ H
  iintro H
  rw [wp_ret]
  imodintro
  iapply HR
  iexists _
  isplitr
  swap; · iexact H
  ipureintro
  exact View.read_writes_full m.view f inb w []

end Goes

/-! ## The parts of the body -/

section Parts

variable {c : Dev nD} {R : sProp (MM F)} (i : grid0.Coords) (arg2 : Memref sig .tc .smem S16 .f32) (harg2 : arg2.IsWhole) (arg3 : Memref sig .tc .vmem S256x256 .f32) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S688x256 .f32) (harg6 : arg6.IsWhole) (arg7 : Memref sig .tc .vmem S688x256 .f32) (harg7 : arg7.IsWhole) (arg8 : Memref sig .tc .vmem S16x128 .f32) (harg8 : arg8.IsWhole) (arg9 : Memref sig .tc .vmem S16x12288 .f32) (harg9 : arg9.IsWhole) (arg10 : Memref sig .tc .vmem S1x12288 .f32) (harg10 : arg10.IsWhole) (arg11 : Memref sig .tc .vmem S16x12288 .f32) (harg11 : arg11.IsWhole) (arg12 : Memref sig .tc .vmem S1x12288 .f32) (harg12 : arg12.IsWhole) (arg13 : Memref sig .tc .vmem S256x256 .bf16) (harg13 : arg13.IsWhole) (arg14 : Memref sig .tc .vmem S688x256 .bf16) (harg14 : arg14.IsWhole) (arg15 : Memref sig .tc .vmem S688x256 .bf16) (harg15 : arg15.IsWhole) (arg16 : Memref sig .tc .vmem S1x12288 .f32) (harg16 : arg16.IsWhole) (arg17 : Memref sig .tc .vmem S1x12288 .f32) (harg17 : arg17.IsWhole) (arg18 : Memref sig .tc .vmem S2x8x256x1024 .bf16) (harg18 : arg18.IsWhole) (arg19 : Memref sig .tc .vmem S2x8192x256 .bf16) (harg19 : arg19.IsWhole) (arg20 : Memref sig .tc .vmem S2x128x128 .f32) (harg20 : arg20.IsWhole) (arg21 : Memref sig .tc .vmem S2x8x256x1024 .f32) (harg21 : arg21.IsWhole) (arg22 : Memref sig .tc .vmem S2x256x256 .f32) (harg22 : arg22.IsWhole) (arg23 : Memref sig .tc .vmem S8x12288 .f32) (harg23 : arg23.IsWhole) (arg24 : Memref sig .tc .vmem S8x12288 .f32) (harg24 : arg24.IsWhole)
variable (h2 : Reads c R arg2) (h3 : Reads c R arg3) (h4 : Reads c R arg4) (h5 : Reads c R arg5) (h6 : Reads c R arg6) (h7 : Reads c R arg7) (h8 : Reads c R arg8) (h9 : Reads c R arg9) (h10 : Reads c R arg10) (h11 : Reads c R arg11) (h12 : Reads c R arg12) (h13 : Stores c R arg13) (h16 : Stores c R arg16) (h17 : Stores c R arg17) (h18 : Stores c R arg18) (h19 : Stores c R arg19) (h20 : Stores c R arg20) (h21 : Stores c R arg21) (h22 : Stores c R arg22) (h23 : Stores c R arg23) (h24 : Stores c R arg24)
include h2 h3 h4 h5 h6 h7 h8 h9 h10 h11 h12 h13 h16 h17 h18 h19 h20 h21 h22 h23 h24

set_option maxHeartbeats 4000000 in
/-- Part 1 of the body keeps `R`. -/
theorem part1 (k0_h5 : k0_cond5 i = 1#1) (v509 : IVec S2048x128 32) (v510 : IVec S128x1024 32) (v511 : IVec S128x1024 32) (c0_i32_258 : BitVec 32) (c1_i32_260 : BitVec 32) (k0_t1 : Fin k0_t1_loop.trips) : Keeps c R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h5 v509 v510 v511 c0_i32_258 c1_i32_260 k0_t1) := by
  unfold k0_part1
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 2 of the body keeps `R`. -/
theorem part2 (k0_h5 : k0_cond5 i = 1#1) (v510 : IVec S128x1024 32) (v511 : IVec S128x1024 32) (k0_t1 : Fin k0_t1_loop.trips) (arg25 : BitVec 32) (v514 : BitVec 32) (v520 : FVec F S2048x128 .bf16) (v522 : Vec F S2048x128 .bf16) (v548 : BitVec 32) (v549 : BitVec 32) : Keeps c R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h5 v510 v511 k0_t1 arg25 v514 v520 v522 v548 v549) := by
  unfold k0_part2
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 3 of the body keeps `R`. -/
theorem part3 (k0_h5 : k0_cond5 i = 1#1) (v510 : IVec S128x1024 32) (v511 : IVec S128x1024 32) (k0_t1 : Fin k0_t1_loop.trips) (arg25 : BitVec 32) (v514 : BitVec 32) (v585 : FVec F S8x128 .f32) (v587 : BitVec 32) : Keeps c R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h5 v510 v511 k0_t1 arg25 v514 v585 v587) := by
  unfold k0_part3
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 4 of the body keeps `R`. -/
theorem part4 (k0_h5 : k0_cond5 i = 1#1) (v509 : IVec S2048x128 32) (v510 : IVec S128x1024 32) (v511 : IVec S128x1024 32) (c0_i32_258 : BitVec 32) (c1_i32_260 : BitVec 32) (k0_t1 : Fin k0_t1_loop.trips) : Keeps c R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 k0_h5 v509 v510 v511 c0_i32_258 c1_i32_260 k0_t1) := by
  unfold k0_part4
  repeat' first
    | (with_reducible refine keeps_bind (part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _) ?_; rintro ⟨arg25, v514, v520, v522, v548, v549⟩)
    | with_reducible exact part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _
    | (with_reducible refine keeps_bind (part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _ _ _ _) ?_; rintro ⟨v585, v587⟩)
    | with_reducible exact part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _ _ _ _
    | (with_reducible refine keeps_bind (part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _ _) ?_; rintro ⟨v593, v619, v625, v626⟩)
    | with_reducible exact part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _ _
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 5 of the body keeps `R`. -/
theorem part5 (arg1 : BitVec 32) (v218 : Elt F .f32) (v293 : FVec F S256x256 .bf16) (c0_i32_208 : BitVec 32) (c1_i32_210 : BitVec 32) (k0_t2 : Fin (k0_t2_loop i).trips) (arg26 : FVec F S256x128 .f32) : Keeps c R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v218 v293 c0_i32_208 c1_i32_210 k0_t2 arg26) := by
  unfold k0_part5
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 6 of the body keeps `R`. -/
theorem part6 (arg1 : BitVec 32) (v218 : Elt F .f32) (v293 : FVec F S256x256 .bf16) (v386 : BitVec 32) (c1_i32_211 : BitVec 32) (k0_t3 : Fin (k0_t3_loop i).trips) (arg26 : FVec F S256x128 .f32) : Keeps c R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v218 v293 v386 c1_i32_211 k0_t3 arg26) := by
  unfold k0_part6
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 7 of the body keeps `R`. -/
theorem part7 (v476 : FVec F S256x1 .f32) (v478 : FVec F S256x1 .f32) (c0_i32_240 : BitVec 32) (c1_i32_242 : BitVec 32) (k0_t4 : Fin (k0_t4_loop i).trips) : Keeps c R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v476 v478 c0_i32_240 c1_i32_242 k0_t4) := by
  unfold k0_part7
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 8 of the body keeps `R`. -/
theorem part8 (v476 : FVec F S256x1 .f32) (v478 : FVec F S256x1 .f32) (v488 : BitVec 32) (c1_i32_243 : BitVec 32) (k0_t5 : Fin (k0_t5_loop i).trips) : Keeps c R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v476 v478 v488 c1_i32_243 k0_t5) := by
  unfold k0_part8
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 9 of the body stores the two copies of the weights' blocks, and keeps the rest. -/
theorem part9 {R₀ R₁ : sProp (MM F)} {x6 x7 : Vec F S688x256 .f32} (a6 : Holds c R₀ arg6 x6) (a14 : Reads c R₀ arg14) (s14 : Turns c R₀ R₁ arg14 (truncf .bf16 x6 bitsLt_bf16_f32))
    (a7 : Holds c R₁ arg7 x7) (a15 : Reads c R₁ arg15) (s15 : Turns c R₁ R arg15 (truncf .bf16 x7 bitsLt_bf16_f32)) : Goes c R₀ R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  unfold k0_part9
  refine goes_load a6 ?_
  refine goes_read a14 fun _ => ?_
  refine goes_store s14 fun _ => ?_
  refine goes_load a7 ?_
  refine goes_read a15 fun _ => ?_
  refine goes_store s15 fun _ => ?_
  refine goes_of_keeps ?_
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 10 of the body keeps `R`. -/
theorem part10 (v27 : Vec F S8x2048 .f32) : Keeps c R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v27) := by
  unfold k0_part10
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 11 of the body keeps `R`. -/
theorem part11 (v59 : Vec F S8x2048 .f32) (v60 : Vec F S8x128 .f32) : Keeps c R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v59 v60) := by
  unfold k0_part11
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 12 of the body keeps `R`. -/
theorem part12 (v7 : BitVec 32) (v91 : Vec F S8x2048 .f32) (v94 : FVec F S8x2048 .f32) : Keeps c R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v7 v91 v94) := by
  unfold k0_part12
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 13 of the body keeps `R`. -/
theorem part13 (v125 : FVec F S8x2048 .f32) : Keeps c R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v125) := by
  unfold k0_part13
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 14 of the body keeps `R`. -/
theorem part14  : Keeps c R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  unfold k0_part14
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 15 of the body keeps `R`. -/
theorem part15 (arg0 : BitVec 32) (arg1 : BitVec 32) (v7 : BitVec 32) : Keeps c R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg0 arg1 v7) := by
  unfold k0_part15
  repeat' first
    | with_reducible exact part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 16 of the body keeps `R`. -/
theorem part16 (arg1 : BitVec 32) (v223 : IVec S32x256 32) (v224 : FVec F S32x256 .f32) (v225 : Vec F S256x128 .f32) (v226 : Vec F S1x128x128 .f32) : Keeps c R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v223 v224 v225 v226) := by
  unfold k0_part16
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 17 of the body keeps `R`. -/
theorem part17 (arg1 : BitVec 32) (v223 : IVec S32x256 32) (v224 : FVec F S32x256 .f32) (v225 : Vec F S256x128 .f32) (v267 : IVec S32x256 1) (v271 : FVec F S1x256 .f32) (v273 : IVec S32x256 1) : Keeps c R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v223 v224 v225 v267 v271 v273) := by
  unfold k0_part17
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 18 of the body keeps `R`. -/
theorem part18 (v224 : FVec F S32x256 .f32) (v294 : Vec F S256x128 .f32) (v302 : FVec F S32x256 .f32) (v304 : IVec S32x256 1) (v314 : IVec S32x256 1) (v316 : IVec S1x256 1) : Keeps c R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v224 v294 v302 v304 v314 v316) := by
  unfold k0_part18
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 19 of the body keeps `R`. -/
theorem part19 (arg1 : BitVec 32) (v218 : Elt F .f32) (v222 : Elt F .f32) (v293 : FVec F S256x256 .bf16) (v362 : FVec F S256x256 .bf16) (c4_i32 : BitVec 32) : Keeps c R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v218 v222 v293 v362 c4_i32) := by
  unfold k0_part19
  repeat' first
    | (with_reducible refine keeps_bind (part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _) ?_; rintro ⟨arg25, v542, v544, v547, cst_268⟩)
    | with_reducible exact part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _
    | (with_reducible refine keeps_bind (part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _) ?_; rintro ⟨arg25, v542, v544, v547, cst_268⟩)
    | with_reducible exact part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 20 of the body keeps `R`. -/
theorem part20 (arg1 : BitVec 32) (v222 : Elt F .f32) (v362 : FVec F S256x256 .bf16) (v379 : BitVec 32) (v388_0 : FVec F S256x128 .f32) (v396 : FVec F S256x1024 .f32) (v401 : IVec S1x1024 32) (v402 : FVec F S1x1024 .f32) (v403 : FVec F S1x1024 .f32) : Keeps c R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v222 v362 v379 v388_0 v396 v401 v402 v403) := by
  unfold k0_part20
  repeat' first
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- Part 21 of the body keeps `R`. -/
theorem part21 (v379 : BitVec 32) (v388_1 : FVec F S256x128 .f32) (v431 : FVec F S256x128 .f32) (v449 : FVec F S256x1024 .f32) (v450 : IVec S256x1024 32) (v451 : IVec S256x1024 32) : Keeps c R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v379 v388_1 v431 v449 v450 v451) := by
  unfold k0_part21
  repeat' first
    | with_reducible exact part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _
    | with_reducible exact part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

set_option maxHeartbeats 4000000 in
/-- The whole body. -/
theorem body {R₀ R₁ : sProp (MM F)} {x6 x7 : Vec F S688x256 .f32} (a6 : Holds c R₀ arg6 x6) (a14 : Reads c R₀ arg14) (s14 : Turns c R₀ R₁ arg14 (truncf .bf16 x6 bitsLt_bf16_f32))
    (a7 : Holds c R₁ arg7 x7) (a15 : Reads c R₁ arg15) (s15 : Turns c R₁ R arg15 (truncf .bf16 x7 bitsLt_bf16_f32)) : Goes c R₀ R (cc0_moba (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  unfold cc0_moba
  refine goes_bind (part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 a6 a14 s14 a7 a15 s15) fun _ => goes_of_keeps ?_
  repeat' first
    | (with_reducible refine keeps_bind (part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _) ?_; rintro ⟨v59, v60⟩)
    | with_reducible exact part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _
    | (with_reducible refine keeps_bind (part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _) ?_; rintro ⟨v91, v94⟩)
    | with_reducible exact part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _
    | with_reducible exact part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _
    | with_reducible exact part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _
    | with_reducible exact part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24
    | (with_reducible refine keeps_bind (part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _) ?_; rintro ⟨v218, v222, v223, v224, v225, v226⟩)
    | with_reducible exact part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _
    | (with_reducible refine keeps_bind (part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _) ?_; rintro ⟨v267, v271, v273⟩)
    | with_reducible exact part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _
    | (with_reducible refine keeps_bind (part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _) ?_; rintro ⟨v293, v294, v302, v304, v314, v316⟩)
    | with_reducible exact part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _
    | (with_reducible refine keeps_bind (part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _) ?_; rintro ⟨v362, c4_i32⟩)
    | with_reducible exact part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _
    | (with_reducible refine keeps_bind (part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _) ?_; rintro ⟨v379, v388_0, v388_1, v396, v401, v402, v403⟩)
    | with_reducible exact part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _
    | (with_reducible refine keeps_bind (part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _ _ _) ?_; rintro ⟨v431, v449, v450, v451⟩)
    | with_reducible exact part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _ _ _ _
    | with_reducible exact part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 h3 h4 h5 h6 h7 h8 h9 h10 h11 h12 h13 h16 h17 h18 h19 h20 h21 h22 h23 h24 _ _ _ _ _ _
    | with_reducible refine keeps_bind_pair ?_ fun _ _ => ?_
    | with_reducible refine keeps_bind ?_ fun _ => ?_
    | with_reducible refine keeps_for_pair fun _ _ _ => ?_
    | with_reducible refine keeps_for fun _ _ => ?_
    | with_reducible refine keeps_dite (fun _ => ?_) fun _ => ?_
    | with_reducible exact keeps_pure _
    | with_reducible exact keeps_load (by with_reducible assumption)
    | with_reducible exact keeps_load (Stores.reads (by with_reducible assumption))
    | with_reducible exact keeps_store (by with_reducible assumption)
    | exact keeps_smem h2

end Parts

end Cert.MobaIdeal.Run

end
-- ==== Proof.MobaIdealFrame.lean ====
/- The frame of the block-sparse attention call, over the extended reals: at every grid point the body gives its input windows back as it found
   them leaves the two windows of the down-projection weights' copies at their blocks, rounded, and the other output windows and the
   scratch buffers at some contents, so every run of the whole call ends with the
   argument arrays as they began and every counter at zero. -/
module

public import proofs.«01_k».proof.Proof.MobaIdealRun
public import Idealize.ShloMosaic.Lib.Claim

@[expose] public section

set_option maxRecDepth 16384

noncomputable section

namespace Cert.MobaIdeal.Run

open Cert.MobaIdeal Cert.MobaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-! ## The body from everything it is handed -/

section Chain

variable {c : Dev nD} {sp : CoreSpace} {s : Shape} {e : EltTy} {m : Memref sig (Proc.kind (τ := τ) .tc) sp s e} {P R : sProp (MM F)}

/-- The first buffer of a row may be read. -/
theorem reads_here (d : s.Idx → Elt F e) : Reads c iprop(owns (c : Thread nD τ) m fullShare d ∗ R) m := by
  refine ⟨?_⟩
  iintro ⟨H, HR⟩
  iexists d
  isplitl [H]; · iexact H
  iintro H
  isplitl [H]; · iexact H
  iexact HR

/-- A buffer of the rest of a row may be read. -/
theorem reads_there (h : Reads c R m) : Reads c iprop(P ∗ R) m := by
  have h := h.out
  refine ⟨?_⟩
  iintro ⟨HP, HR⟩
  ihave H := h $$ HR
  icases H with ⟨%d, H, HR⟩
  iexists d
  isplitl [H]; · iexact H
  iintro H
  isplitl [HP]; · iexact HP
  iapply HR
  iexact H

/-- The first buffer of a row, held at some contents, may be stored into. -/
theorem stores_here : Stores c iprop((∃ d : s.Idx → Elt F e, owns (c : Thread nD τ) m fullShare d) ∗ R) m := by
  refine ⟨?_⟩
  iintro ⟨⟨%d, H⟩, HR⟩
  iexists d
  isplitl [H]; · iexact H
  iintro %d' H
  isplitl [H]
  · iexists d'
    iexact H
  iexact HR

/-- A buffer of the rest of a row may be stored into. -/
theorem stores_there (h : Stores c R m) : Stores c iprop(P ∗ R) m := by
  have h := h.out
  refine ⟨?_⟩
  iintro ⟨HP, HR⟩
  ihave H := h $$ HR
  icases H with ⟨%d, H, HR⟩
  iexists d
  isplitl [H]; · iexact H
  iintro %d' H
  isplitl [HP]; · iexact HP
  iapply HR
  iexact H

/-- The first buffer of a row is held at its contents. -/
theorem holds_here (d : s.Idx → Elt F e) : Holds c iprop(owns (c : Thread nD τ) m fullShare d ∗ R) m d := by
  refine ⟨?_⟩
  iintro ⟨H, HR⟩
  isplitl [H]; · iexact H
  iintro H
  isplitl [H]; · iexact H
  iexact HR

/-- A buffer of the rest of a row is held at its contents. -/
theorem holds_there {d : s.Idx → Elt F e} (h : Holds c R m d) : Holds c iprop(P ∗ R) m d := by
  have h := h.out
  refine ⟨?_⟩
  iintro ⟨HP, HR⟩
  ihave H := h $$ HR
  icases H with ⟨H, HR⟩
  isplitl [H]; · iexact H
  iintro H
  isplitl [HP]; · iexact HP
  iapply HR
  iexact H

/-- The first buffer of a row, held at some contents, may be set to given ones. -/
theorem turns_here {w : s.Idx → Elt F e} :
    Turns c iprop((∃ d : s.Idx → Elt F e, owns (c : Thread nD τ) m fullShare d) ∗ R) iprop(owns (c : Thread nD τ) m fullShare w ∗ R) m w := by
  refine ⟨?_⟩
  iintro ⟨⟨%d, H⟩, HR⟩
  iexists d
  isplitl [H]; · iexact H
  iintro H
  isplitl [H]; · iexact H
  iexact HR

/-- A buffer of the rest of a row may be set to given contents. -/
theorem turns_there {R' : sProp (MM F)} {w : s.Idx → Elt F e} (h : Turns c R R' m w) : Turns c iprop(P ∗ R) iprop(P ∗ R') m w := by
  have h := h.out
  refine ⟨?_⟩
  iintro ⟨HP, HR⟩
  ihave H := h $$ HR
  icases H with ⟨%d, H, HR⟩
  iexists d
  isplitl [H]; · iexact H
  iintro H
  isplitl [HP]; · iexact HP
  iapply HR
  iexact H

end Chain

/-- Everything the body is handed: its inputs at given contents, the two copies as `Q14` and `Q15` say, its other outputs and its
    scratch buffers at some contents, and the rest. -/
def held (c : Dev nD) (arg2 : Memref sig .tc .smem S16 .f32) (arg3 : Memref sig .tc .vmem S256x256 .f32) (arg4 : Memref sig .tc .vmem S8192x256 .bf16) (arg5 : Memref sig .tc .vmem S8192x256 .bf16) (arg6 : Memref sig .tc .vmem S688x256 .f32) (arg7 : Memref sig .tc .vmem S688x256 .f32) (arg8 : Memref sig .tc .vmem S16x128 .f32) (arg9 : Memref sig .tc .vmem S16x12288 .f32) (arg10 : Memref sig .tc .vmem S1x12288 .f32) (arg11 : Memref sig .tc .vmem S16x12288 .f32) (arg12 : Memref sig .tc .vmem S1x12288 .f32) (arg13 : Memref sig .tc .vmem S256x256 .bf16) (arg14 : Memref sig .tc .vmem S688x256 .bf16) (arg15 : Memref sig .tc .vmem S688x256 .bf16) (arg16 : Memref sig .tc .vmem S1x12288 .f32) (arg17 : Memref sig .tc .vmem S1x12288 .f32) (arg18 : Memref sig .tc .vmem S2x8x256x1024 .bf16) (arg19 : Memref sig .tc .vmem S2x8192x256 .bf16) (arg20 : Memref sig .tc .vmem S2x128x128 .f32) (arg21 : Memref sig .tc .vmem S2x8x256x1024 .f32) (arg22 : Memref sig .tc .vmem S2x256x256 .f32) (arg23 : Memref sig .tc .vmem S8x12288 .f32) (arg24 : Memref sig .tc .vmem S8x12288 .f32) (x2 : Vec F S16 .f32) (x3 : Vec F S256x256 .f32) (x4 : Vec F S8192x256 .bf16) (x5 : Vec F S8192x256 .bf16) (x6 : Vec F S688x256 .f32) (x7 : Vec F S688x256 .f32) (x8 : Vec F S16x128 .f32) (x9 : Vec F S16x12288 .f32) (x10 : Vec F S1x12288 .f32) (x11 : Vec F S16x12288 .f32) (x12 : Vec F S1x12288 .f32) (Q14 Q15 P : sProp (MM F)) : sProp (MM F) :=
  iprop(owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11
    ∗ owns (c : Thread nD τ) arg12 fullShare x12
    ∗ (∃ d, owns (c : Thread nD τ) arg13 fullShare d)
    ∗ Q14
    ∗ Q15
    ∗ (∃ d, owns (c : Thread nD τ) arg16 fullShare d)
    ∗ (∃ d, owns (c : Thread nD τ) arg17 fullShare d)
    ∗ (∃ d, owns (c : Thread nD τ) arg18 fullShare d)
    ∗ (∃ d, owns (c : Thread nD τ) arg19 fullShare d)
    ∗ (∃ d, owns (c : Thread nD τ) arg20 fullShare d)
    ∗ (∃ d, owns (c : Thread nD τ) arg21 fullShare d)
    ∗ (∃ d, owns (c : Thread nD τ) arg22 fullShare d)
    ∗ (∃ d, owns (c : Thread nD τ) arg23 fullShare d)
    ∗ (∃ d, owns (c : Thread nD τ) arg24 fullShare d)
    ∗ P)

/-- The body gives back everything it is handed, the two copies at their values. -/
theorem body_held (c : Dev nD) (i : grid0.Coords) (arg2 : Memref sig .tc .smem S16 .f32) (harg2 : arg2.IsWhole) (arg3 : Memref sig .tc .vmem S256x256 .f32) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S688x256 .f32) (harg6 : arg6.IsWhole) (arg7 : Memref sig .tc .vmem S688x256 .f32) (harg7 : arg7.IsWhole) (arg8 : Memref sig .tc .vmem S16x128 .f32) (harg8 : arg8.IsWhole) (arg9 : Memref sig .tc .vmem S16x12288 .f32) (harg9 : arg9.IsWhole) (arg10 : Memref sig .tc .vmem S1x12288 .f32) (harg10 : arg10.IsWhole) (arg11 : Memref sig .tc .vmem S16x12288 .f32) (harg11 : arg11.IsWhole) (arg12 : Memref sig .tc .vmem S1x12288 .f32) (harg12 : arg12.IsWhole) (arg13 : Memref sig .tc .vmem S256x256 .bf16) (harg13 : arg13.IsWhole) (arg14 : Memref sig .tc .vmem S688x256 .bf16) (harg14 : arg14.IsWhole) (arg15 : Memref sig .tc .vmem S688x256 .bf16) (harg15 : arg15.IsWhole) (arg16 : Memref sig .tc .vmem S1x12288 .f32) (harg16 : arg16.IsWhole) (arg17 : Memref sig .tc .vmem S1x12288 .f32) (harg17 : arg17.IsWhole) (arg18 : Memref sig .tc .vmem S2x8x256x1024 .bf16) (harg18 : arg18.IsWhole) (arg19 : Memref sig .tc .vmem S2x8192x256 .bf16) (harg19 : arg19.IsWhole) (arg20 : Memref sig .tc .vmem S2x128x128 .f32) (harg20 : arg20.IsWhole) (arg21 : Memref sig .tc .vmem S2x8x256x1024 .f32) (harg21 : arg21.IsWhole) (arg22 : Memref sig .tc .vmem S2x256x256 .f32) (harg22 : arg22.IsWhole) (arg23 : Memref sig .tc .vmem S8x12288 .f32) (harg23 : arg23.IsWhole) (arg24 : Memref sig .tc .vmem S8x12288 .f32) (harg24 : arg24.IsWhole) (x2 : Vec F S16 .f32) (x3 : Vec F S256x256 .f32) (x4 : Vec F S8192x256 .bf16) (x5 : Vec F S8192x256 .bf16) (x6 : Vec F S688x256 .f32) (x7 : Vec F S688x256 .f32) (x8 : Vec F S16x128 .f32) (x9 : Vec F S16x12288 .f32) (x10 : Vec F S1x12288 .f32) (x11 : Vec F S16x12288 .f32) (x12 : Vec F S1x12288 .f32) (P : sProp (MM F)) :
    held c arg2 arg3 arg4 arg5 arg6 arg7 arg8 arg9 arg10 arg11 arg12 arg13 arg14 arg15 arg16 arg17 arg18 arg19 arg20 arg21 arg22 arg23 arg24 x2 x3 x4 x5 x6 x7 x8 x9 x10 x11 x12 iprop(∃ d, owns (c : Thread nD τ) arg14 fullShare d) iprop(∃ d, owns (c : Thread nD τ) arg15 fullShare d) P
      ⊢ wp frame (wpE (defs₀ (F := F)) Variants.none (c : Thread nD τ) none) Set.univ (cc0_moba (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
          (fun _ => held c arg2 arg3 arg4 arg5 arg6 arg7 arg8 arg9 arg10 arg11 arg12 arg13 arg14 arg15 arg16 arg17 arg18 arg19 arg20 arg21 arg22 arg23 arg24 x2 x3 x4 x5 x6 x7 x8 x9 x10 x11 x12 iprop(owns (c : Thread nD τ) arg14 fullShare (truncf .bf16 x6 bitsLt_bf16_f32)) iprop(owns (c : Thread nD τ) arg15 fullShare (truncf .bf16 x7 bitsLt_bf16_f32)) P) := by
  unfold held
  exact body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24
    (reads_here _)
    (reads_there (reads_here _))
    (reads_there (reads_there (reads_here _)))
    (reads_there (reads_there (reads_there (reads_here _))))
    (reads_there (reads_there (reads_there (reads_there (reads_here _)))))
    (reads_there (reads_there (reads_there (reads_there (reads_there (reads_here _))))))
    (reads_there (reads_there (reads_there (reads_there (reads_there (reads_there (reads_here _)))))))
    (reads_there (reads_there (reads_there (reads_there (reads_there (reads_there (reads_there (reads_here _))))))))
    (reads_there (reads_there (reads_there (reads_there (reads_there (reads_there (reads_there (reads_there (reads_here _)))))))))
    (reads_there (reads_there (reads_there (reads_there (reads_there (reads_there (reads_there (reads_there (reads_there (reads_here _))))))))))
    (reads_there (reads_there (reads_there (reads_there (reads_there (reads_there (reads_there (reads_there (reads_there (reads_there (reads_here _)))))))))))
    (stores_there (stores_there (stores_there (stores_there (stores_there (stores_there (stores_there (stores_there (stores_there (stores_there (stores_there stores_here)))))))))))
    (stores_there (stores_there (stores_there (stores_there (stores_there (stores_there (stores_there (stores_there (stores_there (stores_there (stores_there (stores_there (stores_there (stores_there stores_here))))))))))))))
    (stores_there (stores_there (stores_there (stores_there (stores_there (stores_there (stores_there (stores_there (stores_there (stores_there (stores_there (stores_there (stores_there (stores_there (stores_there stores_here)))))))))))))))
    (stores_there (stores_there (stores_there (stores_there (stores_there (stores_there (stores_there (stores_there (stores_there (stores_there (stores_there (stores_there (stores_there (stores_there (stores_there (stores_there stores_here))))))))))))))))
    (stores_there (stores_there (stores_there (stores_there (stores_there (stores_there (stores_there (stores_there (stores_there (stores_there (stores_there (stores_there (stores_there (stores_there (stores_there (stores_there (stores_there stores_here)))))))))))))))))
    (stores_there (stores_there (stores_there (stores_there (stores_there (stores_there (stores_there (stores_there (stores_there (stores_there (stores_there (stores_there (stores_there (stores_there (stores_there (stores_there (stores_there (stores_there stores_here))))))))))))))))))
    (stores_there (stores_there (stores_there (stores_there (stores_there (stores_there (stores_there (stores_there (stores_there (stores_there (stores_there (stores_there (stores_there (stores_there (stores_there (stores_there (stores_there (stores_there (stores_there stores_here)))))))))))))))))))
    (stores_there (stores_there (stores_there (stores_there (stores_there (stores_there (stores_there (stores_there (stores_there (stores_there (stores_there (stores_there (stores_there (stores_there (stores_there (stores_there (stores_there (stores_there (stores_there (stores_there stores_here))))))))))))))))))))
    (stores_there (stores_there (stores_there (stores_there (stores_there (stores_there (stores_there (stores_there (stores_there (stores_there (stores_there (stores_there (stores_there (stores_there (stores_there (stores_there (stores_there (stores_there (stores_there (stores_there (stores_there stores_here)))))))))))))))))))))
    (stores_there (stores_there (stores_there (stores_there (stores_there (stores_there (stores_there (stores_there (stores_there (stores_there (stores_there (stores_there (stores_there (stores_there (stores_there (stores_there (stores_there (stores_there (stores_there (stores_there (stores_there (stores_there stores_here))))))))))))))))))))))
    (holds_there (holds_there (holds_there (holds_there (holds_here _)))))
    (reads_there (reads_there (reads_there (reads_there (reads_there (reads_there (reads_there (reads_there (reads_there (reads_there (reads_there (reads_there (stores_here.reads)))))))))))))
    (turns_there (turns_there (turns_there (turns_there (turns_there (turns_there (turns_there (turns_there (turns_there (turns_there (turns_there (turns_there (turns_here)))))))))))))
    (holds_there (holds_there (holds_there (holds_there (holds_there (holds_here _))))))
    (reads_there (reads_there (reads_there (reads_there (reads_there (reads_there (reads_there (reads_there (reads_there (reads_there (reads_there (reads_there (reads_there (stores_here.reads))))))))))))))
    (turns_there (turns_there (turns_there (turns_there (turns_there (turns_there (turns_there (turns_there (turns_there (turns_there (turns_there (turns_there (turns_there (turns_here))))))))))))))

/-! ## What the staging buffers hold after each point -/

variable (m : (ℓ : Loc nD τ sig) → Buf (Elt F) ℓ) (ρ : Dev nD → PrngReg)

/-- The output windows whose contents are not followed: all but the two copies. -/
abbrev outs : Fin cfg0.W → Bool := fun w => decide (w.val = 11 ∨ 14 ≤ w.val)

/-- The proof data: each input's buffer keeps its block; the two copies hold the weights' blocks, rounded; of the other outputs nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Dat.unnamed (cfg := cfg0) 11 t
    | ⟨12, _⟩ => truncf .bf16 (iblk m c 4 t : FVec F S688x256 .f32) bitsLt_bf16_f32
    | ⟨13, _⟩ => truncf .bf16 (iblk m c 5 t : FVec F S688x256 .f32) bitsLt_bf16_f32
    | ⟨14, _⟩ => Dat.unnamed (cfg := cfg0) 14 t
    | ⟨15, _⟩ => Dat.unnamed (cfg := cfg0) 15 t
    | ⟨_ + 16, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_12 (c : Dev nD) (t : Fin cfg0.N) : (dats m 0 c).after 12 t = truncf .bf16 (iblk m c 4 t : FVec F S688x256 .f32) bitsLt_bf16_f32 := by dsimp only [dats]
theorem after0_13 (c : Dev nD) (t : Fin cfg0.N) : (dats m 0 c).after 13 t = truncf .bf16 (iblk m c 5 t : FVec F S688x256 .f32) bitsLt_bf16_f32 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body at a grid point -/

/-- What the body is called with at point `t`, -/
def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ X, owns (c : Thread nD τ) (st0_11 t) fullShare X)
    ∗ (∃ d, owns (c : Thread nD τ) (st0_12 t) fullShare ((dats m 0 c).before 12 t d))
    ∗ (∃ d, owns (c : Thread nD τ) (st0_13 t) fullShare ((dats m 0 c).before 13 t d))
    ∗ (∃ X, owns (c : Thread nD τ) (st0_14 t) fullShare X)
    ∗ (∃ X, owns (c : Thread nD τ) (st0_15 t) fullShare X))

/-- and what it returns. -/
def bodyPost (c : Dev nD) (t : Fin cfg0.N) : sProp (MM F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, owns (c : Thread nD τ) (st0_11 t) fullShare X)
    ∗ owns (c : Thread nD τ) (st0_12 t) fullShare ((dats m 0 c).after 12 t)
    ∗ owns (c : Thread nD τ) (st0_13 t) fullShare ((dats m 0 c).after 13 t)
    ∗ (∃ X, owns (c : Thread nD τ) (st0_14 t) fullShare X)
    ∗ (∃ X, owns (c : Thread nD τ) (st0_15 t) fullShare X))

/-- What the body is called with is everything it needs, -/
theorem pre_held (c : Dev nD) (t : Fin cfg0.N) :
    bodyPre m c t ⊢ held c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (Memref.whole cc0_scratch0) (Memref.whole cc0_scratch1) (Memref.whole cc0_scratch2) (Memref.whole cc0_scratch3) (Memref.whole cc0_scratch4) (Memref.whole cc0_scratch5) (Memref.whole cc0_scratch6) (iblk m c 0 t) (iblk m c 1 t) (iblk m c 2 t) (iblk m c 3 t) (iblk m c 4 t) (iblk m c 5 t) (iblk m c 6 t) (iblk m c 7 t) (iblk m c 8 t) (iblk m c 9 t) (iblk m c 10 t) iprop(∃ d, owns (c : Thread nD τ) (st0_12 t) fullShare d) iprop(∃ d, owns (c : Thread nD τ) (st0_13 t) fullShare d)
      iprop((∃ r, prngReg c r) ∗ (dats m 0 c).owesAt () t.castSucc) := by
  unfold bodyPre held
  simp only [before0_0, before0_1, before0_2, before0_3, before0_4, before0_5, before0_6, before0_7, before0_8, before0_9, before0_10]
  rw [show (dats m 0 c).Φ t.castSucc = Pipeline.ΦA spec0 c from rfl]
  unfold Pipeline.ΦA
  rw [scopedRest0_eq]
  simp only [owns_whole]
  iintro ⟨⟨⟨S0, S1, S2, S3, S4, S5, S6⟩, Hr⟩, Ho, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, I11, ⟨%d12, I12⟩, ⟨%d13, I13⟩, I14, I15⟩
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [I11]; · iexact I11
  isplitl [I12]
  · iexists _
    iexact I12
  isplitl [I13]
  · iexists _
    iexact I13
  isplitl [I14]; · iexact I14
  isplitl [I15]; · iexact I15
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [Hr]; · iexact Hr
  iexact Ho

/-- and what it gives back is what it returns. -/
theorem held_post (c : Dev nD) (t : Fin cfg0.N) :
    held c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (Memref.whole cc0_scratch0) (Memref.whole cc0_scratch1) (Memref.whole cc0_scratch2) (Memref.whole cc0_scratch3) (Memref.whole cc0_scratch4) (Memref.whole cc0_scratch5) (Memref.whole cc0_scratch6) (iblk m c 0 t) (iblk m c 1 t) (iblk m c 2 t) (iblk m c 3 t) (iblk m c 4 t) (iblk m c 5 t) (iblk m c 6 t) (iblk m c 7 t) (iblk m c 8 t) (iblk m c 9 t) (iblk m c 10 t) iprop(owns (c : Thread nD τ) (st0_12 t) fullShare (truncf .bf16 (iblk m c 4 t : FVec F S688x256 .f32) bitsLt_bf16_f32))
      iprop(owns (c : Thread nD τ) (st0_13 t) fullShare (truncf .bf16 (iblk m c 5 t : FVec F S688x256 .f32) bitsLt_bf16_f32))
      iprop((∃ r, prngReg c r) ∗ (dats m 0 c).owesAt () t.castSucc) ⊢ bodyPost m c t := by
  unfold bodyPost held
  simp only [after0_0, after0_1, after0_2, after0_3, after0_4, after0_5, after0_6, after0_7, after0_8, after0_9, after0_10, after0_12, after0_13]
  rw [show (dats m 0 c).Φ t.succ = Pipeline.ΦA spec0 c from rfl, show (dats m 0 c).owesAt () t.succ = (dats m 0 c).owesAt () t.castSucc from rfl]
  unfold Pipeline.ΦA
  rw [scopedRest0_eq]
  simp only [owns_whole]
  iintro ⟨I0, I1, I2, I3, I4, I5, I6, I7, I8, I9, I10, I11, I12, I13, I14, I15, S0, S1, S2, S3, S4, S5, S6, Hr, Ho⟩
  isplitl [S0 S1 S2 S3 S4 S5 S6 Hr]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [I11]; · iexact I11
  isplitl [I12]; · iexact I12
  isplitl [I13]; · iexact I13
  isplitl [I14]; · iexact I14
  iexact I15

/-- The body at any point. -/
theorem sound_body (c : Dev nD) (t : Fin cfg0.N) :
    bodyPre m c t ⊢ wp frame (wpE (defs₀ (F := F)) Variants.none c none) Set.univ (bodyAt0 t) (fun _ => bodyPost m c t) :=
  BIBase.Entails.trans (pre_held m c t)
    (BIBase.Entails.trans
      (body_held c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
      (wp_mono _ _ _ fun _ => held_post m c t))

/-- The body that the pipeline calls at point `t` is the one above. -/
theorem body_row (t : Fin cfg0.N) :
    defs₀ (F := F) .tc cfg0.body (cfg0.bodyArgs t (cfg0.slots t)) = bodyAt0 t := by
  unfold defs₀; rw [Defs.onTc_tc]

/-- The library's body obligation, the other outputs forgotten. -/
theorem body_obligation (c : Dev nD) : BodyObligation (dats (F := F) m 0 c) (defs₀ (F := F)) Variants.none () Set.univ outs := fun t => by
  rw [bigSep_W0, bigSep_W0, body_row]
  exact triple_restated (sound_body m c t) rfl .rfl fun _ => .rfl

/-! ## The run of the call -/

set_option backward.isDefEq.respectTransparency.types false in
/-- Every run ends, with each input array at its entry contents and every counter at zero. -/
theorem run_all : θ_run defs (onTc (τ := τ) (main (F := F))) (s₀ m ρ)
    (fun r => Pipeline.RDat.FramePost cfg0 (fun c => (dats m 0 c).toRForget outs) (V m) r ∧ r.2.sem = fun _ => 0) :=
  Pipeline.θ_run_frame_forget_shared (Q' := _) cfgs (dats m) (0 : Fin 1) launch₀0 defs₀ Variants.none outs m ρ main
    (hbody := fun c => (body_obligation m c).loose) (hq := fun _ _ _ => rfl)
    (howed := fun _ _ => rfl) (V := V m) (hmain := hmain m Variants.none) (hA := A_eq m) (hΦ := fun _ _ => rfl)

/-- An input window's array ends at its entry contents. -/
theorem arr_in {r : PUnit × MemSt nD τ sig (Elt F)} (h : Pipeline.RDat.FramePost cfg0 (fun c => (dats m 0 c).toRForget outs) (V m) r) (c : Dev nD)
    (w : Fin cfg0.W) (hin : (cfg0.win w).isOut = false) :
    r.2.mem ((cfg0.spec w).arr.view.loc (c.tc : Thread nD τ)) = V m c (Pipeline.arrRef spec0 w) :=
  (h.arr_in c w hin).trans (A_eq m c w)

set_option maxHeartbeats 1000000 in
/-- The argument arrays end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(arr_in m h.1 c 1 rfl).trans (V_main_arg0 m c),
      (arr_in m h.1 c 3 rfl).trans (V_main_arg1 m c),
      (arr_in m h.1 c 4 rfl).trans (V_main_arg2 m c),
      (arr_in m h.1 c 5 rfl).trans (V_main_arg3 m c),
      ((h.1 c).2 main_arg4 (Pipeline.mem_restRefs_of main_arg4 (by decide) (by decide))).trans (V_main_arg4 m c),
      (arr_in m h.1 c 7 rfl).trans (V_main_arg5 m c),
      ((h.1 c).2 main_arg6 (Pipeline.mem_restRefs_of main_arg6 (by decide) (by decide))).trans (V_main_arg6 m c),
      (arr_in m h.1 c 9 rfl).trans (V_main_arg7 m c),
      ((h.1 c).2 main_arg8 (Pipeline.mem_restRefs_of main_arg8 (by decide) (by decide))).trans (V_main_arg8 m c)⟩, h.2⟩) (run_all m ρ)

end Cert.MobaIdeal.Run

end
-- ==== Proof.Moba.lean ====
/- Values of the block-sparse attention call that are followed: the two copies of the down-projection weights. -/
module

public import proofs.«01_k».proof.Proof.MobaIdealFrame
public import Idealize.ShloMosaic.Lib.Pipeline.ValueKit
public import Idealize.ShloMosaic.Lib.Pointwise

@[expose] public section

set_option maxRecDepth 16384
set_option maxHeartbeats 800000

noncomputable section

open Idealize.ShloMosaic Idealize.ShloMosaic.TcCoe Idealize.SL.Sem
open Idealize.ShloMosaic.Pipeline (Dat)

namespace Cert.MobaIdeal.Value

open Cert.MobaIdeal Cert.MobaIdeal.Gen Cert.MobaIdeal.Run

variable (m : (ℓ : Loc nD τ sig) → Buf (Elt Ideal) ℓ) (c : Dev nD)

abbrev WA : FVec Ideal S11008x4096 .f32 := m ((c : Thread nD τ).loc main_arg2)
abbrev WB : FVec Ideal S11008x4096 .f32 := m ((c : Thread nD τ).loc main_arg3)

/-- The copy of a weight array: each number as it is. -/
def COPY (w : FVec Ideal S11008x4096 .f32) : FVec Ideal S11008x4096 .bf16 := truncf .bf16 w bitsLt_bf16_f32

/-- Which block of the weights and of their copies is staged at grid point `t`. -/
theorem idx_val : ∀ t : Fin cfg0.N, win0_4.index t = ![t.val / 16, t.val % 16]
    ∧ win0_5.index t = ![t.val / 16, t.val % 16]
    ∧ win0_12.index t = ![t.val / 16, t.val % 16]
    ∧ win0_13.index t = ![t.val / 16, t.val % 16] :=
  (by decide +kernel : ∀ t : Fin grid0.N, _)

/-- The first copy after the run. -/
theorem final_a : (dats m 0 c).arrAt 12 (cfgs 0).N = COPY (WA m c) := by
  refine (dats m 0 c).arrAt_eq_of_covers 12 _ (by decide +kernel) fun t hf y => ?_
  blk_simp; rw [after0_12]
  have ht : t.val < 256 := t.isLt
  idx_vars y
  have e : (((cfg0.win 4).blk t).view.emb (ix2 y0 y1 : S688x256.Idx) : S11008x4096.Idx) = ix2 (⟨t.val / 16 * 688 + y0, by omega⟩ : Fin 11008) (⟨t.val % 16 * 256 + y1, by omega⟩ : Fin 4096) := by blk_ext [idx_val t]
  have ey : (((cfg0.win 12).blk t).view.emb (ix2 y0 y1 : S688x256.Idx) : S11008x4096.Idx) = ix2 (⟨t.val / 16 * 688 + y0, by omega⟩ : Fin 11008) (⟨t.val % 16 * 256 + y1, by omega⟩ : Fin 4096) := by blk_ext [idx_val t]
  refine Eq.trans ?_ (congrArg (COPY (WA m c)) ey.symm)
  exact congrArg (WA m c) e

/-- The second copy after the run. -/
theorem final_b : (dats m 0 c).arrAt 13 (cfgs 0).N = COPY (WB m c) := by
  refine (dats m 0 c).arrAt_eq_of_covers 13 _ (by decide +kernel) fun t hf y => ?_
  blk_simp; rw [after0_13]
  have ht : t.val < 256 := t.isLt
  idx_vars y
  have e : (((cfg0.win 5).blk t).view.emb (ix2 y0 y1 : S688x256.Idx) : S11008x4096.Idx) = ix2 (⟨t.val / 16 * 688 + y0, by omega⟩ : Fin 11008) (⟨t.val % 16 * 256 + y1, by omega⟩ : Fin 4096) := by blk_ext [idx_val t]
  have ey : (((cfg0.win 13).blk t).view.emb (ix2 y0 y1 : S688x256.Idx) : S11008x4096.Idx) = ix2 (⟨t.val / 16 * 688 + y0, by omega⟩ : Fin 11008) (⟨t.val % 16 * 256 + y1, by omega⟩ : Fin 4096) := by blk_ext [idx_val t]
  refine Eq.trans ?_ (congrArg (COPY (WB m c)) ey.symm)
  exact congrArg (WB m c) e

/-- A followed window's array ends at the contents the proof data names. -/
theorem arr_out {r : PUnit × MemSt nD τ sig (Elt Ideal)} (h : Pipeline.RDat.FramePost cfg0 (fun c => (dats m 0 c).toRForget outs) (V m) r)
    (w : Fin cfg0.W) (ho : outs w = false) :
    r.2.mem ((cfg0.spec w).arr.view.loc (c.tc : Thread nD τ)) = (dats m 0 c).arrAt w cfg0.N :=
  ((dats m 0 c).toRForget_arrAt_iff ho _ _).1 ((h c).1 w)

/-- What the run leaves in the two results and in the arguments. -/
theorem run (ρ : Dev nD → PrngReg) : θ_run defs (onTc (τ := τ) (main (F := Ideal))) ⟨m, fun _ => 0, ρ⟩ (fun r => ∀ c : Dev nD,
      r.2.mem ((c.tc : Thread nD τ).loc main_v21_1) = COPY (WA m c)
      ∧ r.2.mem ((c.tc : Thread nD τ).loc main_v21_2) = COPY (WB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(arr_out m c h.1.1 12 rfl).trans (final_a m c), (arr_out m c h.1.1 13 rfl).trans (final_b m c), h.2.1 c⟩)
    (θ_run_and (run_all m ρ) (frame m ρ))

end Cert.MobaIdeal.Value

end
-- ==== Proof.RetRef.lean ====
module

public import proofs.«01_k».proof.Proof.Gen.RetRefIdeal.Run
public import Idealize.ShloMosaic.Lib.Pipeline.ValueKit
public import Idealize.ShloMosaic.Lib.Pointwise
public import Idealize.ShloMosaic.Lib.WordCmp

set_option maxRecDepth 16384
set_option maxHeartbeats 4000000

@[expose] public section
noncomputable section

namespace Cert.RetRefIdeal.Value

open Cert.RetRefIdeal Cert.RetRefIdeal.Gen
open Idealize.ShloMosaic Idealize.ShloMosaic.TcCoe Idealize.ShloMosaic.StableHlo Idealize.SL.Sem

/-! ## Retention, written as functions of the projected array -/

/-- A natural number as the float a conversion from a word yields. -/
def FR (n : ℕ) : EReal := FloatOps.sitofp (F := Ideal) FTy.f32 (BitVec.ofNat 32 n)
/-- A head's log decay, `log1p (-2^(-5 - h))`. -/
def LG (h : ℕ) : EReal :=
  Ideal.log1p (-Ideal.exp (Ideal.ofBits FTy.f32 1060205080#32 * (Ideal.ofBits FTy.f32 3231711232#32 - FR h)))
/-- The decay of the carried state as row `r` of a chunk sees it. -/
def QD (h r : ℕ) : EReal := Ideal.exp (LG h * (FR r + 1))
/-- The decay of row `r`'s key until its chunk's end. -/
def KD (h r : ℕ) : EReal := Ideal.exp (LG h * (Ideal.ofBits FTy.f32 1123942400#32 - FR r))
/-- The decay of the state over a chunk. -/
def CD (h : ℕ) : EReal := Ideal.exp (LG h * Ideal.ofBits FTy.f32 1124073472#32)
/-- The decay between two rows of a chunk, zero above the diagonal. -/
def IN (h r s : ℕ) : EReal := if 0 ≤ FR r - FR s then Ideal.exp (LG h * max (FR r - FR s) 0) else 0
/-- The keys' scale, one sixteenth. -/
def SC : EReal := Ideal.ofBits FTy.f32 1031798784#32

/-- Row `r` of chunk `n` of head `h`, in the part of the columns that starts at `o`. -/
def part (x : FVec Ideal S8192x8192 .bf16) (o : ℕ) (ho : o ≤ 6144) (h : Fin 8) (n : ℕ) (r : Fin 128) (d : Fin 256) : EReal :=
  x (ix2 ⟨n % 64 * 128 + r, by omega⟩ ⟨o + (h * 256 + d), by omega⟩)

variable (x : FVec Ideal S8192x8192 .bf16)

/-- A head's state before chunk `n`. -/
def STATE (h : Fin 8) : ℕ → Fin 256 → Fin 256 → EReal
  | 0, _, _ => 0
  | n + 1, i, j => STATE h n i j * CD h
      + ∑ s : Fin 128, part x 2048 (by omega) h n s i * SC * KD h s * part x 4096 (by omega) h n s j
/-- A row of the result before the norm: what the chunk itself gives. -/
def OI (h : Fin 8) (n : ℕ) (r : Fin 128) (j : Fin 256) : EReal :=
  ∑ s : Fin 128, ((∑ d : Fin 256, part x 0 (by omega) h n r d * (part x 2048 (by omega) h n s d * SC)) * IN h r s)
      * part x 4096 (by omega) h n s j
/-- A row of the result before the norm: what the state gives. -/
def OX (h : Fin 8) (n : ℕ) (r : Fin 128) (j : Fin 256) : EReal :=
  (∑ i : Fin 256, part x 0 (by omega) h n r i * STATE x h n i j) * QD h r

variable (m : (ℓ : Loc nD τ sig) → Buf (Elt Ideal) ℓ) (c : Dev nD)

/-! ## What the loop starts from -/

/-- The projected array the launch holds. -/
abbrev X : FVec Ideal S8192x8192 .bf16 := launchContents m c (Proc.devRef .tc main_arg0)

theorem E0 (n : Fin 64) (h : Fin 8) (r : Fin 128) (d : Fin 256) : (entryContents preI m c (Proc.devRef .tc main_v71_0) : FVec Ideal S64x1x8x128x256 .f32) (ix5 n 0 h r d) = (part (X m c) 0 (by omega) h n r d : EReal) := by
  simp only [entryContents, preI, afterL_cons, afterL_nil]
  after_results
  try simp only [TRef.toBuf, TRef.ofBuf, id, cast_eq]
  pointwise
  try unfold part
  refine congrArg _ (congrArg₂ ix2 (Fin.ext ?_) (Fin.ext ?_)) <;> (try simp only) <;> omega

theorem E1 (n : Fin 64) (h : Fin 8) (r : Fin 128) (d : Fin 256) : (entryContents preI m c (Proc.devRef .tc main_v71_1) : FVec Ideal S64x1x8x128x256 .f32) (ix5 n 0 h r d) = (part (X m c) 2048 (by omega) h n r d * SC : EReal) := by
  simp only [entryContents, preI, afterL_cons, afterL_nil]
  after_results
  try simp only [TRef.toBuf, TRef.ofBuf, id, cast_eq]
  pointwise
  unfold part SC
  refine congrArg (· * _) (congrArg _ (congrArg₂ ix2 (Fin.ext ?_) (Fin.ext ?_))) <;> (try simp only) <;> omega

theorem E2 (n : Fin 64) (h : Fin 8) (r : Fin 128) (d : Fin 256) : (entryContents preI m c (Proc.devRef .tc main_v71_2) : FVec Ideal S64x1x8x128x256 .f32) (ix5 n 0 h r d) = (part (X m c) 4096 (by omega) h n r d : EReal) := by
  simp only [entryContents, preI, afterL_cons, afterL_nil]
  after_results
  try simp only [TRef.toBuf, TRef.ofBuf, id, cast_eq]
  pointwise
  try unfold part
  refine congrArg _ (congrArg₂ ix2 (Fin.ext ?_) (Fin.ext ?_)) <;> (try simp only) <;> omega

theorem E3 (h : Fin 8) (r : Fin 128) : (entryContents preI m c (Proc.devRef .tc main_v71_3) : FVec Ideal S8x128 .f32) (ix2 h r) = (QD h r : EReal) := by
  simp only [entryContents, preI, afterL_cons, afterL_nil]
  after_results
  try simp only [TRef.toBuf, TRef.ofBuf, id, cast_eq]
  pointwise
  rfl

theorem E4 (h : Fin 8) (r : Fin 128) : (entryContents preI m c (Proc.devRef .tc main_v71_4) : FVec Ideal S8x128 .f32) (ix2 h r) = (KD h r : EReal) := by
  simp only [entryContents, preI, afterL_cons, afterL_nil]
  after_results
  try simp only [TRef.toBuf, TRef.ofBuf, id, cast_eq]
  pointwise
  rfl

theorem E5 (h : Fin 8) : (entryContents preI m c (Proc.devRef .tc main_v71_5) : FVec Ideal S8 .f32) (ix1 h) = (CD h : EReal) := by
  simp only [entryContents, preI, afterL_cons, afterL_nil]
  after_results
  try simp only [TRef.toBuf, TRef.ofBuf, id, cast_eq]
  pointwise
  rfl

theorem E7 (h : Fin 8) (r d : Fin 256) : (entryContents preI m c (Proc.devRef .tc main_v71_7) : FVec Ideal S1x8x256x256 .f32) (ix4 0 h r d) = (0 : EReal) := by
  simp only [entryContents, preI, afterL_cons, afterL_nil]
  after_results
  try simp only [TRef.toBuf, TRef.ofBuf, id, cast_eq]
  pointwise

theorem E65 (n : Fin 64) (h : Fin 8) (r : Fin 128) (d : Fin 256) : (entryContents preI m c (Proc.devRef .tc main_v65) : FVec Ideal S1x8x64x128x256 .f32) (ix5 0 h n r d) = (OI (X m c) h n r d : EReal) := by
  simp only [entryContents, preI, afterL_cons, afterL_nil]
  after_results
  try simp only [TRef.toBuf, TRef.ofBuf, id, cast_eq]
  pointwise
  unfold OI IN
  show @Eq EReal _ _
  refine Finset.sum_congr rfl fun s _ => ?_
  refine congrArg₂ (· * ·) (congrArg₂ (· * ·) (Finset.sum_congr rfl fun e _ => ?_) rfl) ?_
  · unfold part SC
    refine congrArg₂ (· * ·) (congrArg _ (congrArg₂ ix2 (Fin.ext ?_) (Fin.ext ?_)))
      (congrArg (· * _) (congrArg _ (congrArg₂ ix2 (Fin.ext ?_) (Fin.ext ?_)))) <;> (try simp only) <;> omega
  · unfold part
    refine congrArg _ (congrArg₂ ix2 (Fin.ext ?_) (Fin.ext ?_)) <;> (try simp only) <;> omega

theorem E5g (r : Fin 8192) (d : Fin 2048) : (entryContents preI m c (Proc.devRef .tc main_v5) : FVec Ideal S1x8192x2048 .f32) (ix3 0 r d) = (X m c (ix2 r ⟨6144 + d, by omega⟩) : EReal) := by
  simp only [entryContents, preI, afterL_cons, afterL_nil]
  after_results
  try simp only [TRef.toBuf, TRef.ofBuf, id, cast_eq]
  pointwise

/-! ## A trip of the loop -/

theorem slices_chunk (k : ℕ) (hk : k < 64) : S64x1x8x128x256.Slices (![k, 0, 0, 0, 0] : Fin 5 → ℕ) S1x1x8x128x256 :=
  ⟨rfl, fun a => by fin_cases a <;> simp <;> omega⟩

theorem start_chunk (V : Valuation τ sig (Elt Ideal)) (k : ℕ) (hk : k < 64)
    (h6 : V (Proc.devRef .tc main_v71_6) = fun _ => Scf.iv 0#32 1#32 k) (a : Fin 5) :
    ((![V (Proc.devRef .tc main_v71_6), constantI S_ 32 0#32, constantI S_ 32 0#32, constantI S_ 32 0#32,
      constantI S_ 32 0#32] : Fin 5 → (⟨S_, .i32⟩ : BufTy).Contents (Elt Ideal)) a (Shape.Idx.first Gen.h_S_)).toInt
      = ((![k, 0, 0, 0, 0] : Fin 5 → ℕ) a : ℤ) := by
  fin_cases a
  · show (V (Proc.devRef .tc main_v71_6) (Shape.Idx.first Gen.h_S_)).toInt = (k : ℤ)
    rw [h6]
    simp only [Scf.iv, BitVec.mul_one, BitVec.zero_add]
    rw [BitVec.toInt_eq_toNat_of_lt (by rw [BitVec.toNat_ofNat]; omega), BitVec.toNat_ofNat]
    omega
  all_goals rfl

/-- A valuation's `f32` array, read at an index. -/
abbrev rd {S : Shape} (v : FVec Ideal S .f32) (i : S.Idx) : EReal := v i

theorem step7 (V : Valuation τ sig (Elt Ideal)) (k : ℕ) (hk : k < 64)
    (h6 : V (Proc.devRef .tc main_v71_6) = fun _ => Scf.iv 0#32 1#32 k) (h : Fin 8) (i j : Fin 256) :
    rd (S := S1x8x256x256) (step_main_v71_7 V) (ix4 0 h i j)
      = rd (S := S1x8x256x256) (V (Proc.devRef .tc main_v71_7)) (ix4 0 h i j) * rd (S := S8) (V (Proc.devRef .tc main_v71_5)) (ix1 h)
        + ∑ s : Fin 128, rd (S := S64x1x8x128x256) (V (Proc.devRef .tc main_v71_1)) (ix5 ⟨k, hk⟩ 0 h s i)
            * rd (S := S8x128) (V (Proc.devRef .tc main_v71_4)) (ix2 h s)
            * rd (S := S64x1x8x128x256) (V (Proc.devRef .tc main_v71_2)) (ix5 ⟨k, hk⟩ 0 h s j) := by
  unfold step_main_v71_7 rd
  simp only [id]
  rw [WordCmp.dynamicSlice_eq_extract _ _ _ _ ![k, 0, 0, 0, 0] (slices_chunk k hk) (start_chunk V k hk h6),
    WordCmp.dynamicSlice_eq_extract _ _ _ _ ![k, 0, 0, 0, 0] (slices_chunk k hk) (start_chunk V k hk h6)]
  pointwise

theorem step8 (V : Valuation τ sig (Elt Ideal)) (k : ℕ) (hk : k < 64)
    (h6 : V (Proc.devRef .tc main_v71_6) = fun _ => Scf.iv 0#32 1#32 k) (n : Fin 64) (h : Fin 8) (r : Fin 128) (j : Fin 256) :
    rd (S := S64x1x8x128x256) (step_main_v71_8 V) (ix5 n 0 h r j)
      = if (n : ℕ) = k then (∑ i : Fin 256, rd (S := S64x1x8x128x256) (V (Proc.devRef .tc main_v71_0)) (ix5 ⟨k, hk⟩ 0 h r i)
            * rd (S := S1x8x256x256) (V (Proc.devRef .tc main_v71_7)) (ix4 0 h i j)) * rd (S := S8x128) (V (Proc.devRef .tc main_v71_3)) (ix2 h r)
        else rd (S := S64x1x8x128x256) (V (Proc.devRef .tc main_v71_8)) (ix5 n 0 h r j) := by
  unfold step_main_v71_8 rd
  simp only [id]
  rw [WordCmp.dynamicUpdateSlice_eq_update _ _ _ _ ![k, 0, 0, 0, 0] (slices_chunk k hk) (start_chunk V k hk h6),
    WordCmp.dynamicSlice_eq_extract _ _ _ _ ![k, 0, 0, 0, 0] (slices_chunk k hk) (start_chunk V k hk h6)]
  pointwise
  refine if_congr ⟨fun hc => ?_, fun hc a => ?_⟩ rfl rfl
  · have h0 := hc 0
    change k ≤ (n : ℕ) ∧ (n : ℕ) < k + 1 at h0
    omega
  · fin_cases a
    · show k ≤ (n : ℕ) ∧ (n : ℕ) < k + 1
      omega
    · exact ⟨Nat.zero_le _, by show (0 : ℕ) < 0 + 1; omega⟩
    · exact ⟨Nat.zero_le _, by show (h : ℕ) < 0 + 8; omega⟩
    · exact ⟨Nat.zero_le _, by show (r : ℕ) < 0 + 128; omega⟩
    · exact ⟨Nat.zero_le _, by show (j : ℕ) < 0 + 256; omega⟩

/-! ## The trips together -/

/-- The buffers before the `k`-th trip, as far as the loop carries them. -/
abbrev VK (k : ℕ) : Valuation τ sig (Elt Ideal) := STEP^[k] (entryContents preI m c)

theorem VK_succ (k : ℕ) : VK m c (k + 1) = STEP (VK m c k) := Function.iterate_succ_apply' ..

theorem VK_0 : ∀ k, VK m c k (Proc.devRef .tc main_v71_0) = entryContents preI m c (Proc.devRef .tc main_v71_0)
  | 0 => rfl
  | k + 1 => by rw [VK_succ, STEP_main_v71_0, VK_0 k]
theorem VK_1 : ∀ k, VK m c k (Proc.devRef .tc main_v71_1) = entryContents preI m c (Proc.devRef .tc main_v71_1)
  | 0 => rfl
  | k + 1 => by rw [VK_succ, STEP_main_v71_1, VK_1 k]
theorem VK_2 : ∀ k, VK m c k (Proc.devRef .tc main_v71_2) = entryContents preI m c (Proc.devRef .tc main_v71_2)
  | 0 => rfl
  | k + 1 => by rw [VK_succ, STEP_main_v71_2, VK_2 k]
theorem VK_3 : ∀ k, VK m c k (Proc.devRef .tc main_v71_3) = entryContents preI m c (Proc.devRef .tc main_v71_3)
  | 0 => rfl
  | k + 1 => by rw [VK_succ, STEP_main_v71_3, VK_3 k]
theorem VK_4 : ∀ k, VK m c k (Proc.devRef .tc main_v71_4) = entryContents preI m c (Proc.devRef .tc main_v71_4)
  | 0 => rfl
  | k + 1 => by rw [VK_succ, STEP_main_v71_4, VK_4 k]
theorem VK_5 : ∀ k, VK m c k (Proc.devRef .tc main_v71_5) = entryContents preI m c (Proc.devRef .tc main_v71_5)
  | 0 => rfl
  | k + 1 => by rw [VK_succ, STEP_main_v71_5, VK_5 k]
theorem VK_6 (k : ℕ) : VK m c k (Proc.devRef .tc main_v71_6) = fun _ => Scf.iv 0#32 1#32 k :=
  ((atK_agree m c k) main_v71_6 (by decide)).symm.trans (atK_ctr m c k)

theorem VK_7 : ∀ k, k ≤ 64 → ∀ (h : Fin 8) (i j : Fin 256),
    rd (S := S1x8x256x256) (VK m c k (Proc.devRef .tc main_v71_7)) (ix4 0 h i j) = STATE (X m c) h k i j
  | 0, _, h, i, j => E7 m c h i j
  | k + 1, hk, h, i, j => by
    rw [VK_succ, STEP_main_v71_7, step7 _ k (by omega) (VK_6 m c k), VK_7 k (by omega), VK_5, VK_4, VK_1, VK_2]
    unfold rd
    rw [E5]
    rw [STATE]
    refine congrArg (fun t : EReal => STATE (X m c) h k i j * CD h + t) (Finset.sum_congr (M := EReal) rfl fun s _ => ?_)
    exact congrArg₂ (fun a b : EReal => a * b) (congrArg₂ (fun a b : EReal => a * b) (E1 m c ⟨k, by omega⟩ h s i) (E4 m c h s)) (E2 m c ⟨k, by omega⟩ h s j)

theorem VK_8 : ∀ k, k ≤ 64 → ∀ (n : Fin 64), (n : ℕ) < k → ∀ (h : Fin 8) (r : Fin 128) (j : Fin 256),
    rd (S := S64x1x8x128x256) (VK m c k (Proc.devRef .tc main_v71_8)) (ix5 n 0 h r j) = OX (X m c) h n r j
  | 0, _, _, hn, _, _, _ => absurd hn (Nat.not_lt_zero _)
  | k + 1, hk, n, hn, h, r, j => by
    rw [VK_succ, STEP_main_v71_8, step8 _ k (by omega) (VK_6 m c k)]
    split
    · rename_i e
      unfold OX
      rw [VK_3, VK_0]
      unfold rd
      rw [E3, e]
      have hs : ∀ i : Fin 256, rd (S := S64x1x8x128x256) (entryContents preI m c (Proc.devRef .tc main_v71_0)) (ix5 ⟨k, by omega⟩ 0 h r i)
          * rd (S := S1x8x256x256) (VK m c k (Proc.devRef .tc main_v71_7)) (ix4 0 h i j)
          = part (X m c) 0 (by omega) h k r i * STATE (X m c) h k i j := fun i => by
        rw [VK_7 m c k (by omega) h i j]
        exact congrArg (· * _) (E0 m c ⟨k, by omega⟩ h r i)
      exact congrArg (· * QD h r) (Finset.sum_congr rfl fun i _ => hs i)
    · exact VK_8 k (by omega) n (by omega) h r j

/-! ## After the loop -/

/-- A row of 256, centred and scaled by the root of its variance, gated. -/
def GATED (o : Fin 256 → EReal) (j : Fin 256) (g : EReal) : EReal :=
  (o j - Ideal.div (∑ e, o e) (Ideal.ofBits FTy.f32 1132462080#32))
      * Ideal.rsqrt (Ideal.div (∑ e, (o e - Ideal.div (∑ e, o e) (Ideal.ofBits FTy.f32 1132462080#32))
          * (o e - Ideal.div (∑ e, o e) (Ideal.ofBits FTy.f32 1132462080#32))) (Ideal.ofBits FTy.f32 1132462080#32)
        + Ideal.ofBits FTy.f32 897988541#32)
    * (g * Ideal.div 1 (1 + Ideal.exp (-g)))

/-- Retention's result at a row and a column. -/
def RES (R : Fin 8192) (C : Fin 2048) : EReal :=
  GATED (fun j => OI x ⟨C / 256, by omega⟩ (R / 128) ⟨R % 128, by omega⟩ j + OX x ⟨C / 256, by omega⟩ (R / 128) ⟨R % 128, by omega⟩ j)
    ⟨C % 256, by omega⟩ (x (ix2 R ⟨6144 + C, by omega⟩))

/-- Retention's result. -/
def RETO : FVec Ideal S8192x2048 .bf16 := fun i => RES x (i 0) (i 1)

/-- The modulation's result at a column. -/
def MODR (v : FVec Ideal S1x4096 .f32) (w : FVec Ideal S4096x12288 .f32) (b : FVec Ideal S12288 .f32) (C : Fin 12288) : EReal :=
  (∑ k : Fin 4096, v (ix2 0 k) * Ideal.div 1 (1 + Ideal.exp (-v (ix2 0 k))) * w (ix2 k C)) + b (ix1 C)

/-- The modulation's result. -/
def MODO (v : FVec Ideal S1x4096 .f32) (w : FVec Ideal S4096x12288 .f32) (b : FVec Ideal S12288 .f32) : FVec Ideal S1x12288 .f32 :=
  fun i => MODR v w b (i 1)

theorem P102 (W : Valuation τ sig (Elt Ideal)) (R : Fin 8192) (C : Fin 2048) :
    (afterL postI W (Proc.devRef .tc main_v102) : FVec Ideal S8192x2048 .bf16) (ix2 R C)
      = GATED (fun j => rd (S := S1x8x64x128x256) (W (Proc.devRef .tc main_v65)) (ix5 0 ⟨C / 256, by omega⟩ ⟨R / 128, by omega⟩ ⟨R % 128, by omega⟩ j)
          + rd (S := S64x1x8x128x256) (W (Proc.devRef .tc main_v71_8)) (ix5 ⟨R / 128, by omega⟩ 0 ⟨C / 256, by omega⟩ ⟨R % 128, by omega⟩ j))
        ⟨C % 256, by omega⟩ (rd (S := S1x8192x2048) (W (Proc.devRef .tc main_v5)) (ix3 0 R C)) := by
  simp only [postI, afterL_cons, afterL_nil]
  after_results
  try simp only [TRef.toBuf, TRef.ofBuf, id, cast_eq]
  pointwise
  rfl

theorem P100 (W : Valuation τ sig (Elt Ideal)) (C : Fin 12288) :
    (afterL postI W (Proc.devRef .tc main_v100) : FVec Ideal S1x12288 .f32) (ix2 0 C)
      = MODR (W (Proc.devRef .tc main_arg1)) (W (Proc.devRef .tc main_arg2)) (W (Proc.devRef .tc main_arg3)) C := by
  simp only [postI, afterL_cons, afterL_nil]
  after_results
  try simp only [TRef.toBuf, TRef.ofBuf, id, cast_eq]
  pointwise
  rfl

/-- A buffer no operation of a trip writes keeps its contents. -/
theorem keep_trip (V : Valuation τ sig (Elt Ideal)) (r : Ref sig .tc)
    (h : r ∉ condOps_W ++ (while0Ops0_W ++ (while0Ops0_1_W ++ (while0Ops0_2_W ++ (while0Ops0_3_W ++ (while0Ops0_4_W ++ while0Ops0_5_W)))))) :
    afterL bodyI (after condOps V) (Proc.devRef .tc r) = V (Proc.devRef .tc r) := by
  simp only [List.mem_append, not_or] at h
  obtain ⟨h0, h1, h2, h3, h4, h5, h6⟩ := h
  simp only [bodyI, afterL_cons, afterL_nil]
  rw [after_of_writes_sub while0Ops0_5 _ while0Ops0_5_writes h6, after_of_writes_sub while0Ops0_4 _ while0Ops0_4_writes h5,
    after_of_writes_sub while0Ops0_3 _ while0Ops0_3_writes h4, after_of_writes_sub while0Ops0_2 _ while0Ops0_2_writes h3,
    after_of_writes_sub while0Ops0_1 _ while0Ops0_1_writes h2, after_of_writes_sub while0Ops0 _ while0Ops0_writes h1,
    after_of_writes_sub condOps _ condOps_writes h0]

theorem keep_atK (r : Ref sig .tc)
    (h : r ∉ condOps_W ++ (while0Ops0_W ++ (while0Ops0_1_W ++ (while0Ops0_2_W ++ (while0Ops0_3_W ++ (while0Ops0_4_W ++ while0Ops0_5_W)))))) :
    ∀ k, atK m k c (Proc.devRef .tc r) = entryContents preI m c (Proc.devRef .tc r)
  | 0 => rfl
  | k + 1 => (keep_trip (atK m k c) r h).trans (keep_atK r h k)

/-- A buffer no operation of a trip writes, after the loop. -/
theorem keep_loop (r : Ref sig .tc)
    (h : r ∉ condOps_W ++ (while0Ops0_W ++ (while0Ops0_1_W ++ (while0Ops0_2_W ++ (while0Ops0_3_W ++ (while0Ops0_4_W ++ while0Ops0_5_W)))))) :
    after condOps (atK m 64 c) (Proc.devRef .tc r) = entryContents preI m c (Proc.devRef .tc r) :=
  (after_of_writes_sub condOps _ condOps_writes fun hm => h (List.mem_append_left _ hm)).trans (keep_atK m c r h 64)

theorem entry_arg1 : entryContents preI m c (Proc.devRef .tc main_arg1) = launchContents m c (Proc.devRef .tc main_arg1) := by
  simp only [entryContents, preI, afterL_cons, afterL_nil]
  after_results
theorem entry_arg2 : entryContents preI m c (Proc.devRef .tc main_arg2) = launchContents m c (Proc.devRef .tc main_arg2) := by
  simp only [entryContents, preI, afterL_cons, afterL_nil]
  after_results
theorem entry_arg3 : entryContents preI m c (Proc.devRef .tc main_arg3) = launchContents m c (Proc.devRef .tc main_arg3) := by
  simp only [entryContents, preI, afterL_cons, afterL_nil]
  after_results

theorem final_o : finalContents condOps preI bodyI postI 64 m c (Proc.devRef .tc main_v102) = RETO (X m c) := by
  funext (i : S8192x2048.Idx)
  obtain ⟨R, C, rfl⟩ : ∃ (R : Fin 8192) (C : Fin 2048), i = ix2 R C := ⟨i 0, i 1, eq_ix2 i⟩
  refine (P102 _ R C).trans ?_
  show _ = RES (X m c) R C
  unfold RES
  refine congrArg₂ (fun f g => GATED f _ g) (funext fun j => congrArg₂ (· + ·) ?_ ?_) ?_
  · exact (congrFun (keep_loop m c main_v65 (by decide)) _).trans (E65 m c ⟨(R : ℕ) / 128, by omega⟩ _ _ _)
  · refine (congrFun (((cond_keeps (atK m 64 c)) main_v71_8 (by decide)).trans ((atK_agree m c 64) main_v71_8 (by decide))) _).trans ?_
    exact VK_8 m c 64 le_rfl ⟨(R : ℕ) / 128, by omega⟩ (by simp only; omega) _ _ _
  · exact (congrFun (keep_loop m c main_v5 (by decide)) _).trans (E5g m c _ _)

theorem final_mod : finalContents condOps preI bodyI postI 64 m c (Proc.devRef .tc main_v100)
    = MODO (launchContents m c (Proc.devRef .tc main_arg1)) (launchContents m c (Proc.devRef .tc main_arg2)) (launchContents m c (Proc.devRef .tc main_arg3)) := by
  funext (i : S1x12288.Idx)
  obtain ⟨R, C, rfl⟩ : ∃ (R : Fin 1) (C : Fin 12288), i = ix2 R C := ⟨i 0, i 1, eq_ix2 i⟩
  obtain rfl : R = 0 := Subsingleton.elim _ _
  refine (P100 _ C).trans ?_
  unfold MODO
  rw [keep_loop m c main_arg1 (by decide), keep_loop m c main_arg2 (by decide), keep_loop m c main_arg3 (by decide), entry_arg1, entry_arg2, entry_arg3]
  try rfl

theorem final_arg0 : finalContents condOps preI bodyI postI 64 m c (Proc.devRef .tc main_arg0) = launchContents m c (Proc.devRef .tc main_arg0) := by
  have h := keep_loop m c main_arg0 (by decide)
  have e : entryContents preI m c (Proc.devRef .tc main_arg0) = launchContents m c (Proc.devRef .tc main_arg0) := by
    simp only [entryContents, preI, afterL_cons, afterL_nil]
    after_results
  refine Eq.trans ?_ (h.trans e)
  simp only [finalContents, postI, afterL_cons, afterL_nil]
  after_results
theorem final_arg1 : finalContents condOps preI bodyI postI 64 m c (Proc.devRef .tc main_arg1) = launchContents m c (Proc.devRef .tc main_arg1) := by
  refine Eq.trans ?_ ((keep_loop m c main_arg1 (by decide)).trans (entry_arg1 m c))
  simp only [finalContents, postI, afterL_cons, afterL_nil]
  after_results
theorem final_arg2 : finalContents condOps preI bodyI postI 64 m c (Proc.devRef .tc main_arg2) = launchContents m c (Proc.devRef .tc main_arg2) := by
  refine Eq.trans ?_ ((keep_loop m c main_arg2 (by decide)).trans (entry_arg2 m c))
  simp only [finalContents, postI, afterL_cons, afterL_nil]
  after_results
theorem final_arg3 : finalContents condOps preI bodyI postI 64 m c (Proc.devRef .tc main_arg3) = launchContents m c (Proc.devRef .tc main_arg3) := by
  refine Eq.trans ?_ ((keep_loop m c main_arg3 (by decide)).trans (entry_arg3 m c))
  simp only [finalContents, postI, afterL_cons, afterL_nil]
  after_results

/-- Every run of the reference ends with retention's result and the modulation's, its arguments as launched. -/
theorem run (ρ : Dev nD → PrngReg) : θ_run (defs (F := Ideal)) (onTc (τ := τ) (main (F := Ideal))) ⟨m, fun _ => 0, ρ⟩
    (fun r => ∀ c : Dev nD,
      r.2.mem ((c.tc : Thread nD τ).loc main_v102) = RETO (m ((c.tc : Thread nD τ).loc main_arg0))
      ∧ r.2.mem ((c.tc : Thread nD τ).loc main_v100)
          = MODO (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v102 rfl).trans (final_o m c), (h c main_v100 rfl).trans (final_mod m c),
    (h c main_arg0 rfl).trans (final_arg0 m c), (h c main_arg1 rfl).trans (final_arg1 m c),
    (h c main_arg2 rfl).trans (final_arg2 m c), (h c main_arg3 rfl).trans (final_arg3 m c)⟩) (run_fold m ρ)

end Cert.RetRefIdeal.Value

end
-- ==== Proof.RetStep.lean ====
module

public import proofs.«01_k».proof.Proof.Gen.RetIdeal.Value
public import proofs.«01_k».proof.Proof.RetRef
public import Idealize.ShloMosaic.Lib.Pipeline.ValueKit
public import Idealize.ShloMosaic.Lib.Pointwise

set_option maxRecDepth 16384
set_option maxHeartbeats 4000000

@[expose] public section
noncomputable section

namespace Cert.RetIdeal.Value

open Cert.RetIdeal Cert.RetIdeal.Gen
open Idealize.ShloMosaic Idealize.ShloMosaic.TcCoe Idealize.SL.Sem
open Cert.RetRefIdeal.Value (FR LG QD KD CD IN SC part STATE OI OX GATED RES)

/-! ## One chunk of one head

The body states a chunk's two stores eight times, once for each chunk and head; the eight are the same two functions
of the head's log decay, the chunk's rows and the state. -/

/-- The state a chunk leaves. -/
def NXT (lg : Elt Ideal .f32) (k v : Vec Ideal S128x256 .bf16) (s : Vec Ideal S1x256x256 .f32) : FVec Ideal S1x256x256 .f32 :=
  k0_pay37 (k0_pay29 lg) (k0_pay30 lg (Scalar.ofBits .f32 0x43000000#32)) k v (k0_pay35 s)

/-- The rows a chunk stores. -/
def OUTP (lg : Elt Ideal .f32) (q k v : Vec Ideal S128x256 .bf16) (s : Vec Ideal S1x256x256 .f32) (g : Vec Ideal S128x256 .bf16) :
    FVec Ideal S128x256 .bf16 :=
  k0_pay38 (k0_pay28 lg) q v (k0_pay35 s) (k0_pay36 (k0_pay27 lg) q k) g

section Same

variable (lg : Elt Ideal .f32) (q k v : Vec Ideal S128x256 .bf16) (s : Vec Ideal S1x256x256 .f32) (g : Vec Ideal S128x256 .bf16)

theorem n00 : k0_pay37 (k0_pay29 lg) (k0_pay30 lg (Scalar.ofBits .f32 0x43000000#32)) k v (k0_pay35 s) = NXT lg k v s := rfl
theorem n01 : k0_pay40 (k0_pay33 k0_pay26 lg) (k0_pay34 lg) k v s = NXT lg k v s := rfl
theorem n10 : k0_pay46 (k0_pay29 lg) (k0_pay30 lg (Scalar.ofBits .f32 0x43000000#32)) k v s = NXT lg k v s := rfl
theorem n11 : k0_pay53 (k0_pay34 lg) (k0_pay50 s) (k0_pay52 (k0_pay33 k0_pay26 lg) k v) = NXT lg k v s := rfl
theorem n20 : k0_pay57 (k0_pay29 lg) (k0_pay30 lg (Scalar.ofBits .f32 0x43000000#32)) k v (k0_pay55 s) = NXT lg k v s := rfl
theorem n21 : k0_pay60 (k0_pay33 k0_pay26 lg) (k0_pay34 lg) k v s = NXT lg k v s := rfl
theorem n30 : k0_pay66 (k0_pay29 lg) (k0_pay30 lg (Scalar.ofBits .f32 0x43000000#32)) k v s = NXT lg k v s := rfl
theorem n31 : k0_pay73 (k0_pay34 lg) (k0_pay70 s) (k0_pay72 (k0_pay33 k0_pay26 lg) k v) = NXT lg k v s := rfl

theorem o00 : k0_pay38 (k0_pay28 lg) q v (k0_pay35 s) (k0_pay36 (k0_pay27 lg) q k) g = OUTP lg q k v s g := rfl
theorem o01 : k0_pay43 (k0_pay41 (k0_pay31 k0_pay25 lg) (k0_pay32 k0_pay26 lg) q k v s)
    (k0_pay42 (k0_pay31 k0_pay25 lg) (k0_pay32 k0_pay26 lg) q k v s) g = OUTP lg q k v s g := rfl
theorem o10 : k0_pay49 (k0_pay45 (k0_pay27 lg) (k0_pay28 lg) q k v s) (k0_pay47 (k0_pay27 lg) (k0_pay28 lg) q k v s) k0_pay48 g
    = OUTP lg q k v s g := rfl
theorem o11 : k0_pay54 (k0_pay51 (k0_pay31 k0_pay25 lg) (k0_pay32 k0_pay26 lg) q k v s) g = OUTP lg q k v s g := rfl
theorem o20 : k0_pay58 (k0_pay28 lg) q v (k0_pay55 s) (k0_pay56 (k0_pay27 lg) q k) g = OUTP lg q k v s g := rfl
theorem o21 : k0_pay63 (k0_pay61 (k0_pay31 k0_pay25 lg) (k0_pay32 k0_pay26 lg) q k v s)
    (k0_pay62 (k0_pay31 k0_pay25 lg) (k0_pay32 k0_pay26 lg) q k v s) g = OUTP lg q k v s g := rfl
theorem o30 : k0_pay69 (k0_pay65 (k0_pay27 lg) (k0_pay28 lg) q k v s) (k0_pay67 (k0_pay27 lg) (k0_pay28 lg) q k v s) k0_pay68 g
    = OUTP lg q k v s g := rfl
theorem o31 : k0_pay74 (k0_pay71 (k0_pay31 k0_pay25 lg) (k0_pay32 k0_pay26 lg) q k v s) g = OUTP lg q k v s g := rfl

theorem SC_eq : SC = ((1 / 16 : ℝ) : EReal) := by
  unfold SC
  simp [Ideal.ofBits, Ideal.ieee, -EReal.coe_mul]; norm_num

theorem SC_nonneg : 0 ≤ SC := by rw [SC_eq]; exact EReal.coe_nonneg.mpr (by norm_num)
theorem SC_ne_top : SC ≠ ⊤ := by rw [SC_eq]; exact EReal.coe_ne_top _

/-- The scale out of a sum. -/
theorem sum_SC {n : ℕ} (f : Fin n → EReal) : (∑ i, f i * SC) = (∑ i, f i) * SC := by
  have h : ∀ t : Finset (Fin n), (∑ i ∈ t, f i * SC) = (∑ i ∈ t, f i) * SC := by
    intro t
    induction t using Finset.induction_on with
    | empty => simp
    | insert a t ha ih =>
      rw [Finset.sum_insert ha, Finset.sum_insert ha, ih, EReal.right_distrib_of_nonneg_of_ne_top SC_nonneg SC_ne_top]
  exact h Finset.univ

/-- A difference of two rows' numbers, as the kernel takes it on words. -/
theorem FR_sub (r s : Fin 128) :
    (FloatOps.sitofp (F := Ideal) FTy.f32 (IntOp.subi (BitVec.ofNat 32 r) (BitVec.ofNat 32 s)) : EReal) = FR r - FR s := by
  have hr : (BitVec.ofNat 32 (r : ℕ)).toInt = (r : ℤ) := by
    rw [BitVec.toInt_eq_toNat_of_lt (by rw [BitVec.toNat_ofNat]; omega), BitVec.toNat_ofNat]; omega
  have hs : (BitVec.ofNat 32 (s : ℕ)).toInt = (s : ℤ) := by
    rw [BitVec.toInt_eq_toNat_of_lt (by rw [BitVec.toNat_ofNat]; omega), BitVec.toNat_ofNat]; omega
  have hd : (IntOp.subi (BitVec.ofNat 32 (r : ℕ)) (BitVec.ofNat 32 (s : ℕ))).toInt = (r : ℤ) - (s : ℤ) := by
    show (BitVec.ofNat 32 (r : ℕ) - BitVec.ofNat 32 (s : ℕ)).toInt = _
    rw [BitVec.toInt_sub, hr, hs, Int.bmod_def]
    split <;> omega
  show (((IntOp.subi (BitVec.ofNat 32 (r : ℕ)) (BitVec.ofNat 32 (s : ℕ))).toInt : ℝ) : EReal)
    = (((BitVec.ofNat 32 (r : ℕ)).toInt : ℝ) : EReal) - (((BitVec.ofNat 32 (s : ℕ)).toInt : ℝ) : EReal)
  rw [hd, hr, hs, ← EReal.coe_sub]
  push_cast
  rfl

variable (x : FVec Ideal S8192x8192 .bf16) (h : Fin 8) (n : ℕ)

/-- The state a chunk leaves is the recurrence's next. -/
theorem NXT_at (hk : ∀ (r : Fin 128) (d : Fin 256), k (ix2 r d) = part x 2048 (by omega) h n r d)
    (hv : ∀ (r : Fin 128) (d : Fin 256), v (ix2 r d) = part x 4096 (by omega) h n r d)
    (hs : ∀ i j : Fin 256, s (ix3 0 i j) = STATE x h n i j) (i j : Fin 256) :
    NXT (LG h) k v s (ix3 0 i j) = STATE x h (n + 1) i j := by
  unfold NXT
  pointwise [k0_pay37, k0_pay29, k0_pay30, k0_pay35, k0_pay26]
  rw [STATE, hs]
  refine congrArg₂ (fun a b : EReal => a + b) rfl (Finset.sum_congr (M := EReal) rfl fun r _ => ?_)
  rw [hk, hv]
  unfold KD SC
  refine congrArg (fun t : EReal => t * _) ?_
  rw [mul_assoc]
  exact congrArg (fun t : EReal => _ * t) (mul_comm _ _)

/-- The rows a chunk stores are the reference's, gated. -/
theorem OUTP_at (hq : ∀ (r : Fin 128) (d : Fin 256), q (ix2 r d) = part x 0 (by omega) h n r d)
    (hk : ∀ (r : Fin 128) (d : Fin 256), k (ix2 r d) = part x 2048 (by omega) h n r d)
    (hv : ∀ (r : Fin 128) (d : Fin 256), v (ix2 r d) = part x 4096 (by omega) h n r d)
    (hs : ∀ i j : Fin 256, s (ix3 0 i j) = STATE x h n i j) (r : Fin 128) (j : Fin 256) :
    OUTP (LG h) q k v s g (ix2 r j) = GATED (fun j => OI x h n r j + OX x h n r j) j (g (ix2 r j)) := by
  have key : ∀ j : Fin 256, (∑ t : Fin 128, (∑ d : Fin 256, q (ix2 r d) * k (ix2 t d)) *
        ((if 0 ≤ (FloatOps.sitofp (F := Ideal) FTy.f32 (IntOp.subi (BitVec.ofNat 32 ↑r) (BitVec.ofNat 32 ↑t)) : EReal) then
          Ideal.exp (LG h * max (FloatOps.sitofp (F := Ideal) FTy.f32 (IntOp.subi (BitVec.ofNat 32 ↑r) (BitVec.ofNat 32 ↑t))) 0)
          else 0) * Ideal.ofBits FTy.f32 1031798784#32) * v (ix2 t j))
      + (∑ i : Fin 256, q (ix2 r i) * s (ix3 0 i j)) * Ideal.exp (LG h * (FloatOps.sitofp (F := Ideal) FTy.f32 (BitVec.ofNat 32 ↑r) + 1))
      = OI x h n r j + OX x h n r j := by
    intro j
    unfold OI OX
    refine congrArg₂ (fun a b : EReal => a + b) (Finset.sum_congr (M := EReal) rfl fun t _ => ?_) ?_
    · rw [hv, FR_sub]
      refine congrArg (fun a : EReal => a * _) ?_
      have e : (∑ d : Fin 256, part x 0 (by omega) h n r d * (part x 2048 (by omega) h n t d * SC))
          = (∑ d : Fin 256, q (ix2 r d) * k (ix2 t d)) * SC := by
        rw [← sum_SC]
        refine Finset.sum_congr (M := EReal) rfl fun d _ => ?_
        rw [hq, hk, mul_assoc]
      rw [e, mul_assoc]
      refine congrArg (fun a : EReal => _ * a) ?_
      rw [mul_comm]
      rfl
    · refine congrArg (fun a : EReal => a * _) (Finset.sum_congr (M := EReal) rfl fun i _ => ?_)
      rw [hq, hs]
  unfold OUTP
  pointwise [k0_pay38, k0_pay28, k0_pay36, k0_pay27, k0_pay35, k0_pay26, k0_pay25]
  simp only [key]
  rfl

end Same

end Cert.RetIdeal.Value

end
-- ==== Proof.Ret.lean ====
module

public import proofs.«01_k».proof.Proof.RetStep
public import Idealize.ShloMosaic.Lib.Pipeline.ReadBack

set_option maxRecDepth 16384
set_option maxHeartbeats 800000

@[expose] public section
noncomputable section

namespace Cert.RetIdeal.Value

open Cert.RetIdeal Cert.RetIdeal.Gen
open Idealize.ShloMosaic Idealize.ShloMosaic.TcCoe Idealize.SL.Sem
open Cert.RetRefIdeal.Value (FR LG QD KD CD IN SC part STATE OI OX GATED RES RETO MODR MODO)

/-- Which block each window stages at grid point `t`. -/
theorem idx_val : ∀ t : Fin cfg0.N, win0_0.index t = ![0]
    ∧ win0_1.index t = ![t.val % 16, t.val / 16]
    ∧ win0_2.index t = ![t.val % 16, 4 + t.val / 16]
    ∧ win0_3.index t = ![t.val % 16, 8 + t.val / 16]
    ∧ win0_4.index t = ![t.val % 16, 12 + t.val / 16]
    ∧ win0_5.index t = ![t.val, 0]
    ∧ win0_6.index t = ![t.val, 0]
    ∧ win0_7.index t = ![0, 0]
    ∧ win0_8.index t = ![t.val % 16, t.val / 16]
    ∧ win0_9.index t = ![0, 0] :=
  (by decide +kernel : ∀ t : Fin grid0.N, _)

theorem off_val : ∀ (t : Fin cfg0.N), k0_off1 (grid0.coords t) 0#32 = ![2 * (t.val / 16)] ∧ k0_off1 (grid0.coords t) 1#32 = ![2 * (t.val / 16) + 1] :=
  (by decide +kernel : ∀ t : Fin grid0.N, _)

variable (m : (ℓ : Loc nD τ sig) → Buf (Elt Ideal) ℓ) (c : Dev nD)

/-- The conditioning row, and the projected rows, the kernel reads. -/
abbrev CC : FVec Ideal S1x4096 .f32 := m ((c : Thread nD τ).loc main_arg1)
abbrev XX : FVec Ideal S8192x8192 .bf16 := m ((c : Thread nD τ).loc main_arg0)

/-- What the first window's array holds: every head's log decay. -/
theorem V7_at (i : Fin 8) : V m c main_v7 (ix1 i) = LG i := by
  show StableHlo.after hostOps0 (fun b => m (c, b)) (Proc.devRef .tc main_v7) (ix1 i) = _
  unfold LG FR
  after_results
  pointwise []
theorem V17_at (i : Fin 12288) : V m c main_v17 (ix2 0 i) = m ((c : Thread nD τ).loc main_arg3) (ix1 i) := by
  show StableHlo.after hostOps0 (fun b => m (c, b)) (Proc.devRef .tc main_v17) (ix2 0 i) = _
  after_results
  pointwise []
theorem V16_at (i : Fin 4096) (l : Fin 128) : V m c main_v16 (ix2 i l)
    = (CC m c (ix2 0 i) * Ideal.div 1 (1 + Ideal.exp (-(CC m c (ix2 0 i)))) : EReal) := by
  show StableHlo.after hostOps0 (fun b => m (c, b)) (Proc.devRef .tc main_v16) (ix2 i l) = _
  after_results
  pointwise []

theorem iblk0 (t : Fin cfg0.N) (i : Fin 8) : iblk m c 0 t (ix1 i : S8.Idx) = LG i := by
  show V m c main_v7 (((cfg0.win 0).blk t).view.emb (ix1 i : S8.Idx)) = _
  have e : ((cfg0.win 0).blk t).view.emb (ix1 i : S8.Idx) = (ix1 i : S8.Idx) := by blk_ext [idx_val t]
  rw [e]
  exact V7_at m c i

theorem lg_at (t : Fin cfg0.N) (hh : ℕ) (hhh : hh < 2) (off : Fin 1 → ℕ) (eo : off = ![2 * (t.val / 16) + hh]) (inb) (z) :
    View.ld (iblk m c 0 t) (Rect.unit off ![1] inb) z = LG (2 * (t.val / 16) + hh) := by
  have ht : t.val < 64 := lt_of_lt_of_eq t.isLt N_0
  subst eo
  rw [← iblk0 m c t ⟨2 * (t.val / 16) + hh, by omega⟩]
  refine congrArg (iblk m c 0 t) ?_
  idx_vars z
  blk_ext []
  show 2 * (t.val / 16) + hh + 1 * (z0 : ℕ) = _
  omega
/-- The block of columns a load takes: chunk `ch`, head `hh` of the block at point `t`. -/
theorem q_at (t : Fin cfg0.N) (ch hh : ℕ) (hc : ch < 4) (hhh : hh < 2) (inb) (h : Fin 8) (e : (h : ℕ) = 2 * (t.val / 16) + hh) (r : Fin 128) (d : Fin 256) :
    View.ld (iblk m c 1 t) (Rect.unit ![128 * ch, 256 * hh] ![128, 256] inb) (ix2 r d) = part (XX m c) 0 (by omega) h (4 * (t.val % 16) + ch) r d := by
  have ht : t.val < 64 := lt_of_lt_of_eq t.isLt N_0
  unfold part XX
  blk_point [iblk, V, idx_val t]
theorem k_at (t : Fin cfg0.N) (ch hh : ℕ) (hc : ch < 4) (hhh : hh < 2) (inb) (h : Fin 8) (e : (h : ℕ) = 2 * (t.val / 16) + hh) (r : Fin 128) (d : Fin 256) :
    View.ld (iblk m c 2 t) (Rect.unit ![128 * ch, 256 * hh] ![128, 256] inb) (ix2 r d) = part (XX m c) 2048 (by omega) h (4 * (t.val % 16) + ch) r d := by
  have ht : t.val < 64 := lt_of_lt_of_eq t.isLt N_0
  unfold part XX
  blk_point [iblk, V, idx_val t]
theorem v_at (t : Fin cfg0.N) (ch hh : ℕ) (hc : ch < 4) (hhh : hh < 2) (inb) (h : Fin 8) (e : (h : ℕ) = 2 * (t.val / 16) + hh) (r : Fin 128) (d : Fin 256) :
    View.ld (iblk m c 3 t) (Rect.unit ![128 * ch, 256 * hh] ![128, 256] inb) (ix2 r d) = part (XX m c) 4096 (by omega) h (4 * (t.val % 16) + ch) r d := by
  have ht : t.val < 64 := lt_of_lt_of_eq t.isLt N_0
  unfold part XX
  blk_point [iblk, V, idx_val t]
theorem g_at (t : Fin cfg0.N) (ch hh : ℕ) (hc : ch < 4) (hhh : hh < 2) (inb) (h : Fin 8) (e : (h : ℕ) = 2 * (t.val / 16) + hh) (r : Fin 128) (d : Fin 256) :
    View.ld (iblk m c 4 t) (Rect.unit ![128 * ch, 256 * hh] ![128, 256] inb) (ix2 r d) = part (XX m c) 6144 (by omega) h (4 * (t.val % 16) + ch) r d := by
  have ht : t.val < 64 := lt_of_lt_of_eq t.isLt N_0
  unfold part XX
  blk_point [iblk, V, idx_val t]

theorem step_at (t : Fin cfg0.N) (ch hh : ℕ) (hc : ch < 4) (hhh : hh < 2) (ik) (iv) (off : Fin 1 → ℕ) (eo : off = ![2 * (t.val / 16) + hh]) (inb) (z) (h : Fin 8)
    (e : (h : ℕ) = 2 * (t.val / 16) + hh)
    (s : FVec Ideal S1x256x256 .f32) (hs : ∀ i j : Fin 256, s (ix3 0 i j) = STATE (XX m c) h (4 * (t.val % 16) + ch) i j) (i j : Fin 256) :
    NXT (View.ld (iblk m c 0 t) (Rect.unit off ![1] inb) z) (View.ld (iblk m c 2 t) (Rect.unit ![128 * ch, 256 * hh] ![128, 256] ik))
      (View.ld (iblk m c 3 t) (Rect.unit ![128 * ch, 256 * hh] ![128, 256] iv)) s (ix3 0 i j) = STATE (XX m c) h (4 * (t.val % 16) + ch + 1) i j := by
  rw [lg_at m c t hh hhh off eo, ← e]
  exact NXT_at _ _ _ _ _ _ (k_at m c t ch hh hc hhh ik h e) (v_at m c t ch hh hc hhh iv h e) hs i j

theorem row_at (t : Fin cfg0.N) (ch hh : ℕ) (hc : ch < 4) (hhh : hh < 2) (iq) (ik) (iv) (ig) (off : Fin 1 → ℕ) (eo : off = ![2 * (t.val / 16) + hh]) (inb) (z) (h : Fin 8)
    (e : (h : ℕ) = 2 * (t.val / 16) + hh)
    (s : FVec Ideal S1x256x256 .f32) (hs : ∀ i j : Fin 256, s (ix3 0 i j) = STATE (XX m c) h (4 * (t.val % 16) + ch) i j) (r : Fin 128) (j : Fin 256)
    (R : Fin 8192) (C : Fin 2048) (eR : (R : ℕ) = t.val % 16 * 512 + (128 * ch + r)) (eC : (C : ℕ) = t.val / 16 * 512 + (256 * hh + j)) :
    OUTP (View.ld (iblk m c 0 t) (Rect.unit off ![1] inb) z) (View.ld (iblk m c 1 t) (Rect.unit ![128 * ch, 256 * hh] ![128, 256] iq))
      (View.ld (iblk m c 2 t) (Rect.unit ![128 * ch, 256 * hh] ![128, 256] ik))
      (View.ld (iblk m c 3 t) (Rect.unit ![128 * ch, 256 * hh] ![128, 256] iv)) s
      (View.ld (iblk m c 4 t) (Rect.unit ![128 * ch, 256 * hh] ![128, 256] ig)) (ix2 r j) = RES (XX m c) R C := by
  have ht : t.val < 64 := lt_of_lt_of_eq t.isLt N_0
  rw [lg_at m c t hh hhh off eo, ← e]
  rw [OUTP_at _ _ _ _ _ _ _ _ (q_at m c t ch hh hc hhh iq h e) (k_at m c t ch hh hc hhh ik h e) (v_at m c t ch hh hc hhh iv h e) hs r j, g_at m c t ch hh hc hhh ig h e]
  unfold RES
  have e1 : (⟨(C : ℕ) / 256, by omega⟩ : Fin 8) = h := Fin.ext (by simp only; omega)
  have e2 : (⟨(C : ℕ) % 256, by omega⟩ : Fin 256) = j := Fin.ext (by simp only; omega)
  have e3 : (⟨(R : ℕ) % 128, by omega⟩ : Fin 128) = r := Fin.ext (by simp only; omega)
  have e4 : (R : ℕ) / 128 = 4 * (t.val % 16) + ch := by omega
  rw [e1, e2, e3, e4]
  refine congrArg (GATED _ _) ?_
  unfold part
  refine congrArg _ (congrArg₂ ix2 (Fin.ext ?_) (Fin.ext ?_)) <;> simp only <;> omega

/-- The state buffer after a point's last two stores. -/
theorem canon_state0 (A B : Vec Ideal S1x256x256 .f32) (L : List (View.Piece (Elt Ideal) S2x256x256 .f32)) (i j : Fin 256) :
    View.canon (⟨Rect.unit ![1, 0, 0] ![1, 256, 256] inb_S2x256x256_S1x256x256_1_0_0, B⟩ :: ⟨Rect.unit ![0, 0, 0] ![1, 256, 256] inb_S2x256x256_S1x256x256_0_0_0, A⟩ :: L)
      (ix3 0 i j : S2x256x256.Idx) = A (ix3 0 i j) := by
  rw [View.canon_cons_of_not_mem _ _ (fun hm => by
    have := ((Rect.mem_set_unit (inb := inb_S2x256x256_S1x256x256_1_0_0)).mp hm 0).1
    have h1 : (1 : ℕ) ≤ 0 := this
    omega)]
  have e : (ix3 0 i j : S2x256x256.Idx) = (Rect.unit (s := S2x256x256) ![0, 0, 0] ![1, 256, 256] inb_S2x256x256_S1x256x256_0_0_0).emb (ix3 0 i j : S1x256x256.Idx) := by
    blk_ext []
  rw [e]
  exact View.canon_cons_emb _ _ _ _
theorem canon_state1 (B : Vec Ideal S1x256x256 .f32) (L : List (View.Piece (Elt Ideal) S2x256x256 .f32)) (i j : Fin 256) :
    View.canon (⟨Rect.unit ![1, 0, 0] ![1, 256, 256] inb_S2x256x256_S1x256x256_1_0_0, B⟩ :: L) (ix3 1 i j : S2x256x256.Idx) = B (ix3 0 i j) := by
  have e : (ix3 1 i j : S2x256x256.Idx) = (Rect.unit (s := S2x256x256) ![1, 0, 0] ![1, 256, 256] inb_S2x256x256_S1x256x256_1_0_0).emb (ix3 0 i j : S1x256x256.Idx) := by
    blk_ext []
  rw [e]
  exact View.canon_cons_emb _ _ _ _

/-- Reading half a state buffer. -/
theorem ld_half (s : Vec Ideal S2x256x256 .f32) (hh : Fin 2) (inb) (i j : Fin 256) :
    View.ld s (Rect.unit (s := S2x256x256) ![(hh : ℕ), 0, 0] ![1, 256, 256] inb) (ix3 0 i j) = s (ix3 hh i j) := by
  refine congrArg s ?_
  blk_ext []
  · show (hh : ℕ) + 1 * 0 = _; omega
  · show 0 + 1 * (i : ℕ) = _; omega
  · show 0 + 1 * (j : ℕ) = _; omega

/-- What a load of half the state reads from the buffer the point before left. -/
theorem carried (t : Fin cfg0.N) (hpos : ¬t.val % 16 = 0) (hb)
    (ih : ∀ (hh : Fin 2) (h : Fin 8), (h : ℕ) = 2 * ((t.val - 1) / 16) + hh → ∀ i j : Fin 256,
      (outsAt0 m c (t.val - 1) hb).2.2.1 (ix3 hh i j) = STATE (XX m c) h (4 * ((t.val - 1) % 16) + 4) i j)
    (hh : Fin 2) (h : Fin 8) (e : (h : ℕ) = 2 * (t.val / 16) + hh) (inb) (i j : Fin 256) :
    View.ld (outsAt0 m c (t.val - 1) hb).2.2.1 (Rect.unit (s := S2x256x256) ![(hh : ℕ), 0, 0] ![1, 256, 256] inb) (ix3 0 i j) = STATE (XX m c) h (4 * (t.val % 16) + 0) i j := by
  rw [ld_half, ih hh h (by omega)]
  have e4 : 4 * ((t.val - 1) % 16) + 4 = 4 * (t.val % 16) + 0 := by omega
  rw [e4]

/-- The state a sequence starts from. -/
abbrev F24 : S2x256x256.Idx → EReal := k0_pay24 (F := Ideal)

theorem fresh (t : Fin cfg0.N) (h0 : t.val % 16 = 0) (r : Rect S2x256x256) (x : r.shape.Idx) (h : Fin 8) (i j : Fin 256) :
    (F24 (r.idx x) : EReal) = STATE (XX m c) h (4 * (t.val % 16) + 0) i j := by
  rw [h0]
  show (k0_pay24 (F := Ideal)) _ = (0 : EReal)
  pointwise [k0_pay24]

theorem st_A (t : Fin cfg0.N) (a0 : t.val % 64 = 0) (a1 : ¬t.val % 64 = 63) (h2 : t.val % 16 = 0) : ∀ (hh : Fin 2) (h : Fin 8), (h : ℕ) = 2 * (t.val / 16) + hh → ∀ i j : Fin 256,
      (outsAt0 m c t.val t.isLt).2.2.1 (ix3 hh i j) = STATE (XX m c) h (4 * (t.val % 16) + 4) i j := by
  intro hh h e i j
  rw [outsAt0_A m c t a0 a1 h2]; dsimp only
  frame_out
  simp (decide := true) only [↓View.readCov_skip, ↓View.readCov_cons_toLoadRect, View.readCov_skip, View.readCov_cons_toLoadRect, LoadRect.disj, n00, n01, n10, n11, n20, n21, n30, n31, o00, o01, o10, o11, o20, o21, o30, o31]
  rw [View.readCov_fill _ _ _ _ _ (by decide), View.readCov_fill _ _ _ _ _ (by decide)]
  fin_cases hh
  · refine (canon_state0 _ _ _ _ _).trans ?_
    exact (fun i j => step_at m c t 3 0 (by omega) (by omega) _ _ _ (off_val t).1 _ _ h e _ (fun i j => step_at m c t 2 0 (by omega) (by omega) _ _ _ (off_val t).1 _ _ h e _ (fun i j => step_at m c t 1 0 (by omega) (by omega) _ _ _ (off_val t).1 _ _ h e _ (fun i j => step_at m c t 0 0 (by omega) (by omega) _ _ _ (off_val t).1 _ _ h e _ (fun i j => fresh m c t h2 _ _ h i j) i j) i j) i j) i j) i j
  · refine (canon_state1 _ _ _ _).trans ?_
    exact (fun i j => step_at m c t 3 1 (by omega) (by omega) _ _ _ (off_val t).2 _ _ h e _ (fun i j => step_at m c t 2 1 (by omega) (by omega) _ _ _ (off_val t).2 _ _ h e _ (fun i j => step_at m c t 1 1 (by omega) (by omega) _ _ _ (off_val t).2 _ _ h e _ (fun i j => step_at m c t 0 1 (by omega) (by omega) _ _ _ (off_val t).2 _ _ h e _ (fun i j => fresh m c t h2 _ _ h i j) i j) i j) i j) i j) i j

theorem st_B (t : Fin cfg0.N) (a0 : ¬t.val % 64 = 0) (a1 : ¬t.val % 64 = 63) (h2 : ¬t.val % 16 = 0)
    (hb) (ih : ∀ (hh : Fin 2) (h : Fin 8), (h : ℕ) = 2 * ((t.val - 1) / 16) + hh → ∀ i j : Fin 256,
      (outsAt0 m c (t.val - 1) hb).2.2.1 (ix3 hh i j) = STATE (XX m c) h (4 * ((t.val - 1) % 16) + 4) i j) : ∀ (hh : Fin 2) (h : Fin 8), (h : ℕ) = 2 * (t.val / 16) + hh → ∀ i j : Fin 256,
      (outsAt0 m c t.val t.isLt).2.2.1 (ix3 hh i j) = STATE (XX m c) h (4 * (t.val % 16) + 4) i j := by
  intro hh h e i j
  rw [outsAt0_B m c t a0 a1 h2]; dsimp only
  frame_out
  simp (decide := true) only [↓View.readCov_skip, ↓View.readCov_cons_toLoadRect, View.readCov_skip, View.readCov_cons_toLoadRect, LoadRect.disj, n00, n01, n10, n11, n20, n21, n30, n31, o00, o01, o10, o11, o20, o21, o30, o31]
  rw [read_unread_whole]
  fin_cases hh
  · refine (canon_state0 _ _ _ _ _).trans ?_
    exact (fun i j => step_at m c t 3 0 (by omega) (by omega) _ _ _ (off_val t).1 _ _ h e _ (fun i j => step_at m c t 2 0 (by omega) (by omega) _ _ _ (off_val t).1 _ _ h e _ (fun i j => step_at m c t 1 0 (by omega) (by omega) _ _ _ (off_val t).1 _ _ h e _ (fun i j => step_at m c t 0 0 (by omega) (by omega) _ _ _ (off_val t).1 _ _ h e _ (fun i j => carried m c t h2 _ ih 0 h e _ i j) i j) i j) i j) i j) i j
  · refine (canon_state1 _ _ _ _).trans ?_
    exact (fun i j => step_at m c t 3 1 (by omega) (by omega) _ _ _ (off_val t).2 _ _ h e _ (fun i j => step_at m c t 2 1 (by omega) (by omega) _ _ _ (off_val t).2 _ _ h e _ (fun i j => step_at m c t 1 1 (by omega) (by omega) _ _ _ (off_val t).2 _ _ h e _ (fun i j => step_at m c t 0 1 (by omega) (by omega) _ _ _ (off_val t).2 _ _ h e _ (fun i j => carried m c t h2 _ ih 1 h e _ i j) i j) i j) i j) i j) i j

theorem st_C (t : Fin cfg0.N) (a0 : ¬t.val % 64 = 0) (a1 : ¬t.val % 64 = 63) (h2 : t.val % 16 = 0) : ∀ (hh : Fin 2) (h : Fin 8), (h : ℕ) = 2 * (t.val / 16) + hh → ∀ i j : Fin 256,
      (outsAt0 m c t.val t.isLt).2.2.1 (ix3 hh i j) = STATE (XX m c) h (4 * (t.val % 16) + 4) i j := by
  intro hh h e i j
  rw [outsAt0_C m c t a0 a1 h2]; dsimp only
  frame_out
  simp (decide := true) only [↓View.readCov_skip, ↓View.readCov_cons_toLoadRect, View.readCov_skip, View.readCov_cons_toLoadRect, LoadRect.disj, n00, n01, n10, n11, n20, n21, n30, n31, o00, o01, o10, o11, o20, o21, o30, o31]
  rw [View.readCov_fill _ _ _ _ _ (by decide), View.readCov_fill _ _ _ _ _ (by decide)]
  fin_cases hh
  · refine (canon_state0 _ _ _ _ _).trans ?_
    exact (fun i j => step_at m c t 3 0 (by omega) (by omega) _ _ _ (off_val t).1 _ _ h e _ (fun i j => step_at m c t 2 0 (by omega) (by omega) _ _ _ (off_val t).1 _ _ h e _ (fun i j => step_at m c t 1 0 (by omega) (by omega) _ _ _ (off_val t).1 _ _ h e _ (fun i j => step_at m c t 0 0 (by omega) (by omega) _ _ _ (off_val t).1 _ _ h e _ (fun i j => fresh m c t h2 _ _ h i j) i j) i j) i j) i j) i j
  · refine (canon_state1 _ _ _ _).trans ?_
    exact (fun i j => step_at m c t 3 1 (by omega) (by omega) _ _ _ (off_val t).2 _ _ h e _ (fun i j => step_at m c t 2 1 (by omega) (by omega) _ _ _ (off_val t).2 _ _ h e _ (fun i j => step_at m c t 1 1 (by omega) (by omega) _ _ _ (off_val t).2 _ _ h e _ (fun i j => step_at m c t 0 1 (by omega) (by omega) _ _ _ (off_val t).2 _ _ h e _ (fun i j => fresh m c t h2 _ _ h i j) i j) i j) i j) i j) i j

theorem st_D (t : Fin cfg0.N) (a0 : ¬t.val % 64 = 0) (a1 : t.val % 64 = 63) (h2 : ¬t.val % 16 = 0)
    (hb) (ih : ∀ (hh : Fin 2) (h : Fin 8), (h : ℕ) = 2 * ((t.val - 1) / 16) + hh → ∀ i j : Fin 256,
      (outsAt0 m c (t.val - 1) hb).2.2.1 (ix3 hh i j) = STATE (XX m c) h (4 * ((t.val - 1) % 16) + 4) i j) : ∀ (hh : Fin 2) (h : Fin 8), (h : ℕ) = 2 * (t.val / 16) + hh → ∀ i j : Fin 256,
      (outsAt0 m c t.val t.isLt).2.2.1 (ix3 hh i j) = STATE (XX m c) h (4 * (t.val % 16) + 4) i j := by
  intro hh h e i j
  rw [outsAt0_D m c t a0 a1 h2]; dsimp only
  frame_out
  simp (decide := true) only [↓View.readCov_skip, ↓View.readCov_cons_toLoadRect, View.readCov_skip, View.readCov_cons_toLoadRect, LoadRect.disj, n00, n01, n10, n11, n20, n21, n30, n31, o00, o01, o10, o11, o20, o21, o30, o31]
  rw [read_unread_whole]
  fin_cases hh
  · refine (canon_state0 _ _ _ _ _).trans ?_
    exact (fun i j => step_at m c t 3 0 (by omega) (by omega) _ _ _ (off_val t).1 _ _ h e _ (fun i j => step_at m c t 2 0 (by omega) (by omega) _ _ _ (off_val t).1 _ _ h e _ (fun i j => step_at m c t 1 0 (by omega) (by omega) _ _ _ (off_val t).1 _ _ h e _ (fun i j => step_at m c t 0 0 (by omega) (by omega) _ _ _ (off_val t).1 _ _ h e _ (fun i j => carried m c t h2 _ ih 0 h e _ i j) i j) i j) i j) i j) i j
  · refine (canon_state1 _ _ _ _).trans ?_
    exact (fun i j => step_at m c t 3 1 (by omega) (by omega) _ _ _ (off_val t).2 _ _ h e _ (fun i j => step_at m c t 2 1 (by omega) (by omega) _ _ _ (off_val t).2 _ _ h e _ (fun i j => step_at m c t 1 1 (by omega) (by omega) _ _ _ (off_val t).2 _ _ h e _ (fun i j => step_at m c t 0 1 (by omega) (by omega) _ _ _ (off_val t).2 _ _ h e _ (fun i j => carried m c t h2 _ ih 1 h e _ i j) i j) i j) i j) i j) i j

theorem mem_piece (o0 o1 : ℕ) (inb) (y0 y1 : Fin 512) (h : (ix2 y0 y1 : S512x512.Idx) ∈ (Rect.unit (s := S512x512) ![o0, o1] ![128, 256] inb).set) :
    (o0 ≤ (y0 : ℕ) ∧ (y0 : ℕ) < o0 + 128) ∧ (o1 ≤ (y1 : ℕ) ∧ (y1 : ℕ) < o1 + 256) := by
  have h' := (Rect.mem_set_unit (inb := inb)).mp h
  have h0 := h' 0
  have h1 := h' 1
  exact ⟨h0, h1⟩

/-- A stored piece, read at a place: inside the piece its value, outside it what the earlier stores left. -/
theorem piece_at (o0 o1 : ℕ) (inb) (p : Vec Ideal S128x256 .bf16) (L : List (View.Piece (Elt Ideal) S512x512 .bf16)) (y0 y1 : Fin 512) (a : EReal)
    (hin : ∀ (r : Fin 128) (j : Fin 256), (y0 : ℕ) = o0 + r → (y1 : ℕ) = o1 + j → p (ix2 r j) = a)
    (hout : ¬((o0 ≤ (y0 : ℕ) ∧ (y0 : ℕ) < o0 + 128) ∧ (o1 ≤ (y1 : ℕ) ∧ (y1 : ℕ) < o1 + 256)) → View.canon L (ix2 y0 y1 : S512x512.Idx) = a) :
    View.canon (⟨Rect.unit ![o0, o1] ![128, 256] inb, p⟩ :: L) (ix2 y0 y1 : S512x512.Idx) = a := by
  by_cases hm : (o0 ≤ (y0 : ℕ) ∧ (y0 : ℕ) < o0 + 128) ∧ (o1 ≤ (y1 : ℕ) ∧ (y1 : ℕ) < o1 + 256)
  · have e : (ix2 y0 y1 : S512x512.Idx) = (Rect.unit (s := S512x512) ![o0, o1] ![128, 256] inb).emb
        (ix2 (⟨(y0 : ℕ) - o0, by omega⟩ : Fin 128) (⟨(y1 : ℕ) - o1, by omega⟩ : Fin 256) : S128x256.Idx) := by
      funext b
      fin_cases b
      · exact Fin.ext (show (y0 : ℕ) = o0 + 1 * ((y0 : ℕ) - o0) by omega)
      · exact Fin.ext (show (y1 : ℕ) = o1 + 1 * ((y1 : ℕ) - o1) by omega)
    rw [e, View.canon_cons_emb]
    exact hin _ _ (by simp only; omega) (by simp only; omega)
  · have hn : (ix2 y0 y1 : S512x512.Idx) ∉ (Rect.unit (s := S512x512) ![o0, o1] ![128, 256] inb).set := fun h => hm (mem_piece o0 o1 inb y0 y1 h)
    exact (View.canon_cons_of_not_mem (⟨Rect.unit (s := S512x512) ![o0, o1] ![128, 256] inb, p⟩ : View.Piece (Elt Ideal) S512x512 .bf16) L hn).trans (hout hm)

/-- A block stored in eight pieces, read at a place. -/
theorem rows8 (p31 p30 p21 p20 p11 p10 p01 p00 : Vec Ideal S128x256 .bf16) (y0 y1 : Fin 512) (a : EReal)
    (e00 : ∀ (r : Fin 128) (j : Fin 256), (y0 : ℕ) = 0 + r → (y1 : ℕ) = 0 + j → p00 (ix2 r j) = a)
    (e01 : ∀ (r : Fin 128) (j : Fin 256), (y0 : ℕ) = 0 + r → (y1 : ℕ) = 256 + j → p01 (ix2 r j) = a)
    (e10 : ∀ (r : Fin 128) (j : Fin 256), (y0 : ℕ) = 128 + r → (y1 : ℕ) = 0 + j → p10 (ix2 r j) = a)
    (e11 : ∀ (r : Fin 128) (j : Fin 256), (y0 : ℕ) = 128 + r → (y1 : ℕ) = 256 + j → p11 (ix2 r j) = a)
    (e20 : ∀ (r : Fin 128) (j : Fin 256), (y0 : ℕ) = 256 + r → (y1 : ℕ) = 0 + j → p20 (ix2 r j) = a)
    (e21 : ∀ (r : Fin 128) (j : Fin 256), (y0 : ℕ) = 256 + r → (y1 : ℕ) = 256 + j → p21 (ix2 r j) = a)
    (e30 : ∀ (r : Fin 128) (j : Fin 256), (y0 : ℕ) = 384 + r → (y1 : ℕ) = 0 + j → p30 (ix2 r j) = a)
    (e31 : ∀ (r : Fin 128) (j : Fin 256), (y0 : ℕ) = 384 + r → (y1 : ℕ) = 256 + j → p31 (ix2 r j) = a) :
    View.canon (Val := Elt Ideal) (s := S512x512) (e := .bf16) [⟨Rect.unit ![384, 256] ![128, 256] inb_S512x512_S128x256_384_256, p31⟩,
        ⟨Rect.unit ![384, 0] ![128, 256] inb_S512x512_S128x256_384_0, p30⟩,
        ⟨Rect.unit ![256, 256] ![128, 256] inb_S512x512_S128x256_256_256, p21⟩,
        ⟨Rect.unit ![256, 0] ![128, 256] inb_S512x512_S128x256_256_0, p20⟩,
        ⟨Rect.unit ![128, 256] ![128, 256] inb_S512x512_S128x256_128_256, p11⟩,
        ⟨Rect.unit ![128, 0] ![128, 256] inb_S512x512_S128x256_128_0, p10⟩,
        ⟨Rect.unit ![0, 256] ![128, 256] inb_S512x512_S128x256_0_256, p01⟩,
        ⟨Rect.unit ![0, 0] ![128, 256] inb_S512x512_S128x256_0_0, p00⟩] (ix2 y0 y1) = a := by
  refine piece_at _ _ _ _ _ _ _ _ e31 (fun n31 => ?_)
  refine piece_at _ _ _ _ _ _ _ _ e30 (fun n30 => ?_)
  refine piece_at _ _ _ _ _ _ _ _ e21 (fun n21 => ?_)
  refine piece_at _ _ _ _ _ _ _ _ e20 (fun n20 => ?_)
  refine piece_at _ _ _ _ _ _ _ _ e11 (fun n11 => ?_)
  refine piece_at _ _ _ _ _ _ _ _ e10 (fun n10 => ?_)
  refine piece_at _ _ _ _ _ _ _ _ e01 (fun n01 => ?_)
  refine piece_at _ _ _ _ _ _ _ _ e00 (fun n00 => ?_)
  exfalso
  omega
theorem out_A (t : Fin cfg0.N) (a0 : t.val % 64 = 0) (a1 : ¬t.val % 64 = 63) (h2 : t.val % 16 = 0) (y0 y1 : Fin 512) (R : Fin 8192) (C : Fin 2048)
    (eR : (R : ℕ) = t.val % 16 * 512 + y0) (eC : (C : ℕ) = t.val / 16 * 512 + y1) :
    (outsAt0 m c t.val t.isLt).1 (ix2 y0 y1) = RES (XX m c) R C := by
  have ht : t.val < 64 := lt_of_lt_of_eq t.isLt N_0
  obtain ⟨h0, e0⟩ : ∃ h : Fin 8, (h : ℕ) = 2 * (t.val / 16) + 0 := ⟨⟨2 * (t.val / 16) + 0, by omega⟩, rfl⟩
  obtain ⟨h1, e1⟩ : ∃ h : Fin 8, (h : ℕ) = 2 * (t.val / 16) + 1 := ⟨⟨2 * (t.val / 16) + 1, by omega⟩, rfl⟩
  rw [outsAt0_A m c t a0 a1 h2]; dsimp only
  frame_out
  simp (decide := true) only [↓View.readCov_skip, ↓View.readCov_cons_toLoadRect, View.readCov_skip, View.readCov_cons_toLoadRect, LoadRect.disj, n00, n01, n10, n11, n20, n21, n30, n31, o00, o01, o10, o11, o20, o21, o30, o31]
  rw [View.readCov_fill _ _ _ _ _ (by decide), View.readCov_fill _ _ _ _ _ (by decide)]
  refine rows8 _ _ _ _ _ _ _ _ _ _ _ (fun r j er ej => ?_) (fun r j er ej => ?_) (fun r j er ej => ?_) (fun r j er ej => ?_) (fun r j er ej => ?_) (fun r j er ej => ?_) (fun r j er ej => ?_) (fun r j er ej => ?_)
  · exact row_at m c t 0 0 (by omega) (by omega) _ _ _ _ _ (off_val t).1 _ _ h0 e0 _ (fun i j => fresh m c t h2 _ _ h0 i j) r j R C (by omega) (by omega)
  · exact row_at m c t 0 1 (by omega) (by omega) _ _ _ _ _ (off_val t).2 _ _ h1 e1 _ (fun i j => fresh m c t h2 _ _ h1 i j) r j R C (by omega) (by omega)
  · exact row_at m c t 1 0 (by omega) (by omega) _ _ _ _ _ (off_val t).1 _ _ h0 e0 _ (fun i j => step_at m c t 0 0 (by omega) (by omega) _ _ _ (off_val t).1 _ _ h0 e0 _ (fun i j => fresh m c t h2 _ _ h0 i j) i j) r j R C (by omega) (by omega)
  · exact row_at m c t 1 1 (by omega) (by omega) _ _ _ _ _ (off_val t).2 _ _ h1 e1 _ (fun i j => step_at m c t 0 1 (by omega) (by omega) _ _ _ (off_val t).2 _ _ h1 e1 _ (fun i j => fresh m c t h2 _ _ h1 i j) i j) r j R C (by omega) (by omega)
  · exact row_at m c t 2 0 (by omega) (by omega) _ _ _ _ _ (off_val t).1 _ _ h0 e0 _ (fun i j => step_at m c t 1 0 (by omega) (by omega) _ _ _ (off_val t).1 _ _ h0 e0 _ (fun i j => step_at m c t 0 0 (by omega) (by omega) _ _ _ (off_val t).1 _ _ h0 e0 _ (fun i j => fresh m c t h2 _ _ h0 i j) i j) i j) r j R C (by omega) (by omega)
  · exact row_at m c t 2 1 (by omega) (by omega) _ _ _ _ _ (off_val t).2 _ _ h1 e1 _ (fun i j => step_at m c t 1 1 (by omega) (by omega) _ _ _ (off_val t).2 _ _ h1 e1 _ (fun i j => step_at m c t 0 1 (by omega) (by omega) _ _ _ (off_val t).2 _ _ h1 e1 _ (fun i j => fresh m c t h2 _ _ h1 i j) i j) i j) r j R C (by omega) (by omega)
  · exact row_at m c t 3 0 (by omega) (by omega) _ _ _ _ _ (off_val t).1 _ _ h0 e0 _ (fun i j => step_at m c t 2 0 (by omega) (by omega) _ _ _ (off_val t).1 _ _ h0 e0 _ (fun i j => step_at m c t 1 0 (by omega) (by omega) _ _ _ (off_val t).1 _ _ h0 e0 _ (fun i j => step_at m c t 0 0 (by omega) (by omega) _ _ _ (off_val t).1 _ _ h0 e0 _ (fun i j => fresh m c t h2 _ _ h0 i j) i j) i j) i j) r j R C (by omega) (by omega)
  · exact row_at m c t 3 1 (by omega) (by omega) _ _ _ _ _ (off_val t).2 _ _ h1 e1 _ (fun i j => step_at m c t 2 1 (by omega) (by omega) _ _ _ (off_val t).2 _ _ h1 e1 _ (fun i j => step_at m c t 1 1 (by omega) (by omega) _ _ _ (off_val t).2 _ _ h1 e1 _ (fun i j => step_at m c t 0 1 (by omega) (by omega) _ _ _ (off_val t).2 _ _ h1 e1 _ (fun i j => fresh m c t h2 _ _ h1 i j) i j) i j) i j) r j R C (by omega) (by omega)

theorem out_B (t : Fin cfg0.N) (a0 : ¬t.val % 64 = 0) (a1 : ¬t.val % 64 = 63) (h2 : ¬t.val % 16 = 0)
    (hb) (ih : ∀ (hh : Fin 2) (h : Fin 8), (h : ℕ) = 2 * ((t.val - 1) / 16) + hh → ∀ i j : Fin 256,
      (outsAt0 m c (t.val - 1) hb).2.2.1 (ix3 hh i j) = STATE (XX m c) h (4 * ((t.val - 1) % 16) + 4) i j) (y0 y1 : Fin 512) (R : Fin 8192) (C : Fin 2048)
    (eR : (R : ℕ) = t.val % 16 * 512 + y0) (eC : (C : ℕ) = t.val / 16 * 512 + y1) :
    (outsAt0 m c t.val t.isLt).1 (ix2 y0 y1) = RES (XX m c) R C := by
  have ht : t.val < 64 := lt_of_lt_of_eq t.isLt N_0
  obtain ⟨h0, e0⟩ : ∃ h : Fin 8, (h : ℕ) = 2 * (t.val / 16) + 0 := ⟨⟨2 * (t.val / 16) + 0, by omega⟩, rfl⟩
  obtain ⟨h1, e1⟩ : ∃ h : Fin 8, (h : ℕ) = 2 * (t.val / 16) + 1 := ⟨⟨2 * (t.val / 16) + 1, by omega⟩, rfl⟩
  rw [outsAt0_B m c t a0 a1 h2]; dsimp only
  frame_out
  simp (decide := true) only [↓View.readCov_skip, ↓View.readCov_cons_toLoadRect, View.readCov_skip, View.readCov_cons_toLoadRect, LoadRect.disj, n00, n01, n10, n11, n20, n21, n30, n31, o00, o01, o10, o11, o20, o21, o30, o31]
  rw [read_unread_whole]
  refine rows8 _ _ _ _ _ _ _ _ _ _ _ (fun r j er ej => ?_) (fun r j er ej => ?_) (fun r j er ej => ?_) (fun r j er ej => ?_) (fun r j er ej => ?_) (fun r j er ej => ?_) (fun r j er ej => ?_) (fun r j er ej => ?_)
  · exact row_at m c t 0 0 (by omega) (by omega) _ _ _ _ _ (off_val t).1 _ _ h0 e0 _ (fun i j => carried m c t h2 _ ih 0 h0 e0 _ i j) r j R C (by omega) (by omega)
  · exact row_at m c t 0 1 (by omega) (by omega) _ _ _ _ _ (off_val t).2 _ _ h1 e1 _ (fun i j => carried m c t h2 _ ih 1 h1 e1 _ i j) r j R C (by omega) (by omega)
  · exact row_at m c t 1 0 (by omega) (by omega) _ _ _ _ _ (off_val t).1 _ _ h0 e0 _ (fun i j => step_at m c t 0 0 (by omega) (by omega) _ _ _ (off_val t).1 _ _ h0 e0 _ (fun i j => carried m c t h2 _ ih 0 h0 e0 _ i j) i j) r j R C (by omega) (by omega)
  · exact row_at m c t 1 1 (by omega) (by omega) _ _ _ _ _ (off_val t).2 _ _ h1 e1 _ (fun i j => step_at m c t 0 1 (by omega) (by omega) _ _ _ (off_val t).2 _ _ h1 e1 _ (fun i j => carried m c t h2 _ ih 1 h1 e1 _ i j) i j) r j R C (by omega) (by omega)
  · exact row_at m c t 2 0 (by omega) (by omega) _ _ _ _ _ (off_val t).1 _ _ h0 e0 _ (fun i j => step_at m c t 1 0 (by omega) (by omega) _ _ _ (off_val t).1 _ _ h0 e0 _ (fun i j => step_at m c t 0 0 (by omega) (by omega) _ _ _ (off_val t).1 _ _ h0 e0 _ (fun i j => carried m c t h2 _ ih 0 h0 e0 _ i j) i j) i j) r j R C (by omega) (by omega)
  · exact row_at m c t 2 1 (by omega) (by omega) _ _ _ _ _ (off_val t).2 _ _ h1 e1 _ (fun i j => step_at m c t 1 1 (by omega) (by omega) _ _ _ (off_val t).2 _ _ h1 e1 _ (fun i j => step_at m c t 0 1 (by omega) (by omega) _ _ _ (off_val t).2 _ _ h1 e1 _ (fun i j => carried m c t h2 _ ih 1 h1 e1 _ i j) i j) i j) r j R C (by omega) (by omega)
  · exact row_at m c t 3 0 (by omega) (by omega) _ _ _ _ _ (off_val t).1 _ _ h0 e0 _ (fun i j => step_at m c t 2 0 (by omega) (by omega) _ _ _ (off_val t).1 _ _ h0 e0 _ (fun i j => step_at m c t 1 0 (by omega) (by omega) _ _ _ (off_val t).1 _ _ h0 e0 _ (fun i j => step_at m c t 0 0 (by omega) (by omega) _ _ _ (off_val t).1 _ _ h0 e0 _ (fun i j => carried m c t h2 _ ih 0 h0 e0 _ i j) i j) i j) i j) r j R C (by omega) (by omega)
  · exact row_at m c t 3 1 (by omega) (by omega) _ _ _ _ _ (off_val t).2 _ _ h1 e1 _ (fun i j => step_at m c t 2 1 (by omega) (by omega) _ _ _ (off_val t).2 _ _ h1 e1 _ (fun i j => step_at m c t 1 1 (by omega) (by omega) _ _ _ (off_val t).2 _ _ h1 e1 _ (fun i j => step_at m c t 0 1 (by omega) (by omega) _ _ _ (off_val t).2 _ _ h1 e1 _ (fun i j => carried m c t h2 _ ih 1 h1 e1 _ i j) i j) i j) i j) r j R C (by omega) (by omega)

theorem out_C (t : Fin cfg0.N) (a0 : ¬t.val % 64 = 0) (a1 : ¬t.val % 64 = 63) (h2 : t.val % 16 = 0) (y0 y1 : Fin 512) (R : Fin 8192) (C : Fin 2048)
    (eR : (R : ℕ) = t.val % 16 * 512 + y0) (eC : (C : ℕ) = t.val / 16 * 512 + y1) :
    (outsAt0 m c t.val t.isLt).1 (ix2 y0 y1) = RES (XX m c) R C := by
  have ht : t.val < 64 := lt_of_lt_of_eq t.isLt N_0
  obtain ⟨h0, e0⟩ : ∃ h : Fin 8, (h : ℕ) = 2 * (t.val / 16) + 0 := ⟨⟨2 * (t.val / 16) + 0, by omega⟩, rfl⟩
  obtain ⟨h1, e1⟩ : ∃ h : Fin 8, (h : ℕ) = 2 * (t.val / 16) + 1 := ⟨⟨2 * (t.val / 16) + 1, by omega⟩, rfl⟩
  rw [outsAt0_C m c t a0 a1 h2]; dsimp only
  frame_out
  simp (decide := true) only [↓View.readCov_skip, ↓View.readCov_cons_toLoadRect, View.readCov_skip, View.readCov_cons_toLoadRect, LoadRect.disj, n00, n01, n10, n11, n20, n21, n30, n31, o00, o01, o10, o11, o20, o21, o30, o31]
  rw [View.readCov_fill _ _ _ _ _ (by decide), View.readCov_fill _ _ _ _ _ (by decide)]
  refine rows8 _ _ _ _ _ _ _ _ _ _ _ (fun r j er ej => ?_) (fun r j er ej => ?_) (fun r j er ej => ?_) (fun r j er ej => ?_) (fun r j er ej => ?_) (fun r j er ej => ?_) (fun r j er ej => ?_) (fun r j er ej => ?_)
  · exact row_at m c t 0 0 (by omega) (by omega) _ _ _ _ _ (off_val t).1 _ _ h0 e0 _ (fun i j => fresh m c t h2 _ _ h0 i j) r j R C (by omega) (by omega)
  · exact row_at m c t 0 1 (by omega) (by omega) _ _ _ _ _ (off_val t).2 _ _ h1 e1 _ (fun i j => fresh m c t h2 _ _ h1 i j) r j R C (by omega) (by omega)
  · exact row_at m c t 1 0 (by omega) (by omega) _ _ _ _ _ (off_val t).1 _ _ h0 e0 _ (fun i j => step_at m c t 0 0 (by omega) (by omega) _ _ _ (off_val t).1 _ _ h0 e0 _ (fun i j => fresh m c t h2 _ _ h0 i j) i j) r j R C (by omega) (by omega)
  · exact row_at m c t 1 1 (by omega) (by omega) _ _ _ _ _ (off_val t).2 _ _ h1 e1 _ (fun i j => step_at m c t 0 1 (by omega) (by omega) _ _ _ (off_val t).2 _ _ h1 e1 _ (fun i j => fresh m c t h2 _ _ h1 i j) i j) r j R C (by omega) (by omega)
  · exact row_at m c t 2 0 (by omega) (by omega) _ _ _ _ _ (off_val t).1 _ _ h0 e0 _ (fun i j => step_at m c t 1 0 (by omega) (by omega) _ _ _ (off_val t).1 _ _ h0 e0 _ (fun i j => step_at m c t 0 0 (by omega) (by omega) _ _ _ (off_val t).1 _ _ h0 e0 _ (fun i j => fresh m c t h2 _ _ h0 i j) i j) i j) r j R C (by omega) (by omega)
  · exact row_at m c t 2 1 (by omega) (by omega) _ _ _ _ _ (off_val t).2 _ _ h1 e1 _ (fun i j => step_at m c t 1 1 (by omega) (by omega) _ _ _ (off_val t).2 _ _ h1 e1 _ (fun i j => step_at m c t 0 1 (by omega) (by omega) _ _ _ (off_val t).2 _ _ h1 e1 _ (fun i j => fresh m c t h2 _ _ h1 i j) i j) i j) r j R C (by omega) (by omega)
  · exact row_at m c t 3 0 (by omega) (by omega) _ _ _ _ _ (off_val t).1 _ _ h0 e0 _ (fun i j => step_at m c t 2 0 (by omega) (by omega) _ _ _ (off_val t).1 _ _ h0 e0 _ (fun i j => step_at m c t 1 0 (by omega) (by omega) _ _ _ (off_val t).1 _ _ h0 e0 _ (fun i j => step_at m c t 0 0 (by omega) (by omega) _ _ _ (off_val t).1 _ _ h0 e0 _ (fun i j => fresh m c t h2 _ _ h0 i j) i j) i j) i j) r j R C (by omega) (by omega)
  · exact row_at m c t 3 1 (by omega) (by omega) _ _ _ _ _ (off_val t).2 _ _ h1 e1 _ (fun i j => step_at m c t 2 1 (by omega) (by omega) _ _ _ (off_val t).2 _ _ h1 e1 _ (fun i j => step_at m c t 1 1 (by omega) (by omega) _ _ _ (off_val t).2 _ _ h1 e1 _ (fun i j => step_at m c t 0 1 (by omega) (by omega) _ _ _ (off_val t).2 _ _ h1 e1 _ (fun i j => fresh m c t h2 _ _ h1 i j) i j) i j) i j) r j R C (by omega) (by omega)

theorem out_D (t : Fin cfg0.N) (a0 : ¬t.val % 64 = 0) (a1 : t.val % 64 = 63) (h2 : ¬t.val % 16 = 0)
    (hb) (ih : ∀ (hh : Fin 2) (h : Fin 8), (h : ℕ) = 2 * ((t.val - 1) / 16) + hh → ∀ i j : Fin 256,
      (outsAt0 m c (t.val - 1) hb).2.2.1 (ix3 hh i j) = STATE (XX m c) h (4 * ((t.val - 1) % 16) + 4) i j) (y0 y1 : Fin 512) (R : Fin 8192) (C : Fin 2048)
    (eR : (R : ℕ) = t.val % 16 * 512 + y0) (eC : (C : ℕ) = t.val / 16 * 512 + y1) :
    (outsAt0 m c t.val t.isLt).1 (ix2 y0 y1) = RES (XX m c) R C := by
  have ht : t.val < 64 := lt_of_lt_of_eq t.isLt N_0
  obtain ⟨h0, e0⟩ : ∃ h : Fin 8, (h : ℕ) = 2 * (t.val / 16) + 0 := ⟨⟨2 * (t.val / 16) + 0, by omega⟩, rfl⟩
  obtain ⟨h1, e1⟩ : ∃ h : Fin 8, (h : ℕ) = 2 * (t.val / 16) + 1 := ⟨⟨2 * (t.val / 16) + 1, by omega⟩, rfl⟩
  rw [outsAt0_D m c t a0 a1 h2]; dsimp only
  frame_out
  simp (decide := true) only [↓View.readCov_skip, ↓View.readCov_cons_toLoadRect, View.readCov_skip, View.readCov_cons_toLoadRect, LoadRect.disj, n00, n01, n10, n11, n20, n21, n30, n31, o00, o01, o10, o11, o20, o21, o30, o31]
  rw [read_unread_whole]
  refine rows8 _ _ _ _ _ _ _ _ _ _ _ (fun r j er ej => ?_) (fun r j er ej => ?_) (fun r j er ej => ?_) (fun r j er ej => ?_) (fun r j er ej => ?_) (fun r j er ej => ?_) (fun r j er ej => ?_) (fun r j er ej => ?_)
  · exact row_at m c t 0 0 (by omega) (by omega) _ _ _ _ _ (off_val t).1 _ _ h0 e0 _ (fun i j => carried m c t h2 _ ih 0 h0 e0 _ i j) r j R C (by omega) (by omega)
  · exact row_at m c t 0 1 (by omega) (by omega) _ _ _ _ _ (off_val t).2 _ _ h1 e1 _ (fun i j => carried m c t h2 _ ih 1 h1 e1 _ i j) r j R C (by omega) (by omega)
  · exact row_at m c t 1 0 (by omega) (by omega) _ _ _ _ _ (off_val t).1 _ _ h0 e0 _ (fun i j => step_at m c t 0 0 (by omega) (by omega) _ _ _ (off_val t).1 _ _ h0 e0 _ (fun i j => carried m c t h2 _ ih 0 h0 e0 _ i j) i j) r j R C (by omega) (by omega)
  · exact row_at m c t 1 1 (by omega) (by omega) _ _ _ _ _ (off_val t).2 _ _ h1 e1 _ (fun i j => step_at m c t 0 1 (by omega) (by omega) _ _ _ (off_val t).2 _ _ h1 e1 _ (fun i j => carried m c t h2 _ ih 1 h1 e1 _ i j) i j) r j R C (by omega) (by omega)
  · exact row_at m c t 2 0 (by omega) (by omega) _ _ _ _ _ (off_val t).1 _ _ h0 e0 _ (fun i j => step_at m c t 1 0 (by omega) (by omega) _ _ _ (off_val t).1 _ _ h0 e0 _ (fun i j => step_at m c t 0 0 (by omega) (by omega) _ _ _ (off_val t).1 _ _ h0 e0 _ (fun i j => carried m c t h2 _ ih 0 h0 e0 _ i j) i j) i j) r j R C (by omega) (by omega)
  · exact row_at m c t 2 1 (by omega) (by omega) _ _ _ _ _ (off_val t).2 _ _ h1 e1 _ (fun i j => step_at m c t 1 1 (by omega) (by omega) _ _ _ (off_val t).2 _ _ h1 e1 _ (fun i j => step_at m c t 0 1 (by omega) (by omega) _ _ _ (off_val t).2 _ _ h1 e1 _ (fun i j => carried m c t h2 _ ih 1 h1 e1 _ i j) i j) i j) r j R C (by omega) (by omega)
  · exact row_at m c t 3 0 (by omega) (by omega) _ _ _ _ _ (off_val t).1 _ _ h0 e0 _ (fun i j => step_at m c t 2 0 (by omega) (by omega) _ _ _ (off_val t).1 _ _ h0 e0 _ (fun i j => step_at m c t 1 0 (by omega) (by omega) _ _ _ (off_val t).1 _ _ h0 e0 _ (fun i j => step_at m c t 0 0 (by omega) (by omega) _ _ _ (off_val t).1 _ _ h0 e0 _ (fun i j => carried m c t h2 _ ih 0 h0 e0 _ i j) i j) i j) i j) r j R C (by omega) (by omega)
  · exact row_at m c t 3 1 (by omega) (by omega) _ _ _ _ _ (off_val t).2 _ _ h1 e1 _ (fun i j => step_at m c t 2 1 (by omega) (by omega) _ _ _ (off_val t).2 _ _ h1 e1 _ (fun i j => step_at m c t 1 1 (by omega) (by omega) _ _ _ (off_val t).2 _ _ h1 e1 _ (fun i j => step_at m c t 0 1 (by omega) (by omega) _ _ _ (off_val t).2 _ _ h1 e1 _ (fun i j => carried m c t h2 _ ih 1 h1 e1 _ i j) i j) i j) i j) r j R C (by omega) (by omega)

/-- One tile of the modulation's sum over a point: eight partial rows added to the carried eight. -/
def MAC (acc : FVec Ideal S8x2048 .f32) (a0 : FVec Ideal S8x128 .f32) (w0 : FVec Ideal S8x2048 .f32) (a1 : FVec Ideal S8x128 .f32) (w1 : FVec Ideal S8x2048 .f32) (a2 : FVec Ideal S8x128 .f32) (w2 : FVec Ideal S8x2048 .f32) (a3 : FVec Ideal S8x128 .f32) (w3 : FVec Ideal S8x2048 .f32) (a4 : FVec Ideal S8x128 .f32) (w4 : FVec Ideal S8x2048 .f32) (a5 : FVec Ideal S8x128 .f32) (w5 : FVec Ideal S8x2048 .f32) (a6 : FVec Ideal S8x128 .f32) (w6 : FVec Ideal S8x2048 .f32) (a7 : FVec Ideal S8x128 .f32) (w7 : FVec Ideal S8x2048 .f32) : FVec Ideal S8x2048 .f32 := k0_pay4 (F := Ideal) (k0_pay2 acc a0 w0 a1 w1 a2 w2 a3 w3) (k0_pay3 a4) w4 a5 w5 a6 w6 a7 w7
theorem mt0 (acc : FVec Ideal S8x2048 .f32) (a0 : FVec Ideal S8x128 .f32) (w0 : FVec Ideal S8x2048 .f32) (a1 : FVec Ideal S8x128 .f32) (w1 : FVec Ideal S8x2048 .f32) (a2 : FVec Ideal S8x128 .f32) (w2 : FVec Ideal S8x2048 .f32) (a3 : FVec Ideal S8x128 .f32) (w3 : FVec Ideal S8x2048 .f32) (a4 : FVec Ideal S8x128 .f32) (w4 : FVec Ideal S8x2048 .f32) (a5 : FVec Ideal S8x128 .f32) (w5 : FVec Ideal S8x2048 .f32) (a6 : FVec Ideal S8x128 .f32) (w6 : FVec Ideal S8x2048 .f32) (a7 : FVec Ideal S8x128 .f32) (w7 : FVec Ideal S8x2048 .f32) : k0_pay4 (F := Ideal) (k0_pay2 acc a0 w0 a1 w1 a2 w2 a3 w3) (k0_pay3 a4) w4 a5 w5 a6 w6 a7 w7 = MAC acc a0 w0 a1 w1 a2 w2 a3 w3 a4 w4 a5 w5 a6 w6 a7 w7 := rfl
theorem mt1 (acc : FVec Ideal S8x2048 .f32) (a0 : FVec Ideal S8x128 .f32) (w0 : FVec Ideal S8x2048 .f32) (a1 : FVec Ideal S8x128 .f32) (w1 : FVec Ideal S8x2048 .f32) (a2 : FVec Ideal S8x128 .f32) (w2 : FVec Ideal S8x2048 .f32) (a3 : FVec Ideal S8x128 .f32) (w3 : FVec Ideal S8x2048 .f32) (a4 : FVec Ideal S8x128 .f32) (w4 : FVec Ideal S8x2048 .f32) (a5 : FVec Ideal S8x128 .f32) (w5 : FVec Ideal S8x2048 .f32) (a6 : FVec Ideal S8x128 .f32) (w6 : FVec Ideal S8x2048 .f32) (a7 : FVec Ideal S8x128 .f32) (w7 : FVec Ideal S8x2048 .f32) : k0_pay9 (F := Ideal) (k0_pay7 (k0_pay5 acc a0 w0) (k0_pay6 a1) w1 a2 w2 a3 w3 a4 w4 a5 w5 a6 w6) (k0_pay8 a7) w7 = MAC acc a0 w0 a1 w1 a2 w2 a3 w3 a4 w4 a5 w5 a6 w6 a7 w7 := rfl
theorem mt2 (acc : FVec Ideal S8x2048 .f32) (a0 : FVec Ideal S8x128 .f32) (w0 : FVec Ideal S8x2048 .f32) (a1 : FVec Ideal S8x128 .f32) (w1 : FVec Ideal S8x2048 .f32) (a2 : FVec Ideal S8x128 .f32) (w2 : FVec Ideal S8x2048 .f32) (a3 : FVec Ideal S8x128 .f32) (w3 : FVec Ideal S8x2048 .f32) (a4 : FVec Ideal S8x128 .f32) (w4 : FVec Ideal S8x2048 .f32) (a5 : FVec Ideal S8x128 .f32) (w5 : FVec Ideal S8x2048 .f32) (a6 : FVec Ideal S8x128 .f32) (w6 : FVec Ideal S8x2048 .f32) (a7 : FVec Ideal S8x128 .f32) (w7 : FVec Ideal S8x2048 .f32) : k0_pay12 (F := Ideal) (k0_pay10 acc a0 w0 a1 w1 a2 w2 a3 w3) (k0_pay11 a4) w4 a5 w5 a6 w6 a7 w7 = MAC acc a0 w0 a1 w1 a2 w2 a3 w3 a4 w4 a5 w5 a6 w6 a7 w7 := rfl
theorem mt3 (acc : FVec Ideal S8x2048 .f32) (a0 : FVec Ideal S8x128 .f32) (w0 : FVec Ideal S8x2048 .f32) (a1 : FVec Ideal S8x128 .f32) (w1 : FVec Ideal S8x2048 .f32) (a2 : FVec Ideal S8x128 .f32) (w2 : FVec Ideal S8x2048 .f32) (a3 : FVec Ideal S8x128 .f32) (w3 : FVec Ideal S8x2048 .f32) (a4 : FVec Ideal S8x128 .f32) (w4 : FVec Ideal S8x2048 .f32) (a5 : FVec Ideal S8x128 .f32) (w5 : FVec Ideal S8x2048 .f32) (a6 : FVec Ideal S8x128 .f32) (w6 : FVec Ideal S8x2048 .f32) (a7 : FVec Ideal S8x128 .f32) (w7 : FVec Ideal S8x2048 .f32) : k0_pay17 (F := Ideal) (k0_pay15 (k0_pay13 acc a0 w0) (k0_pay14 a1 w1) a2 w2 a3 w3 a4 w4 a5 w5 a6 w6) (k0_pay16 a7 w7) = MAC acc a0 w0 a1 w1 a2 w2 a3 w3 a4 w4 a5 w5 a6 w6 a7 w7 := rfl
theorem mt4 (acc : FVec Ideal S8x2048 .f32) (a0 : FVec Ideal S8x128 .f32) (w0 : FVec Ideal S8x2048 .f32) (a1 : FVec Ideal S8x128 .f32) (w1 : FVec Ideal S8x2048 .f32) (a2 : FVec Ideal S8x128 .f32) (w2 : FVec Ideal S8x2048 .f32) (a3 : FVec Ideal S8x128 .f32) (w3 : FVec Ideal S8x2048 .f32) (a4 : FVec Ideal S8x128 .f32) (w4 : FVec Ideal S8x2048 .f32) (a5 : FVec Ideal S8x128 .f32) (w5 : FVec Ideal S8x2048 .f32) (a6 : FVec Ideal S8x128 .f32) (w6 : FVec Ideal S8x2048 .f32) (a7 : FVec Ideal S8x128 .f32) (w7 : FVec Ideal S8x2048 .f32) : k0_pay19 (F := Ideal) (k0_pay18 acc a0 w0 a1 w1 a2 w2 a3 w3 a4 w4) a5 w5 a6 w6 a7 w7 = MAC acc a0 w0 a1 w1 a2 w2 a3 w3 a4 w4 a5 w5 a6 w6 a7 w7 := rfl
theorem mt5 (acc : FVec Ideal S8x2048 .f32) (a0 : FVec Ideal S8x128 .f32) (w0 : FVec Ideal S8x2048 .f32) (a1 : FVec Ideal S8x128 .f32) (w1 : FVec Ideal S8x2048 .f32) (a2 : FVec Ideal S8x128 .f32) (w2 : FVec Ideal S8x2048 .f32) (a3 : FVec Ideal S8x128 .f32) (w3 : FVec Ideal S8x2048 .f32) (a4 : FVec Ideal S8x128 .f32) (w4 : FVec Ideal S8x2048 .f32) (a5 : FVec Ideal S8x128 .f32) (w5 : FVec Ideal S8x2048 .f32) (a6 : FVec Ideal S8x128 .f32) (w6 : FVec Ideal S8x2048 .f32) (a7 : FVec Ideal S8x128 .f32) (w7 : FVec Ideal S8x2048 .f32) : k0_pay22 (F := Ideal) (k0_pay21 (k0_pay20 acc a0 w0 a1 w1) a2 w2 a3 w3 a4 w4 a5 w5 a6 w6 a7 w7) = MAC acc a0 w0 a1 w1 a2 w2 a3 w3 a4 w4 a5 w5 a6 w6 a7 w7 := rfl

theorem MAC_at (acc : FVec Ideal S8x2048 .f32) (a0 : FVec Ideal S8x128 .f32) (w0 : FVec Ideal S8x2048 .f32) (a1 : FVec Ideal S8x128 .f32) (w1 : FVec Ideal S8x2048 .f32) (a2 : FVec Ideal S8x128 .f32) (w2 : FVec Ideal S8x2048 .f32) (a3 : FVec Ideal S8x128 .f32) (w3 : FVec Ideal S8x2048 .f32) (a4 : FVec Ideal S8x128 .f32) (w4 : FVec Ideal S8x2048 .f32) (a5 : FVec Ideal S8x128 .f32) (w5 : FVec Ideal S8x2048 .f32) (a6 : FVec Ideal S8x128 .f32) (w6 : FVec Ideal S8x2048 .f32) (a7 : FVec Ideal S8x128 .f32) (w7 : FVec Ideal S8x2048 .f32) (R : Fin 8) (J : Fin 2048) (A0 : EReal) (A1 : EReal) (A2 : EReal) (A3 : EReal) (A4 : EReal) (A5 : EReal) (A6 : EReal) (A7 : EReal)
    (h0 : ∀ l : Fin 128, a0 (ix2 R l) = A0) (h1 : ∀ l : Fin 128, a1 (ix2 R l) = A1) (h2 : ∀ l : Fin 128, a2 (ix2 R l) = A2) (h3 : ∀ l : Fin 128, a3 (ix2 R l) = A3) (h4 : ∀ l : Fin 128, a4 (ix2 R l) = A4) (h5 : ∀ l : Fin 128, a5 (ix2 R l) = A5) (h6 : ∀ l : Fin 128, a6 (ix2 R l) = A6) (h7 : ∀ l : Fin 128, a7 (ix2 R l) = A7) :
    MAC acc a0 w0 a1 w1 a2 w2 a3 w3 a4 w4 a5 w5 a6 w6 a7 w7 (ix2 R J) = (acc (ix2 R J) + w0 (ix2 R J) * A0 + w1 (ix2 R J) * A1 + w2 (ix2 R J) * A2 + w3 (ix2 R J) * A3 + w4 (ix2 R J) * A4 + w5 (ix2 R J) * A5 + w6 (ix2 R J) * A6 + w7 (ix2 R J) * A7 : EReal) := by
  unfold MAC
  pointwise [k0_pay2, k0_pay3, k0_pay4, h0, h1, h2, h3, h4, h5, h6, h7]
  simp only [ite_self, dite_eq_ite]

/-- The modulation's weights and bias. -/
abbrev WW : FVec Ideal S4096x12288 .f32 := m ((c : Thread nD τ).loc main_arg2)
abbrev BB : FVec Ideal S12288 .f32 := m ((c : Thread nD τ).loc main_arg3)

/-- The conditioning's activation at a row, and the term the modulation adds for it. -/
def SIL (n : ℕ) : EReal := CC m c (ix2 0 ⟨n % 4096, by omega⟩) * Ideal.div 1 (1 + Ideal.exp (-(CC m c (ix2 0 ⟨n % 4096, by omega⟩))))
def TRM (C : Fin 12288) (n : ℕ) : EReal := WW m c (ix2 ⟨n % 4096, by omega⟩ C) * SIL m c n

theorem ca_at (t : Fin cfg0.N) (b : ℕ) (hb : b < 8) (inb) (R : Fin 8) (l : Fin 128) :
    View.ld (iblk m c 5 t) (Rect.unit ![8 * b, 0] ![8, 128] inb) (ix2 R l) = SIL m c (64 * t.val + 8 * b + R) := by
  have ht : t.val < 64 := lt_of_lt_of_eq t.isLt N_0
  have e : ((cfg0.win 5).blk t).view.emb ((Rect.unit (s := S64x128) ![8 * b, 0] ![8, 128] inb).idx (ix2 R l : S8x128.Idx))
      = (ix2 (⟨(64 * t.val + 8 * b + R) % 4096, by omega⟩ : Fin 4096) l : S4096x128.Idx) := by
    blk_ext [idx_val t]
    · show t.val * 64 + (8 * b + 1 * (R : ℕ)) = _; omega
    · show 0 + 1 * (l : ℕ) = _; omega
  show V m c main_v16 (((cfg0.win 5).blk t).view.emb ((Rect.unit (s := S64x128) ![8 * b, 0] ![8, 128] inb).idx (ix2 R l : S8x128.Idx))) = _
  rw [e]
  exact V16_at m c _ l

theorem wm_at (t : Fin cfg0.N) (b k : ℕ) (hb : b < 8) (hk : k < 6) (inb) (R : Fin 8) (J : Fin 2048) (C : Fin 12288) (eC : (C : ℕ) = 2048 * k + J) :
    View.ld (iblk m c 6 t) (Rect.unit ![8 * b, 2048 * k] ![8, 2048] inb) (ix2 R J) = WW m c (ix2 ⟨(64 * t.val + 8 * b + R) % 4096, by omega⟩ C) := by
  have ht : t.val < 64 := lt_of_lt_of_eq t.isLt N_0
  unfold WW
  blk_point [iblk, V, idx_val t]

theorem bias_at (t : Fin cfg0.N) (C : Fin 12288) : iblk m c 7 t (ix2 0 C : S1x12288.Idx) = BB m c (ix1 C) := by
  show V m c main_v17 (((cfg0.win 7).blk t).view.emb (ix2 0 C : S1x12288.Idx)) = _
  have e : ((cfg0.win 7).blk t).view.emb (ix2 0 C : S1x12288.Idx) = (ix2 0 C : S1x12288.Idx) := by blk_ext [idx_val t]
  rw [e]
  exact V17_at m c C

/-- What the eight carried rows hold after `n` points. -/
def MACC (R : Fin 8) (C : Fin 12288) : ℕ → EReal
  | 0 => 0
  | n + 1 => MACC R C n + TRM m c C (64 * n + 8 * 0 + R) + TRM m c C (64 * n + 8 * 1 + R) + TRM m c C (64 * n + 8 * 2 + R) + TRM m c C (64 * n + 8 * 3 + R) + TRM m c C (64 * n + 8 * 4 + R) + TRM m c C (64 * n + 8 * 5 + R) + TRM m c C (64 * n + 8 * 6 + R) + TRM m c C (64 * n + 8 * 7 + R)

theorem mac_at (t : Fin cfg0.N) (k : ℕ) (hk : k < 6) (acc : FVec Ideal S8x2048 .f32) (ia0) (iw0) (ia1) (iw1) (ia2) (iw2) (ia3) (iw3) (ia4) (iw4) (ia5) (iw5) (ia6) (iw6) (ia7) (iw7) (R : Fin 8) (J : Fin 2048) (C : Fin 12288) (eC : (C : ℕ) = 2048 * k + J)
    (hacc : acc (ix2 R J) = MACC m c R C t.val) :
    MAC acc (View.ld (iblk m c 5 t) (Rect.unit ![8 * 0, 0] ![8, 128] ia0)) (View.ld (iblk m c 6 t) (Rect.unit ![8 * 0, 2048 * k] ![8, 2048] iw0)) (View.ld (iblk m c 5 t) (Rect.unit ![8 * 1, 0] ![8, 128] ia1)) (View.ld (iblk m c 6 t) (Rect.unit ![8 * 1, 2048 * k] ![8, 2048] iw1)) (View.ld (iblk m c 5 t) (Rect.unit ![8 * 2, 0] ![8, 128] ia2)) (View.ld (iblk m c 6 t) (Rect.unit ![8 * 2, 2048 * k] ![8, 2048] iw2)) (View.ld (iblk m c 5 t) (Rect.unit ![8 * 3, 0] ![8, 128] ia3)) (View.ld (iblk m c 6 t) (Rect.unit ![8 * 3, 2048 * k] ![8, 2048] iw3)) (View.ld (iblk m c 5 t) (Rect.unit ![8 * 4, 0] ![8, 128] ia4)) (View.ld (iblk m c 6 t) (Rect.unit ![8 * 4, 2048 * k] ![8, 2048] iw4)) (View.ld (iblk m c 5 t) (Rect.unit ![8 * 5, 0] ![8, 128] ia5)) (View.ld (iblk m c 6 t) (Rect.unit ![8 * 5, 2048 * k] ![8, 2048] iw5)) (View.ld (iblk m c 5 t) (Rect.unit ![8 * 6, 0] ![8, 128] ia6)) (View.ld (iblk m c 6 t) (Rect.unit ![8 * 6, 2048 * k] ![8, 2048] iw6)) (View.ld (iblk m c 5 t) (Rect.unit ![8 * 7, 0] ![8, 128] ia7)) (View.ld (iblk m c 6 t) (Rect.unit ![8 * 7, 2048 * k] ![8, 2048] iw7)) (ix2 R J) = MACC m c R C (t.val + 1) := by
  rw [MAC_at _ _ _ _ _ _ _ _ _ _ _ _ _ _ _ _ _  R J _ _ _ _ _ _ _ _  (ca_at m c t 0 (by omega) ia0 R) (ca_at m c t 1 (by omega) ia1 R) (ca_at m c t 2 (by omega) ia2 R) (ca_at m c t 3 (by omega) ia3 R) (ca_at m c t 4 (by omega) ia4 R) (ca_at m c t 5 (by omega) ia5 R) (ca_at m c t 6 (by omega) ia6 R) (ca_at m c t 7 (by omega) ia7 R), hacc, wm_at m c t 0 k (by omega) hk iw0 R J C eC, wm_at m c t 1 k (by omega) hk iw1 R J C eC, wm_at m c t 2 k (by omega) hk iw2 R J C eC, wm_at m c t 3 k (by omega) hk iw3 R J C eC, wm_at m c t 4 k (by omega) hk iw4 R J C eC, wm_at m c t 5 k (by omega) hk iw5 R J C eC, wm_at m c t 6 k (by omega) hk iw6 R J C eC, wm_at m c t 7 k (by omega) hk iw7 R J C eC]
  rfl

theorem colpiece_at (o1 : ℕ) (inb) (p : Vec Ideal S8x2048 .f32) (L : List (View.Piece (Elt Ideal) S8x12288 .f32)) (y0 : Fin 8) (y1 : Fin 12288) (a : EReal)
    (hin : ∀ (j : Fin 2048), (y1 : ℕ) = o1 + j → p (ix2 y0 j) = a)
    (hout : ¬(o1 ≤ (y1 : ℕ) ∧ (y1 : ℕ) < o1 + 2048) → View.canon L (ix2 y0 y1 : S8x12288.Idx) = a) :
    View.canon (⟨Rect.unit ![0, o1] ![8, 2048] inb, p⟩ :: L) (ix2 y0 y1 : S8x12288.Idx) = a := by
  by_cases hm : o1 ≤ (y1 : ℕ) ∧ (y1 : ℕ) < o1 + 2048
  · have e : (ix2 y0 y1 : S8x12288.Idx) = (Rect.unit (s := S8x12288) ![0, o1] ![8, 2048] inb).emb
        (ix2 y0 (⟨(y1 : ℕ) - o1, by omega⟩ : Fin 2048) : S8x2048.Idx) := by
      funext b
      fin_cases b
      · exact Fin.ext (show (y0 : ℕ) = 0 + 1 * (y0 : ℕ) by omega)
      · exact Fin.ext (show (y1 : ℕ) = o1 + 1 * ((y1 : ℕ) - o1) by omega)
    rw [e, View.canon_cons_emb]
    exact hin _ (by simp only; omega)
  · have hn : (ix2 y0 y1 : S8x12288.Idx) ∉ (Rect.unit (s := S8x12288) ![0, o1] ![8, 2048] inb).set := fun h => hm (by
      have h' := (Rect.mem_set_unit (inb := inb)).mp h
      exact h' 1)
    exact (View.canon_cons_of_not_mem (⟨Rect.unit (s := S8x12288) ![0, o1] ![8, 2048] inb, p⟩ : View.Piece (Elt Ideal) S8x12288 .f32) L hn).trans (hout hm)

theorem cols6 (p0 p1 p2 p3 p4 p5 : Vec Ideal S8x2048 .f32) (L : List (View.Piece (Elt Ideal) S8x12288 .f32)) (y0 : Fin 8) (y1 : Fin 12288) (a : EReal)
    (e0 : ∀ (j : Fin 2048), (y1 : ℕ) = 0 + j → p0 (ix2 y0 j) = a)
    (e1 : ∀ (j : Fin 2048), (y1 : ℕ) = 2048 + j → p1 (ix2 y0 j) = a)
    (e2 : ∀ (j : Fin 2048), (y1 : ℕ) = 4096 + j → p2 (ix2 y0 j) = a)
    (e3 : ∀ (j : Fin 2048), (y1 : ℕ) = 6144 + j → p3 (ix2 y0 j) = a)
    (e4 : ∀ (j : Fin 2048), (y1 : ℕ) = 8192 + j → p4 (ix2 y0 j) = a)
    (e5 : ∀ (j : Fin 2048), (y1 : ℕ) = 10240 + j → p5 (ix2 y0 j) = a) :
    View.canon (Val := Elt Ideal) (s := S8x12288) (e := .f32) (⟨Rect.unit ![0, 10240] ![8, 2048] inb_S8x12288_S8x2048_0_10240, p5⟩ :: ⟨Rect.unit ![0, 8192] ![8, 2048] inb_S8x12288_S8x2048_0_8192, p4⟩ :: ⟨Rect.unit ![0, 6144] ![8, 2048] inb_S8x12288_S8x2048_0_6144, p3⟩ :: ⟨Rect.unit ![0, 4096] ![8, 2048] inb_S8x12288_S8x2048_0_4096, p2⟩ :: ⟨Rect.unit ![0, 2048] ![8, 2048] inb_S8x12288_S8x2048_0_2048, p1⟩ :: ⟨Rect.unit ![0, 0] ![8, 2048] inb_S8x12288_S8x2048_0_0, p0⟩ :: L) (ix2 y0 y1) = a := by
  refine colpiece_at _ _ _ _ _ _ _ e5 (fun n5 => ?_)
  refine colpiece_at _ _ _ _ _ _ _ e4 (fun n4 => ?_)
  refine colpiece_at _ _ _ _ _ _ _ e3 (fun n3 => ?_)
  refine colpiece_at _ _ _ _ _ _ _ e2 (fun n2 => ?_)
  refine colpiece_at _ _ _ _ _ _ _ e1 (fun n1 => ?_)
  refine colpiece_at _ _ _ _ _ _ _ e0 (fun n0 => ?_)
  exfalso
  omega

/-- A load of a whole buffer reads what the stores before it left. -/
theorem readCov_all {sig : RefSig} {κ : Kind} {sp : Space} {S : Shape} {e : EltTy} (v : View sig κ sp S e) (L : List (View.Piece (Elt Ideal) S e))
    {off : Fin S.rank → Nat} (inb : ∀ a, off a + S.size a ≤ S.size a) (h : ∀ a, off a = 0) :
    v.readCov L (Rect.unit off (no_index S.size) inb).toLoadRect = View.canon L :=
  (View.readCov_eq_canon' v L _).trans (View.ld_unit_lit inb (View.canon L) h)

/-- Reading a tile of the carried rows. -/
theorem ld_cols (s : Vec Ideal S8x12288 .f32) (o1 : ℕ) (inb) (R : Fin 8) (J : Fin 2048) (C : Fin 12288) (eC : (C : ℕ) = o1 + J) :
    View.ld s (Rect.unit (s := S8x12288) ![0, o1] ![8, 2048] inb) (ix2 R J) = s (ix2 R C) := by
  refine congrArg s ?_
  blk_ext []
  · show 0 + 1 * (R : ℕ) = _; omega
  · show o1 + 1 * (J : ℕ) = _; omega

abbrev F1 : S8x12288.Idx → EReal := k0_pay1 (F := Ideal)
theorem fresh1 (r : Rect S8x12288) (x : r.shape.Idx) (R : Fin 8) (C : Fin 12288) (n : ℕ) (h0 : n = 0) : (F1 (r.idx x) : EReal) = MACC m c R C n := by
  subst h0
  show (k0_pay1 (F := Ideal)) _ = (0 : EReal)
  pointwise [k0_pay1]
theorem ma_A (t : Fin cfg0.N) (a0 : t.val % 64 = 0) (a1 : ¬t.val % 64 = 63) (h2 : t.val % 16 = 0) (R : Fin 8) (C : Fin 12288) :
    (outsAt0 m c t.val t.isLt).2.2.2 (ix2 R C) = MACC m c R C (t.val + 1) := by
  rw [outsAt0_A m c t a0 a1 h2]; dsimp only
  frame_out
  simp (decide := true) only [↓View.readCov_skip, View.readCov_skip, LoadRect.disj, mt0, mt1, mt2, mt3, mt4, mt5]
  rw [View.readCov_fill _ _ _ _ _ (by decide), View.readCov_fill _ _ _ _ _ (by decide), View.readCov_fill _ _ _ _ _ (by decide), View.readCov_fill _ _ _ _ _ (by decide), View.readCov_fill _ _ _ _ _ (by decide), View.readCov_fill _ _ _ _ _ (by decide)]
  refine cols6 _ _ _ _ _ _ _ R C _ (fun J eC => ?_) (fun J eC => ?_) (fun J eC => ?_) (fun J eC => ?_) (fun J eC => ?_) (fun J eC => ?_)
  · exact mac_at m c t 0 (by omega) _ _ _ _ _ _ _ _ _ _ _ _ _ _ _ _ _  R J C eC (fresh1 m c _ _ R C t.val (by have ht : t.val < 64 := lt_of_lt_of_eq t.isLt N_0; omega))
  · exact mac_at m c t 1 (by omega) _ _ _ _ _ _ _ _ _ _ _ _ _ _ _ _ _  R J C eC (fresh1 m c _ _ R C t.val (by have ht : t.val < 64 := lt_of_lt_of_eq t.isLt N_0; omega))
  · exact mac_at m c t 2 (by omega) _ _ _ _ _ _ _ _ _ _ _ _ _ _ _ _ _  R J C eC (fresh1 m c _ _ R C t.val (by have ht : t.val < 64 := lt_of_lt_of_eq t.isLt N_0; omega))
  · exact mac_at m c t 3 (by omega) _ _ _ _ _ _ _ _ _ _ _ _ _ _ _ _ _  R J C eC (fresh1 m c _ _ R C t.val (by have ht : t.val < 64 := lt_of_lt_of_eq t.isLt N_0; omega))
  · exact mac_at m c t 4 (by omega) _ _ _ _ _ _ _ _ _ _ _ _ _ _ _ _ _  R J C eC (fresh1 m c _ _ R C t.val (by have ht : t.val < 64 := lt_of_lt_of_eq t.isLt N_0; omega))
  · exact mac_at m c t 5 (by omega) _ _ _ _ _ _ _ _ _ _ _ _ _ _ _ _ _  R J C eC (fresh1 m c _ _ R C t.val (by have ht : t.val < 64 := lt_of_lt_of_eq t.isLt N_0; omega))

theorem ma_B (t : Fin cfg0.N) (a0 : ¬t.val % 64 = 0) (a1 : ¬t.val % 64 = 63) (h2 : ¬t.val % 16 = 0)
    (hb) (ih : ∀ (R : Fin 8) (C : Fin 12288), (outsAt0 m c (t.val - 1) hb).2.2.2 (ix2 R C) = MACC m c R C (t.val - 1 + 1)) (R : Fin 8) (C : Fin 12288) :
    (outsAt0 m c t.val t.isLt).2.2.2 (ix2 R C) = MACC m c R C (t.val + 1) := by
  rw [outsAt0_B m c t a0 a1 h2]; dsimp only
  frame_out
  simp (decide := true) only [↓View.readCov_skip, View.readCov_skip, LoadRect.disj, mt0, mt1, mt2, mt3, mt4, mt5]
  rw [read_unread_whole]
  refine cols6 _ _ _ _ _ _ _ R C _ (fun J eC => ?_) (fun J eC => ?_) (fun J eC => ?_) (fun J eC => ?_) (fun J eC => ?_) (fun J eC => ?_)
  · exact mac_at m c t 0 (by omega) _ _ _ _ _ _ _ _ _ _ _ _ _ _ _ _ _  R J C eC ((ld_cols _ 0 _ R J C eC).trans ((ih R C).trans (by rw [Nat.sub_add_cancel (by omega)])))
  · exact mac_at m c t 1 (by omega) _ _ _ _ _ _ _ _ _ _ _ _ _ _ _ _ _  R J C eC ((ld_cols _ 2048 _ R J C eC).trans ((ih R C).trans (by rw [Nat.sub_add_cancel (by omega)])))
  · exact mac_at m c t 2 (by omega) _ _ _ _ _ _ _ _ _ _ _ _ _ _ _ _ _  R J C eC ((ld_cols _ 4096 _ R J C eC).trans ((ih R C).trans (by rw [Nat.sub_add_cancel (by omega)])))
  · exact mac_at m c t 3 (by omega) _ _ _ _ _ _ _ _ _ _ _ _ _ _ _ _ _  R J C eC ((ld_cols _ 6144 _ R J C eC).trans ((ih R C).trans (by rw [Nat.sub_add_cancel (by omega)])))
  · exact mac_at m c t 4 (by omega) _ _ _ _ _ _ _ _ _ _ _ _ _ _ _ _ _  R J C eC ((ld_cols _ 8192 _ R J C eC).trans ((ih R C).trans (by rw [Nat.sub_add_cancel (by omega)])))
  · exact mac_at m c t 5 (by omega) _ _ _ _ _ _ _ _ _ _ _ _ _ _ _ _ _  R J C eC ((ld_cols _ 10240 _ R J C eC).trans ((ih R C).trans (by rw [Nat.sub_add_cancel (by omega)])))

theorem ma_C (t : Fin cfg0.N) (a0 : ¬t.val % 64 = 0) (a1 : ¬t.val % 64 = 63) (h2 : t.val % 16 = 0)
    (hb) (ih : ∀ (R : Fin 8) (C : Fin 12288), (outsAt0 m c (t.val - 1) hb).2.2.2 (ix2 R C) = MACC m c R C (t.val - 1 + 1)) (R : Fin 8) (C : Fin 12288) :
    (outsAt0 m c t.val t.isLt).2.2.2 (ix2 R C) = MACC m c R C (t.val + 1) := by
  rw [outsAt0_C m c t a0 a1 h2]; dsimp only
  frame_out
  simp (decide := true) only [↓View.readCov_skip, View.readCov_skip, LoadRect.disj, mt0, mt1, mt2, mt3, mt4, mt5]
  rw [read_unread_whole]
  refine cols6 _ _ _ _ _ _ _ R C _ (fun J eC => ?_) (fun J eC => ?_) (fun J eC => ?_) (fun J eC => ?_) (fun J eC => ?_) (fun J eC => ?_)
  · exact mac_at m c t 0 (by omega) _ _ _ _ _ _ _ _ _ _ _ _ _ _ _ _ _  R J C eC ((ld_cols _ 0 _ R J C eC).trans ((ih R C).trans (by rw [Nat.sub_add_cancel (by omega)])))
  · exact mac_at m c t 1 (by omega) _ _ _ _ _ _ _ _ _ _ _ _ _ _ _ _ _  R J C eC ((ld_cols _ 2048 _ R J C eC).trans ((ih R C).trans (by rw [Nat.sub_add_cancel (by omega)])))
  · exact mac_at m c t 2 (by omega) _ _ _ _ _ _ _ _ _ _ _ _ _ _ _ _ _  R J C eC ((ld_cols _ 4096 _ R J C eC).trans ((ih R C).trans (by rw [Nat.sub_add_cancel (by omega)])))
  · exact mac_at m c t 3 (by omega) _ _ _ _ _ _ _ _ _ _ _ _ _ _ _ _ _  R J C eC ((ld_cols _ 6144 _ R J C eC).trans ((ih R C).trans (by rw [Nat.sub_add_cancel (by omega)])))
  · exact mac_at m c t 4 (by omega) _ _ _ _ _ _ _ _ _ _ _ _ _ _ _ _ _  R J C eC ((ld_cols _ 8192 _ R J C eC).trans ((ih R C).trans (by rw [Nat.sub_add_cancel (by omega)])))
  · exact mac_at m c t 5 (by omega) _ _ _ _ _ _ _ _ _ _ _ _ _ _ _ _ _  R J C eC ((ld_cols _ 10240 _ R J C eC).trans ((ih R C).trans (by rw [Nat.sub_add_cancel (by omega)])))

theorem ma_D (t : Fin cfg0.N) (a0 : ¬t.val % 64 = 0) (a1 : t.val % 64 = 63) (h2 : ¬t.val % 16 = 0)
    (hb) (ih : ∀ (R : Fin 8) (C : Fin 12288), (outsAt0 m c (t.val - 1) hb).2.2.2 (ix2 R C) = MACC m c R C (t.val - 1 + 1)) (R : Fin 8) (C : Fin 12288) :
    (outsAt0 m c t.val t.isLt).2.2.2 (ix2 R C) = MACC m c R C (t.val + 1) := by
  rw [outsAt0_D m c t a0 a1 h2]; dsimp only
  frame_out
  simp (decide := true) only [↓View.readCov_skip, View.readCov_skip, LoadRect.disj, mt0, mt1, mt2, mt3, mt4, mt5]
  rw [read_unread_whole]
  refine cols6 _ _ _ _ _ _ _ R C _ (fun J eC => ?_) (fun J eC => ?_) (fun J eC => ?_) (fun J eC => ?_) (fun J eC => ?_) (fun J eC => ?_)
  · exact mac_at m c t 0 (by omega) _ _ _ _ _ _ _ _ _ _ _ _ _ _ _ _ _  R J C eC ((ld_cols _ 0 _ R J C eC).trans ((ih R C).trans (by rw [Nat.sub_add_cancel (by omega)])))
  · exact mac_at m c t 1 (by omega) _ _ _ _ _ _ _ _ _ _ _ _ _ _ _ _ _  R J C eC ((ld_cols _ 2048 _ R J C eC).trans ((ih R C).trans (by rw [Nat.sub_add_cancel (by omega)])))
  · exact mac_at m c t 2 (by omega) _ _ _ _ _ _ _ _ _ _ _ _ _ _ _ _ _  R J C eC ((ld_cols _ 4096 _ R J C eC).trans ((ih R C).trans (by rw [Nat.sub_add_cancel (by omega)])))
  · exact mac_at m c t 3 (by omega) _ _ _ _ _ _ _ _ _ _ _ _ _ _ _ _ _  R J C eC ((ld_cols _ 6144 _ R J C eC).trans ((ih R C).trans (by rw [Nat.sub_add_cancel (by omega)])))
  · exact mac_at m c t 4 (by omega) _ _ _ _ _ _ _ _ _ _ _ _ _ _ _ _ _  R J C eC ((ld_cols _ 8192 _ R J C eC).trans ((ih R C).trans (by rw [Nat.sub_add_cancel (by omega)])))
  · exact mac_at m c t 5 (by omega) _ _ _ _ _ _ _ _ _ _ _ _ _ _ _ _ _  R J C eC ((ld_cols _ 10240 _ R J C eC).trans ((ih R C).trans (by rw [Nat.sub_add_cancel (by omega)])))

theorem pay23_at (s : FVec Ideal S8x12288 .f32) (b : FVec Ideal S1x12288 .f32) (C : Fin 12288) :
    k0_pay23 (F := Ideal) s b (ix2 0 C) = ((∑ R : Fin 8, s (ix2 R C)) + b (ix2 0 C) : EReal) := by
  pointwise [k0_pay23]

theorem mo_D (t : Fin cfg0.N) (a0 : ¬t.val % 64 = 0) (a1 : t.val % 64 = 63) (h2 : ¬t.val % 16 = 0)
    (hb) (ih : ∀ (R : Fin 8) (C : Fin 12288), (outsAt0 m c (t.val - 1) hb).2.2.2 (ix2 R C) = MACC m c R C (t.val - 1 + 1)) (C : Fin 12288) :
    (outsAt0 m c t.val t.isLt).2.1 (ix2 0 C) = ((∑ R : Fin 8, MACC m c R C (t.val + 1)) + BB m c (ix1 C) : EReal) := by
  rw [outsAt0_D m c t a0 a1 h2]; dsimp only
  frame_out
  simp (decide := true) only [↓View.readCov_skip, View.readCov_skip, LoadRect.disj, mt0, mt1, mt2, mt3, mt4, mt5]
  rw [read_unread_whole]
  rw [readCov_all _ _ _ (by decide)]
  refine (pay23_at _ _ C).trans ?_
  refine congrArg₂ (fun a b : EReal => a + b) (Finset.sum_congr (M := EReal) rfl fun R _ => ?_) (bias_at m c t C)
  refine cols6 _ _ _ _ _ _ _ R C _ (fun J eC => ?_) (fun J eC => ?_) (fun J eC => ?_) (fun J eC => ?_) (fun J eC => ?_) (fun J eC => ?_)
  · exact mac_at m c t 0 (by omega) _ _ _ _ _ _ _ _ _ _ _ _ _ _ _ _ _  R J C eC ((ld_cols _ 0 _ R J C eC).trans ((ih R C).trans (by rw [Nat.sub_add_cancel (by omega)])))
  · exact mac_at m c t 1 (by omega) _ _ _ _ _ _ _ _ _ _ _ _ _ _ _ _ _  R J C eC ((ld_cols _ 2048 _ R J C eC).trans ((ih R C).trans (by rw [Nat.sub_add_cancel (by omega)])))
  · exact mac_at m c t 2 (by omega) _ _ _ _ _ _ _ _ _ _ _ _ _ _ _ _ _  R J C eC ((ld_cols _ 4096 _ R J C eC).trans ((ih R C).trans (by rw [Nat.sub_add_cancel (by omega)])))
  · exact mac_at m c t 3 (by omega) _ _ _ _ _ _ _ _ _ _ _ _ _ _ _ _ _  R J C eC ((ld_cols _ 6144 _ R J C eC).trans ((ih R C).trans (by rw [Nat.sub_add_cancel (by omega)])))
  · exact mac_at m c t 4 (by omega) _ _ _ _ _ _ _ _ _ _ _ _ _ _ _ _ _  R J C eC ((ld_cols _ 8192 _ R J C eC).trans ((ih R C).trans (by rw [Nat.sub_add_cancel (by omega)])))
  · exact mac_at m c t 5 (by omega) _ _ _ _ _ _ _ _ _ _ _ _ _ _ _ _ _  R J C eC ((ld_cols _ 10240 _ R J C eC).trans ((ih R C).trans (by rw [Nat.sub_add_cancel (by omega)])))

/-- What the state buffer holds after each point. -/
theorem states (n : ℕ) : ∀ (hn : n < cfg0.N) (hh : Fin 2) (h : Fin 8), (h : ℕ) = 2 * (n / 16) + hh → ∀ i j : Fin 256,
    (outsAt0 m c n hn).2.2.1 (ix3 hh i j) = STATE (XX m c) h (4 * (n % 16) + 4) i j := by
  induction n with
  | zero => exact fun hn => st_A m c ⟨0, hn⟩ (by rfl) (by simp) (by rfl)
  | succ n ih =>
    intro hn
    have hN : n + 1 < 64 := lt_of_lt_of_eq hn N_0
    by_cases h2 : (n + 1) % 16 = 0
    · exact st_C m c ⟨n + 1, hn⟩ (by simp only; omega) (by simp only; omega) h2
    · by_cases h1 : (n + 1) % 64 = 63
      · exact st_D m c ⟨n + 1, hn⟩ (by simp only; omega) h1 h2 (Nat.lt_of_succ_lt hn) (ih _)
      · exact st_B m c ⟨n + 1, hn⟩ (by simp only; omega) h1 h2 (Nat.lt_of_succ_lt hn) (ih _)

/-- What the carried rows hold after each point. -/
theorem sums (n : ℕ) : ∀ (hn : n < cfg0.N) (R : Fin 8) (C : Fin 12288), (outsAt0 m c n hn).2.2.2 (ix2 R C) = MACC m c R C (n + 1) := by
  induction n with
  | zero => exact fun hn => ma_A m c ⟨0, hn⟩ (by rfl) (by simp) (by rfl)
  | succ n ih =>
    intro hn
    have hN : n + 1 < 64 := lt_of_lt_of_eq hn N_0
    by_cases h2 : (n + 1) % 16 = 0
    · exact ma_C m c ⟨n + 1, hn⟩ (by simp only; omega) (by simp only; omega) h2 (Nat.lt_of_succ_lt hn) (ih _)
    · by_cases h1 : (n + 1) % 64 = 63
      · exact ma_D m c ⟨n + 1, hn⟩ (by simp only; omega) h1 h2 (Nat.lt_of_succ_lt hn) (ih _)
      · exact ma_B m c ⟨n + 1, hn⟩ (by simp only; omega) h1 h2 (Nat.lt_of_succ_lt hn) (ih _)

/-- The rows of retention a point stores. -/
theorem rows_at (t : Fin cfg0.N) (y0 y1 : Fin 512) (R : Fin 8192) (C : Fin 2048)
    (eR : (R : ℕ) = t.val % 16 * 512 + y0) (eC : (C : ℕ) = t.val / 16 * 512 + y1) : (outsAt0 m c t.val t.isLt).1 (ix2 y0 y1) = RES (XX m c) R C := by
  have ht : t.val < 64 := lt_of_lt_of_eq t.isLt N_0
  by_cases h2 : t.val % 16 = 0
  · by_cases h0 : t.val % 64 = 0
    · exact out_A m c t h0 (by omega) h2 y0 y1 R C eR eC
    · exact out_C m c t h0 (by omega) h2 y0 y1 R C eR eC
  · by_cases h1 : t.val % 64 = 63
    · exact out_D m c t (by omega) h1 h2 _ (states m c (t.val - 1) (by have := t.isLt; omega)) y0 y1 R C eR eC
    · exact out_B m c t (by omega) h1 h2 _ (states m c (t.val - 1) (by have := t.isLt; omega)) y0 y1 R C eR eC

/-- The result of retention after the run is the reference's: the blocks tile the array. -/
theorem final_o : (dats m 0 c).arrAt 8 (cfgs 0).N = RETO (m ((c : Thread nD τ).loc main_arg0)) := by
  refine (dats m 0 c).arrAt_eq_of_covers 8 _ (by decide +kernel) fun t hf y => ?_
  blk_simp; rw [after0_8]
  have ht : t.val < 64 := lt_of_lt_of_eq t.isLt N_0
  idx_vars y
  have ey : ((cfg0.win 8).blk t).view.emb (ix2 y0 y1 : S512x512.Idx)
      = (ix2 (⟨t.val % 16 * 512 + (y0 : ℕ), by omega⟩ : Fin 8192) (⟨t.val / 16 * 512 + (y1 : ℕ), by omega⟩ : Fin 2048)) := by
    blk_ext [idx_val t]
  refine Eq.trans ?_ (congrArg (RETO (XX m c)) ey.symm)
  exact rows_at m c t y0 y1 _ _ rfl rfl

/-- Eight partial rows of one column, as one sum over the steps. -/
theorem MACC_eq (R : Fin 8) (C : Fin 12288) (n : ℕ) : MACC m c R C n = ∑ q ∈ Finset.range (8 * n), TRM m c C (q * 8 + R) := by
  induction n with
  | zero => rfl
  | succ n ih =>
    rw [MACC, ih]
    rw [show 8 * (n + 1) = 8 * n + 1 + 1 + 1 + 1 + 1 + 1 + 1 + 1 from by omega]
    simp only [Finset.sum_range_succ]
    refine (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) rfl ?_) ?_) ?_) ?_) ?_) ?_) ?_) ?_) <;> exact congrArg (fun k : ℕ => TRM m c C (k + R)) (by omega)

theorem sum_rows (C : Fin 12288) : (∑ R : Fin 8, MACC m c R C 64 : EReal)
    = ∑ k : Fin 4096, CC m c (ix2 0 k) * Ideal.div 1 (1 + Ideal.exp (-(CC m c (ix2 0 k)))) * WW m c (ix2 k C) := by
  have e : ∀ R : Fin 8, MACC m c R C 64 = ∑ q : Fin 512, TRM m c C ((q : ℕ) * 8 + R) := fun R => by
    rw [MACC_eq]
    exact Finset.sum_range (M := EReal) fun q => TRM m c C (q * 8 + R)
  rw [Finset.sum_congr (M := EReal) rfl fun R _ => e R, Finset.sum_comm]
  refine (Fin.sum_mul_add_fin (M := EReal) (L := 4096) 512 8 fun l => TRM m c C l).trans ?_
  refine Finset.sum_congr (M := EReal) rfl fun k _ => ?_
  have ek : (⟨(k : ℕ) % 4096, by omega⟩ : Fin 4096) = k := Fin.ext (Nat.mod_eq_of_lt k.isLt)
  unfold TRM SIL
  rw [ek]
  exact mul_comm _ _

/-- The modulation's result after the run is the reference's: it is written back once, at the last point. -/
theorem final_mod : (dats m 0 c).arrAt 9 (cfgs 0).N
    = MODO (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp; rw [after0_9]
  have hm : t.val % 64 = 63 := (flush0_9 t).mp hf
  have ht : t.val < 64 := lt_of_lt_of_eq t.isLt N_0
  obtain ⟨C, rfl⟩ : ∃ C : Fin 12288, y = (ix2 0 C : S1x12288.Idx) := ⟨y 1, by
    funext b
    fin_cases b
    · exact Subsingleton.elim (α := Fin 1) _ _
    · rfl⟩
  have ey : ((cfg0.win 9).blk t).view.emb (ix2 0 C : S1x12288.Idx) = (ix2 0 C : S1x12288.Idx) := by blk_ext [idx_val t]
  refine Eq.trans ?_ (congrArg (MODO (CC m c) (WW m c) (BB m c)) ey.symm)
  refine (mo_D m c t (by omega) hm (by omega) _ (sums m c (t.val - 1) (lt_of_le_of_lt (Nat.sub_le _ _) t.isLt)) C).trans ?_
  have e64 : t.val + 1 = 64 := by omega
  rw [e64, sum_rows]
  rfl

end Cert.RetIdeal.Value
end
-- ==== Proof.Up.lean ====
/- Values of the swiglu up-projection: silu(h·w1)·(h·w3). -/
module

public import proofs.«01_k».proof.Proof.Gen.UpIdeal.Frame
public import proofs.«01_k».proof.Proof.Gen.UpIdeal.Value
public import proofs.«01_k».proof.Proof.Gen.UpRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.UpRefIdeal.Value

open Cert.UpRefIdeal Cert.UpRefIdeal.Gen

/-- The reference's result as a function of its arguments. -/
def REF (x0 : FVec Ideal Cert.UpRefIdeal.S8192x4096 .bf16) (x1 : FVec Ideal Cert.UpRefIdeal.S4096x11008 .f32) (x2 : FVec Ideal Cert.UpRefIdeal.S4096x11008 .f32) : FVec Ideal Cert.UpRefIdeal.S8192x11008 .bf16 :=
  truncf .bf16 (mulf (mulf (Host.dotGeneral dot_S8192x4096_S4096x11008_S8192x11008_1_0_0_1_n_n none (extf .f32 x0 bitsLt_bf16_f32) x1) (Host.divf (broadcastInDim S8192x11008 ![] bcast_S_S8192x11008 (constant S_ .f32 0x3F800000#32)) (addf (broadcastInDim S8192x11008 ![] bcast_S_S8192x11008 (constant S_ .f32 0x3F800000#32)) (Host.exp (Host.negf (Host.dotGeneral dot_S8192x4096_S4096x11008_S8192x11008_1_0_0_1_n_n none (extf .f32 x0 bitsLt_bf16_f32) x1)))))) (Host.dotGeneral dot_S8192x4096_S4096x11008_S8192x11008_1_0_0_1_n_n none (extf .f32 x0 bitsLt_bf16_f32) x2)) bitsLt_bf16_f32

end Cert.UpRefIdeal.Value

namespace Cert.UpIdeal.Value

open Cert.UpIdeal Cert.UpIdeal.Gen
open Cert.UpRefIdeal.Value (REF)

variable (m : (ℓ : Loc nD τ sig) → Buf (Elt Ideal) ℓ)

/-- Which block each window stages at grid point `t`. -/
theorem idx_val : ∀ t : Fin cfg0.N, win0_0.index t = ![t.val / 43, 0]
    ∧ win0_1.index t = ![0, t.val % 43]
    ∧ win0_2.index t = ![0, t.val % 43]
    ∧ win0_3.index t = ![t.val / 43, t.val % 43] :=
  (by decide +kernel : ∀ t : Fin grid0.N, _)

/-- What grid point `t` stores at place `y` of its block is the reference's value at the array index of that place. -/
theorem point (c : Dev nD) (t : Fin cfg0.N) (y) :
    k0_pay1 (iblk m c 0 t) (iblk m c 1 t) (iblk m c 2 t) y
      = REF (m ((c : Thread nD τ).loc main_arg0)) (m ((c : Thread nD τ).loc main_arg1)) (m ((c : Thread nD τ).loc
        main_arg2)) (((cfg0.win 3).blk t).view.emb y) := by
  pointwise [k0_pay1, REF, Ideal.logistic]
  blk_point [iblk, V, idx_val t]

/-- The result array after the run is the reference's result: the blocks tile the array. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.UpIdeal.Value
-- ==== Proof.Down.lean ====
/- Values of the feed-forward down-projection with its gated residual. -/
module

public import proofs.«01_k».proof.Proof.Gen.DownIdeal.Frame
public import proofs.«01_k».proof.Proof.Gen.DownIdeal.Value
public import proofs.«01_k».proof.Proof.Gen.DownRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownRefIdeal.Value

open Cert.DownRefIdeal Cert.DownRefIdeal.Gen

/-- The reference's result as a function of its arguments. -/
def REF (x0 : FVec Ideal Cert.DownRefIdeal.S8192x11008 .bf16) (x1 : FVec Ideal Cert.DownRefIdeal.S11008x4096 .bf16) (x2 : FVec Ideal Cert.DownRefIdeal.S8192x4096 .f32) (x3 : FVec Ideal Cert.DownRefIdeal.S1x4096 .f32) : FVec Ideal Cert.DownRefIdeal.S8192x4096 .f32 :=
  addf x2 (mulf (broadcastInDim S8192x4096 ![0, 1] bcast_S1x4096_S8192x4096_0_1 x3) (Host.dotGeneral dot_S8192x11008_S11008x4096_S8192x4096_1_0_0_1_n_n none (extf .f32 x0 bitsLt_bf16_f32) (extf .f32 x1 bitsLt_bf16_f32)))

end Cert.DownRefIdeal.Value

namespace Cert.DownIdeal.Value

open Cert.DownIdeal Cert.DownIdeal.Gen
open Cert.DownRefIdeal.Value (REF)

variable (m : (ℓ : Loc nD τ sig) → Buf (Elt Ideal) ℓ)

/-- Which block each window stages at grid point `t`. -/
theorem idx_val : ∀ t : Fin cfg0.N, win0_0.index t = ![t.val / 8, 0]
    ∧ win0_1.index t = ![0, t.val % 8]
    ∧ win0_2.index t = ![t.val / 8, t.val % 8]
    ∧ win0_3.index t = ![0, t.val % 8]
    ∧ win0_4.index t = ![t.val / 8, t.val % 8] :=
  (by decide +kernel : ∀ t : Fin grid0.N, _)

/-- What grid point `t` stores at place `y` of its block is the reference's value at the array index of that place. -/
theorem point (c : Dev nD) (t : Fin cfg0.N) (y) :
    k0_pay1 (iblk m c 3 t) (iblk m c 0 t) (iblk m c 1 t) (iblk m c 2 t) y
      = REF (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1, REF]
  blk_point [iblk, V, idx_val t]

/-- The result array after the run is the reference's result: the blocks tile the array. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.DownIdeal.Value
-- ==== Proof.Conv.lean ====
/- Values of the short-convolution projection: the gates, the causal width-three convolution along the rows and its product with the first gate. -/
module

public import proofs.«01_k».proof.Proof.Gen.ConvIdeal.Frame
public import proofs.«01_k».proof.Proof.Gen.ConvIdeal.Value
public import proofs.«01_k».proof.Proof.Gen.ConvRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvRefIdeal.Value

open Cert.ConvRefIdeal Cert.ConvRefIdeal.Gen

/-- The reference's result as a function of its arguments. -/
def REF (x0 : FVec Ideal Cert.ConvRefIdeal.S8192x4096 .bf16) (x1 : FVec Ideal Cert.ConvRefIdeal.S4096x12288 .f32) (x2 : FVec Ideal Cert.ConvRefIdeal.S3x1x4096 .f32) : FVec Ideal Cert.ConvRefIdeal.S8192x4096 .bf16 :=
  truncf .bf16 (mulf (extractStridedSlice S8192x4096 ![0, 0] (Host.dotGeneral dot_S8192x4096_S4096x12288_S8192x12288_1_0_0_1_n_n none (extf .f32 x0 bitsLt_bf16_f32) x1) slices_S8192x12288_S8192x4096_0_0) (addf (addf (addf (broadcastInDim S8192x4096 ![] bcast_S_S8192x4096 (constant S_ .f32 0x00000000#32)) (mulf (extractStridedSlice S8192x4096 ![0, 0] (pad S8194x4096 ![2, 0] ![0, 0] ![0, 0] (mulf (extractStridedSlice S8192x4096 ![0, 4096] (Host.dotGeneral dot_S8192x4096_S4096x12288_S8192x12288_1_0_0_1_n_n none (extf .f32 x0 bitsLt_bf16_f32) x1) slices_S8192x12288_S8192x4096_0_4096) (extractStridedSlice S8192x4096 ![0, 8192] (Host.dotGeneral dot_S8192x4096_S4096x12288_S8192x12288_1_0_0_1_n_n none (extf .f32 x0 bitsLt_bf16_f32) x1) slices_S8192x12288_S8192x4096_0_8192)) (sitofp .f32 (constantI S_ 32 0#32)) pads_S8192x4096_S8194x4096_200_000 h_S_) slices_S8194x4096_S8192x4096_0_0) (broadcastInDim S8192x4096 ![0, 1] bcast_S1x4096_S8192x4096_0_1 (shapeCast _ (extractStridedSlice S1x1x4096 ![0, 0, 0] x2 slices_S3x1x4096_S1x1x4096_0_0_0) shapeCasts_S1x1x4096_S1x4096)))) (mulf (extractStridedSlice S8192x4096 ![1, 0] (pad S8194x4096 ![2, 0] ![0, 0] ![0, 0] (mulf (extractStridedSlice S8192x4096 ![0, 4096] (Host.dotGeneral dot_S8192x4096_S4096x12288_S8192x12288_1_0_0_1_n_n none (extf .f32 x0 bitsLt_bf16_f32) x1) slices_S8192x12288_S8192x4096_0_4096) (extractStridedSlice S8192x4096 ![0, 8192] (Host.dotGeneral dot_S8192x4096_S4096x12288_S8192x12288_1_0_0_1_n_n none (extf .f32 x0 bitsLt_bf16_f32) x1) slices_S8192x12288_S8192x4096_0_8192)) (sitofp .f32 (constantI S_ 32 0#32)) pads_S8192x4096_S8194x4096_200_000 h_S_) slices_S8194x4096_S8192x4096_1_0) (broadcastInDim S8192x4096 ![0, 1] bcast_S1x4096_S8192x4096_0_1 (shapeCast _ (extractStridedSlice S1x1x4096 ![1, 0, 0] x2 slices_S3x1x4096_S1x1x4096_1_0_0) shapeCasts_S1x1x4096_S1x4096)))) (mulf (extractStridedSlice S8192x4096 ![2, 0] (pad S8194x4096 ![2, 0] ![0, 0] ![0, 0] (mulf (extractStridedSlice S8192x4096 ![0, 4096] (Host.dotGeneral dot_S8192x4096_S4096x12288_S8192x12288_1_0_0_1_n_n none (extf .f32 x0 bitsLt_bf16_f32) x1) slices_S8192x12288_S8192x4096_0_4096) (extractStridedSlice S8192x4096 ![0, 8192] (Host.dotGeneral dot_S8192x4096_S4096x12288_S8192x12288_1_0_0_1_n_n none (extf .f32 x0 bitsLt_bf16_f32) x1) slices_S8192x12288_S8192x4096_0_8192)) (sitofp .f32 (constantI S_ 32 0#32)) pads_S8192x4096_S8194x4096_200_000 h_S_) slices_S8194x4096_S8192x4096_2_0) (broadcastInDim S8192x4096 ![0, 1] bcast_S1x4096_S8192x4096_0_1 (shapeCast _ (extractStridedSlice S1x1x4096 ![2, 0, 0] x2 slices_S3x1x4096_S1x1x4096_2_0_0) shapeCasts_S1x1x4096_S1x4096))))) bitsLt_bf16_f32

end Cert.ConvRefIdeal.Value

namespace Cert.ConvIdeal.Value

open Cert.ConvIdeal Cert.ConvIdeal.Gen
open Cert.ConvRefIdeal.Value (REF)

variable (m : (ℓ : Loc nD τ sig) → Buf (Elt Ideal) ℓ)

/-- The gated product the convolution runs over, at row `r` and column `j`, from the normalised rows and the weights. -/
def Z (X : FVec Ideal Cert.ConvRefIdeal.S8192x4096 .bf16) (W : FVec Ideal Cert.ConvRefIdeal.S4096x12288 .f32) (r : Fin 8192) (j : Fin 4096) : EReal :=
  (∑ x : Fin 4096, X (ix2 r x) * W (ix2 x ⟨4096 + (j : ℕ), by omega⟩)) * ∑ x : Fin 4096, X (ix2 r x) * W (ix2 x ⟨8192 + (j : ℕ), by omega⟩)

/-- The mask of the halo rows: false exactly on the first sixteen rows of the first block. -/
theorem mask_at (p r : ℕ) (hp : p < 8) (hr : r < 1040) :
    IntOp.ori (Scalar.cmpi CmpIPredicate.sgt (BitVec.ofNat 32 p) 0#32) (IntOp.cmpi CmpIPredicate.sge (BitVec.ofNat 32 r) 16#32)
      = if 0 < p ∨ 16 ≤ r then 1#1 else 0#1 := by
  have h1 : Scalar.cmpi CmpIPredicate.sgt (BitVec.ofNat 32 p) 0#32 = if 0 < p then 1#1 else 0#1 := by
    have := (by decide : ∀ q : Fin 8, Scalar.cmpi CmpIPredicate.sgt (BitVec.ofNat 32 (q : ℕ)) 0#32 = if 0 < (q : ℕ) then 1#1 else 0#1)
    exact this ⟨p, hp⟩
  have h2 : IntOp.cmpi CmpIPredicate.sge (BitVec.ofNat 32 r) 16#32 = if 16 ≤ r then 1#1 else 0#1 := by
    have := (by decide +kernel : ∀ q : Fin 1040, IntOp.cmpi CmpIPredicate.sge (BitVec.ofNat 32 (q : ℕ)) 16#32 = if 16 ≤ (q : ℕ) then 1#1 else 0#1)
    exact this ⟨r, hr⟩
  rw [h1, h2]
  by_cases a : 0 < p <;> by_cases b : 16 ≤ r <;> simp only [a, b] <;> decide

/-- The gated product at row `r` of the staged rows. -/
theorem gate_at (i : grid0.Coords) (v3 : FVec Ideal S1040x4096 .bf16) (v8 v11 : FVec Ideal S4096x256 .f32) (r : Fin 1040) (j : Fin 256) :
    k0_pay5 (F := Ideal) i v3 v8 v11 (ix2 r j) = if 0 < (i 0 : ℕ) ∨ 16 ≤ (r : ℕ) then
      (∑ x, v3 (ix2 r x) * v8 (ix2 x j)) * ∑ x, v3 (ix2 r x) * v11 (ix2 x j) else 0 := by
  pointwise [k0_pay5]
  rw [mask_at (i 0 : ℕ) r (i 0).isLt r.isLt]
  split_ifs <;> rfl

/-- What the body stores, at row `r` and column `j` of its block, over the gated product. -/
theorem raw_at (i : grid0.Coords) (v3 : FVec Ideal S1040x4096 .bf16) (v4 : FVec Ideal S1024x4096 .bf16) (v5 v8 v11 : FVec Ideal S4096x256 .f32)
    (v25 : FVec Ideal S3x256 .f32) (r : Fin 1024) (j : Fin 256) :
    k0_pay1 (F := Ideal) (k0_pay4 (F := Ideal) v4 v5) (k0_pay6 (F := Ideal) i v3 v8 v11) (k0_pay7 (F := Ideal) v25) (k0_pay8 (F := Ideal) i v3 v8 v11 v25) (k0_pay9 (F := Ideal) i v3 v8 v11 v25) (ix2 r j) =
      (∑ x, v4 (ix2 r x) * v5 (ix2 x j)) *
        (v25 (ix2 2 j) * k0_pay5 (F := Ideal) i v3 v8 v11 (ix2 ⟨16 + (r : ℕ), by omega⟩ j)
          + v25 (ix2 1 j) * k0_pay5 (F := Ideal) i v3 v8 v11 (ix2 ⟨15 + (r : ℕ), by omega⟩ j)
          + v25 (ix2 0 j) * k0_pay5 (F := Ideal) i v3 v8 v11 (ix2 ⟨14 + (r : ℕ), by omega⟩ j)) := by
  pointwise [k0_pay1, k0_pay4, k0_pay6, k0_pay7, k0_pay8, k0_pay9]
  have e1 : (⟨(16 + (r : ℕ) + 1040 - 1) % 1040, Nat.mod_lt _ (by decide)⟩ : Fin 1040) = ⟨15 + (r : ℕ), by omega⟩ := Fin.ext (by simp only; omega)
  have e2 : (⟨(16 + (r : ℕ) + 1040 - 2) % 1040, Nat.mod_lt _ (by decide)⟩ : Fin 1040) = ⟨14 + (r : ℕ), by omega⟩ := Fin.ext (by simp only; omega)
  rw [e1, e2]

/-- The integer zero the rows before the first are padded with, as an extended real. -/
theorem sitofp_zero : FloatOps.sitofp (F := Ideal) FTy.f32 0#32 = (0 : EReal) := by
  show (((0#32 : BitVec 32).toInt : ℝ) : EReal) = 0
  simp

/-- The reference at row `r` and column `j`. -/
theorem ref_at (X : FVec Ideal Cert.ConvRefIdeal.S8192x4096 .bf16) (W : FVec Ideal Cert.ConvRefIdeal.S4096x12288 .f32) (C : FVec Ideal Cert.ConvRefIdeal.S3x1x4096 .f32)
    (r : Fin 8192) (j : Fin 4096) : REF X W C (ix2 r j) =
     (∑ x : Fin 4096, X (ix2 r x) * W (ix2 x ⟨(j : ℕ), by omega⟩)) *
      ((if h : 2 ≤ (r : ℕ) then Z X W ⟨(r : ℕ) - 2, by omega⟩ j else 0) * C (ix3 0 0 j)
        + (if h : 1 ≤ (r : ℕ) then Z X W ⟨(r : ℕ) - 1, by omega⟩ j else 0) * C (ix3 1 0 j) + Z X W r j * C (ix3 2 0 j)) := by
  pointwise [REF]
  rw [sitofp_zero]
  congr 1; congr 1; congr 1
  · congr 1
    by_cases h : 2 ≤ (r : ℕ)
    · rw [dif_pos h, dif_pos ⟨h, by omega⟩]; rfl
    · rw [dif_neg h, dif_neg (fun q => h q.1)]
  · congr 1
    by_cases h : 1 ≤ (r : ℕ)
    · rw [dif_pos h, dif_pos ⟨by omega, by omega⟩]
      have e : (⟨1 + (r : ℕ) - 2, by omega⟩ : Fin 8192) = ⟨(r : ℕ) - 1, by omega⟩ := Fin.ext (by simp only; omega)
      rw [e]; rfl
    · rw [dif_neg h, dif_neg (fun q => h (by omega))]

/-- What the body stores is the reference's value, when the staged rows are the array's rows shifted by the sixteen rows before the block. -/
theorem body_at (i : grid0.Coords) (X : FVec Ideal Cert.ConvRefIdeal.S8192x4096 .bf16) (W : FVec Ideal Cert.ConvRefIdeal.S4096x12288 .f32) (C : FVec Ideal Cert.ConvRefIdeal.S3x1x4096 .f32)
    (v3 : FVec Ideal S1040x4096 .bf16) (v4 : FVec Ideal S1024x4096 .bf16) (v5 v8 v11 : FVec Ideal S4096x256 .f32) (v25 : FVec Ideal S3x256 .f32)
    (r : Fin 1024) (j : Fin 256) (R : Fin 8192) (J : Fin 4096) (hR : (R : ℕ) = (i 0 : ℕ) * 1024 + r)
    (h3 : ∀ (a : Fin 1040) (A : Fin 8192) (k : Fin 4096), (A : ℕ) + 16 = (i 0 : ℕ) * 1024 + a → v3 (ix2 a k) = X (ix2 A k))
    (h4 : ∀ k : Fin 4096, v4 (ix2 r k) = X (ix2 R k))
    (h5 : ∀ k : Fin 4096, v5 (ix2 k j) = W (ix2 k ⟨(J : ℕ), by omega⟩))
    (h8 : ∀ k : Fin 4096, v8 (ix2 k j) = W (ix2 k ⟨4096 + (J : ℕ), by omega⟩))
    (h11 : ∀ k : Fin 4096, v11 (ix2 k j) = W (ix2 k ⟨8192 + (J : ℕ), by omega⟩))
    (h25 : ∀ a : Fin 3, v25 (ix2 a j) = C (ix3 a 0 J)) :
    k0_pay1 (F := Ideal) (k0_pay4 (F := Ideal) v4 v5) (k0_pay6 (F := Ideal) i v3 v8 v11) (k0_pay7 (F := Ideal) v25) (k0_pay8 (F := Ideal) i v3 v8 v11 v25) (k0_pay9 (F := Ideal) i v3 v8 v11 v25) (ix2 r j)
      = REF X W C (ix2 R J) := by
  have hz : ∀ (a : Fin 1040) (A : Fin 8192), (A : ℕ) + 16 = (i 0 : ℕ) * 1024 + a → k0_pay5 (F := Ideal) i v3 v8 v11 (ix2 a j) = Z X W A J := by
    intro a A h
    rw [gate_at, if_pos (by omega)]
    simp only [h3 a A _ h, h8, h11]; rfl
  have hn : ∀ a : Fin 1040, (i 0 : ℕ) * 1024 + a < 16 → k0_pay5 (F := Ideal) i v3 v8 v11 (ix2 a j) = 0 := by
    intro a h
    rw [gate_at, if_neg (by omega)]
  have hp : (i 0 : ℕ) < 8 := (i 0).isLt
  rw [raw_at, ref_at]
  have e2 : k0_pay5 (F := Ideal) i v3 v8 v11 (ix2 ⟨16 + (r : ℕ), by omega⟩ j) = Z X W R J := hz _ _ (by simp only; omega)
  have e1 : k0_pay5 (F := Ideal) i v3 v8 v11 (ix2 ⟨15 + (r : ℕ), by omega⟩ j) = if h : 1 ≤ (R : ℕ) then Z X W ⟨(R : ℕ) - 1, by omega⟩ J else 0 := by
    by_cases h : 1 ≤ (R : ℕ)
    · rw [dif_pos h]; exact hz _ _ (by simp only; omega)
    · rw [dif_neg h]; exact hn _ (by simp only; omega)
  have e0 : k0_pay5 (F := Ideal) i v3 v8 v11 (ix2 ⟨14 + (r : ℕ), by omega⟩ j) = if h : 2 ≤ (R : ℕ) then Z X W ⟨(R : ℕ) - 2, by omega⟩ J else 0 := by
    by_cases h : 2 ≤ (R : ℕ)
    · rw [dif_pos h]; exact hz _ _ (by simp only; omega)
    · rw [dif_neg h]; exact hn _ (by simp only; omega)
  rw [e0, e1, e2]
  simp only [h4, h5, h25]
  congr 1
  rw [mul_comm (C (ix3 2 0 J)), mul_comm (C (ix3 1 0 J)), mul_comm (C (ix3 0 0 J)), add_comm (_ + _) (_ * C (ix3 0 0 J)), ← add_assoc,
    add_right_comm]

/-- Which block each window stages at grid point `t`. -/
theorem idx_val : ∀ t : Fin cfg0.N, win0_0.index t = ![t.val / 16, 0]
    ∧ win0_1.index t = ![t.val / 16 * 64 - 1, 0]
    ∧ win0_2.index t = ![0, t.val % 16]
    ∧ win0_3.index t = ![0, 16 + (t.val % 16)]
    ∧ win0_4.index t = ![0, 32 + (t.val % 16)]
    ∧ win0_5.index t = ![0, t.val % 16]
    ∧ win0_6.index t = ![t.val / 16, t.val % 16] :=
  (by decide +kernel : ∀ t : Fin grid0.N, _)

variable (c : Dev nD)

/-- A load of a whole buffer reads what the stores before it left. -/
theorem readCov_whole {sig : RefSig} {κ : Kind} {sp : Space} {S : Shape} {e : EltTy} (v : View sig κ sp S e) (L : List (View.Piece (Elt Ideal) S e))
    {off : Fin S.rank → Nat} (inb : ∀ a, off a + S.size a ≤ S.size a) (h : ∀ a, off a = 0) :
    v.readCov L (Rect.unit off (no_index S.size) inb).toLoadRect = View.canon L :=
  (View.readCov_eq_canon' v L _).trans (View.ld_unit_lit inb (View.canon L) h)

/-- The two stores that stage the rows of a block: sixteen rows before it, then the block. -/
theorem stage_at (t : Fin cfg0.N) (a : Fin 1040) (A : Fin 8192) (k : Fin 4096) (h : (A : ℕ) + 16 = t.val / 16 * 1024 + a) :
    View.canon (Val := Elt Ideal)
      [⟨Rect.unit ![16, 0] ![1024, 4096] inb_S1040x4096_S1024x4096_16_0, k0_pay3 (F := Ideal) (iblk m c 0 t)⟩,
        ⟨Rect.unit ![0, 0] ![16, 4096] inb_S1040x4096_S16x4096_0_0, k0_pay2 (F := Ideal) (iblk m c 1 t)⟩]
      (ix2 a k : S1040x4096.Idx) = m ((c : Thread nD τ).loc main_arg0) (ix2 A k) := by
  have hcover : ∀ z : S1040x4096.Idx, ∃ p ∈ ([⟨Rect.unit ![16, 0] ![1024, 4096] inb_S1040x4096_S1024x4096_16_0, k0_pay3 (F := Ideal) (iblk m c 0 t)⟩,
        ⟨Rect.unit ![0, 0] ![16, 4096] inb_S1040x4096_S16x4096_0_0, k0_pay2 (F := Ideal) (iblk m c 1 t)⟩] : List (View.Piece (Elt Ideal) S1040x4096 .bf16)), z ∈ p.1.set := by
    intro z
    by_cases hz : (z 0 : ℕ) < 16
    · refine ⟨_, List.mem_cons_of_mem _ (List.mem_singleton_self _), (Rect.mem_set_unit (inb := inb_S1040x4096_S16x4096_0_0)).mpr fun b => ?_⟩
      fin_cases b
      · exact ⟨Nat.zero_le _, by simpa using hz⟩
      · exact ⟨Nat.zero_le _, by simpa using (z 1).isLt⟩
    · refine ⟨_, List.mem_cons_self .., (Rect.mem_set_unit (inb := inb_S1040x4096_S1024x4096_16_0)).mpr fun b => ?_⟩
      fin_cases b
      · exact ⟨by simpa using hz, by simpa using (z 0).isLt⟩
      · exact ⟨Nat.zero_le _, by simpa using (z 1).isLt⟩
  canon_tiles x h using hcover _
  · replace h0 : (a : ℕ) = 16 + (x 0 : ℕ) := h0
    replace h1 : (k : ℕ) = (x 1 : ℕ) := h1
    pointwise [k0_pay3]
    blk_point [iblk, V, idx_val t]
  · replace h0 : (a : ℕ) = (x 0 : ℕ) := h0
    replace h1 : (k : ℕ) = (x 1 : ℕ) := h1
    pointwise [k0_pay2]
    blk_point [iblk, V, idx_val t]

/-- What a point of a row block finds staged: the rows staged at the block's first point. -/
theorem staged (n : ℕ) : ∀ (hn : n < cfg0.N) (a : Fin 1040) (A : Fin 8192) (k : Fin 4096) (h : (A : ℕ) + 16 = n / 16 * 1024 + a),
    (outsAt0 m c n hn).2 (ix2 a k) = m ((c : Thread nD τ).loc main_arg0) (ix2 A k) := by
  induction n with
  | zero =>
    intro hn a A k h
    rw [outsAt0_A m c ⟨0, hn⟩ (by rfl)]; dsimp only
    frame_out
    exact stage_at m c ⟨0, hn⟩ a A k h
  | succ n ih =>
    intro hn a A k h
    by_cases h0 : (n + 1) % 16 = 0
    · rw [outsAt0_A m c ⟨n + 1, hn⟩ h0]; dsimp only
      frame_out
      exact stage_at m c ⟨n + 1, hn⟩ a A k h
    · rw [outsAt0_B m c ⟨n + 1, hn⟩ h0]; dsimp only
      exact ih _ a A k (by omega)

/-- What grid point `t` leaves at place `y` of its block is the reference's value at the array index of that place. -/
theorem point (t : Fin cfg0.N) (y : S1024x256.Idx) :
    (outsAt0 m c t.val t.isLt).1 y
      = REF (m ((c : Thread nD τ).loc main_arg0)) (m ((c : Thread nD τ).loc main_arg1)) (m ((c : Thread nD τ).loc main_arg2)) (((cfg0.win 6).blk t).view.emb y) := by
  have ht : t.val < 128 := lt_of_lt_of_eq t.isLt N_0
  have e0 : (grid0.coords t 0).val = t.val / 16 := by
    have := (by decide +kernel : ∀ t : Fin grid0.N, (grid0.coords t 0).val = t.val / 16)
    exact this t
  have hb : ∀ (v3 : FVec Ideal S1040x4096 .bf16)
      (h3 : ∀ (a : Fin 1040) (A : Fin 8192) (k : Fin 4096), (A : ℕ) + 16 = t.val / 16 * 1024 + a → v3 (ix2 a k) = m ((c : Thread nD τ).loc main_arg0) (ix2 A k)),
      k0_pay1 (F := Ideal) (k0_pay4 (F := Ideal) (iblk m c 0 t) (iblk m c 2 t)) (k0_pay6 (F := Ideal) (grid0.coords t) v3 (iblk m c 3 t) (iblk m c 4 t))
        (k0_pay7 (F := Ideal) (iblk m c 5 t)) (k0_pay8 (F := Ideal) (grid0.coords t) v3 (iblk m c 3 t) (iblk m c 4 t) (iblk m c 5 t))
        (k0_pay9 (F := Ideal) (grid0.coords t) v3 (iblk m c 3 t) (iblk m c 4 t) (iblk m c 5 t)) y
      = REF (m ((c : Thread nD τ).loc main_arg0)) (m ((c : Thread nD τ).loc main_arg1)) (m ((c : Thread nD τ).loc main_arg2)) (((cfg0.win 6).blk t).view.emb y) := by
    intro v3 h3
    idx_vars y
    have ey : ((cfg0.win 6).blk t).view.emb (ix2 y0 y1 : S1024x256.Idx)
        = (ix2 (⟨t.val / 16 * 1024 + (y0 : ℕ), by omega⟩ : Fin 8192) (⟨t.val % 16 * 256 + (y1 : ℕ), by omega⟩ : Fin 4096)) := by
      blk_ext [idx_val t]
    rw [ey]
    refine body_at (grid0.coords t) _ _ _ v3 _ _ _ _ _ y0 y1 _ _ (by rw [e0]) (by rw [e0]; exact h3) ?_ ?_ ?_ ?_ ?_
    · intro k; blk_point [iblk, V, idx_val t]
    · intro k; blk_point [iblk, V, idx_val t]
    · intro k; blk_point [iblk, V, idx_val t]
    · intro k; blk_point [iblk, V, idx_val t]
    · intro a; blk_point [iblk, V, idx_val t]
  by_cases h0 : t.val % 16 = 0
  · rw [outsAt0_A m c t h0]; dsimp only
    frame_out
    rw [readCov_whole _ _ _ (by decide)]
    exact hb _ (stage_at m c t)
  · rw [outsAt0_B m c t h0]; dsimp only
    frame_out
    rw [read_unread_whole]
    exact hb _ (fun a A k h => staged m c (t.val - 1) _ a A k (by omega))

/-- The result array after the run is the reference's result: the blocks tile the array. -/
theorem final (c : Dev nD) : (dats m 0 c).arrAt 6 (cfgs 0).N = REF (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp; rw [after0_6]
  exact point m c t y

end Cert.ConvIdeal.Value
-- ==== Proof.InRet.lean ====
/- Values of the retention columns of the first mixer's input projection. -/
module

public import proofs.«01_k».proof.Proof.Gen.InRetIdeal.Frame
public import proofs.«01_k».proof.Proof.Gen.InRetIdeal.Value
public import proofs.«01_k».proof.Proof.Gen.InRetRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InRetRefIdeal.Value

open Cert.InRetRefIdeal Cert.InRetRefIdeal.Gen

/-- The reference's result as a function of its arguments. -/
def REF (x0 : FVec Ideal Cert.InRetRefIdeal.S8192x4096 .bf16) (x1 : FVec Ideal Cert.InRetRefIdeal.S4096x14336 .f32) : FVec Ideal Cert.InRetRefIdeal.S8192x8192 .bf16 :=
  truncf .bf16 (extractStridedSlice S8192x8192 ![0, 0] (Host.dotGeneral dot_S8192x4096_S4096x14336_S8192x14336_1_0_0_1_n_n none (extf .f32 x0 bitsLt_bf16_f32) x1) slices_S8192x14336_S8192x8192_0_0) bitsLt_bf16_f32

end Cert.InRetRefIdeal.Value

namespace Cert.InRetIdeal.Value

open Cert.InRetIdeal Cert.InRetIdeal.Gen
open Cert.InRetRefIdeal.Value (REF)

variable (m : (ℓ : Loc nD τ sig) → Buf (Elt Ideal) ℓ)

/-- Which block each window stages at grid point `t`. -/
theorem idx_val : ∀ t : Fin cfg0.N, win0_0.index t = ![t.val / 16, 0]
    ∧ win0_1.index t = ![0, t.val % 16]
    ∧ win0_2.index t = ![t.val / 16, t.val % 16] :=
  (by decide +kernel : ∀ t : Fin grid0.N, _)

/-- What grid point `t` stores at place `y` of its block is the reference's value at the array index of that place. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb
        y) := by
  pointwise [k0_pay1, REF]
  blk_point [iblk, V, idx_val t]

/-- The result array after the run is the reference's result: the blocks tile the array. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.InRetIdeal.Value
-- ==== Proof.InQ.lean ====
/- Values of the query columns of the first mixer's input projection. -/
module

public import proofs.«01_k».proof.Proof.Gen.InQIdeal.Frame
public import proofs.«01_k».proof.Proof.Gen.InQIdeal.Value
public import proofs.«01_k».proof.Proof.Gen.InQRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InQRefIdeal.Value

open Cert.InQRefIdeal Cert.InQRefIdeal.Gen

/-- The reference's result as a function of its arguments. -/
def REF (x0 : FVec Ideal Cert.InQRefIdeal.S8192x4096 .bf16) (x1 : FVec Ideal Cert.InQRefIdeal.S4096x14336 .f32) : FVec Ideal Cert.InQRefIdeal.S8192x2048 .f32 :=
  extractStridedSlice S8192x2048 ![0, 8192] (Host.dotGeneral dot_S8192x4096_S4096x14336_S8192x14336_1_0_0_1_n_n none (extf .f32 x0 bitsLt_bf16_f32) x1) slices_S8192x14336_S8192x2048_0_8192

end Cert.InQRefIdeal.Value

namespace Cert.InQIdeal.Value

open Cert.InQIdeal Cert.InQIdeal.Gen
open Cert.InQRefIdeal.Value (REF)

variable (m : (ℓ : Loc nD τ sig) → Buf (Elt Ideal) ℓ)

/-- Which block each window stages at grid point `t`. -/
theorem idx_val : ∀ t : Fin cfg0.N, win0_0.index t = ![t.val / 4, 0]
    ∧ win0_1.index t = ![0, 16 + (t.val % 4)]
    ∧ win0_2.index t = ![t.val / 4, t.val % 4] :=
  (by decide +kernel : ∀ t : Fin grid0.N, _)

/-- What grid point `t` stores at place `y` of its block is the reference's value at the array index of that place. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb
        y) := by
  pointwise [k0_pay1, REF]
  blk_point [iblk, V, idx_val t]

/-- The result array after the run is the reference's result: the blocks tile the array. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.InQIdeal.Value
-- ==== Proof.InKv.lean ====
/- Values of the key and value columns of the first mixer's input projection. -/
module

public import proofs.«01_k».proof.Proof.Gen.InKvIdeal.Frame
public import proofs.«01_k».proof.Proof.Gen.InKvIdeal.Value
public import proofs.«01_k».proof.Proof.Gen.InKvRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InKvRefIdeal.Value

open Cert.InKvRefIdeal Cert.InKvRefIdeal.Gen

/-- The reference's result as a function of its arguments. -/
def REF (x0 : FVec Ideal Cert.InKvRefIdeal.S8192x4096 .bf16) (x1 : FVec Ideal Cert.InKvRefIdeal.S4096x14336 .f32) : FVec Ideal Cert.InKvRefIdeal.S8192x4096 .bf16 :=
  truncf .bf16 (extractStridedSlice S8192x4096 ![0, 10240] (Host.dotGeneral dot_S8192x4096_S4096x14336_S8192x14336_1_0_0_1_n_n none (extf .f32 x0 bitsLt_bf16_f32) x1) slices_S8192x14336_S8192x4096_0_10240) bitsLt_bf16_f32

end Cert.InKvRefIdeal.Value

namespace Cert.InKvIdeal.Value

open Cert.InKvIdeal Cert.InKvIdeal.Gen
open Cert.InKvRefIdeal.Value (REF)

variable (m : (ℓ : Loc nD τ sig) → Buf (Elt Ideal) ℓ)

/-- Which block each window stages at grid point `t`. -/
theorem idx_val : ∀ t : Fin cfg0.N, win0_0.index t = ![t.val / 8, 0]
    ∧ win0_1.index t = ![0, 20 + (t.val % 8)]
    ∧ win0_2.index t = ![t.val / 8, t.val % 8] :=
  (by decide +kernel : ∀ t : Fin grid0.N, _)

/-- What grid point `t` stores at place `y` of its block is the reference's value at the array index of that place. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb
        y) := by
  pointwise [k0_pay1, REF]
  blk_point [iblk, V, idx_val t]

/-- The result array after the run is the reference's result: the blocks tile the array. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.InKvIdeal.Value
-- ==== Proof.Out0.lean ====
/- Values of the first mixer's output projection with its gated residual. -/
module

public import proofs.«01_k».proof.Proof.Gen.Out0Ideal.Frame
public import proofs.«01_k».proof.Proof.Gen.Out0Ideal.Value
public import proofs.«01_k».proof.Proof.Gen.Out0RefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Out0RefIdeal.Value

open Cert.Out0RefIdeal Cert.Out0RefIdeal.Gen

/-- The reference's result as a function of its arguments. -/
def REF (x0 : FVec Ideal Cert.Out0RefIdeal.S8192x2048 .bf16) (x1 : FVec Ideal Cert.Out0RefIdeal.S8192x2048 .bf16) (x2 : FVec Ideal Cert.Out0RefIdeal.S4096x4096 .f32) (x3 : FVec Ideal Cert.Out0RefIdeal.S8192x4096 .f32) (x4 : FVec Ideal Cert.Out0RefIdeal.S1x4096 .f32) : FVec Ideal Cert.Out0RefIdeal.S8192x4096 .f32 :=
  addf x3 (mulf (broadcastInDim S8192x4096 ![0, 1] bcast_S1x4096_S8192x4096_0_1 x4) (Host.dotGeneral dot_S8192x4096_S4096x4096_S8192x4096_1_0_0_1_n_n none (concatenate S8192x4096 1 [⟨S8192x2048, (extf .f32 x0 bitsLt_bf16_f32)⟩, ⟨S8192x2048, (extf .f32 x1 bitsLt_bf16_f32)⟩] concatenates_S8192x2048_S8192x2048_S8192x4096_d1) x2))

end Cert.Out0RefIdeal.Value

namespace Cert.Out0Ideal.Value

open Cert.Out0Ideal Cert.Out0Ideal.Gen
open Cert.Out0RefIdeal.Value (REF)

variable (m : (ℓ : Loc nD τ sig) → Buf (Elt Ideal) ℓ)

/-- Which block each window stages at grid point `t`. -/
theorem idx_val : ∀ t : Fin cfg0.N, win0_0.index t = ![t.val / 8, 0]
    ∧ win0_1.index t = ![t.val / 8, 0]
    ∧ win0_2.index t = ![0, t.val % 8]
    ∧ win0_3.index t = ![t.val / 8, t.val % 8]
    ∧ win0_4.index t = ![0, t.val % 8]
    ∧ win0_5.index t = ![t.val / 8, t.val % 8] :=
  (by decide +kernel : ∀ t : Fin grid0.N, _)

/-- What grid point `t` stores at place `y` of its block is the reference's value at the array index of that place. -/
theorem point (c : Dev nD) (t : Fin cfg0.N) (y) :
    k0_pay1 (iblk m c 0 t) (View.ld (iblk m c 2 t) r0_1) (iblk m c 1 t) (View.ld (iblk m c 2 t) r0_2) (iblk m c 3 t)
      (iblk m c 4 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 5).blk
        t).view.emb y) := by
  pointwise [k0_pay1, REF]
  blk_point [iblk, V, idx_val t]

/-- The result array after the run is the reference's result: the blocks tile the array. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.Out0Ideal.Value
-- ==== Proof.Out1.lean ====
/- Values of the second mixer's output projection with its gated residual. -/
module

public import proofs.«01_k».proof.Proof.Gen.Out1Ideal.Frame
public import proofs.«01_k».proof.Proof.Gen.Out1Ideal.Value
public import proofs.«01_k».proof.Proof.Gen.Out1RefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Out1RefIdeal.Value

open Cert.Out1RefIdeal Cert.Out1RefIdeal.Gen

/-- The reference's result as a function of its arguments. -/
def REF (x0 : FVec Ideal Cert.Out1RefIdeal.S8192x4096 .bf16) (x1 : FVec Ideal Cert.Out1RefIdeal.S4096x4096 .f32) (x2 : FVec Ideal Cert.Out1RefIdeal.S8192x4096 .f32) (x3 : FVec Ideal Cert.Out1RefIdeal.S1x4096 .f32) : FVec Ideal Cert.Out1RefIdeal.S8192x4096 .f32 :=
  addf x2 (mulf (broadcastInDim S8192x4096 ![0, 1] bcast_S1x4096_S8192x4096_0_1 x3) (Host.dotGeneral dot_S8192x4096_S4096x4096_S8192x4096_1_0_0_1_n_n none (extf .f32 x0 bitsLt_bf16_f32) x1))

end Cert.Out1RefIdeal.Value

namespace Cert.Out1Ideal.Value

open Cert.Out1Ideal Cert.Out1Ideal.Gen
open Cert.Out1RefIdeal.Value (REF)

variable (m : (ℓ : Loc nD τ sig) → Buf (Elt Ideal) ℓ)

/-- Which block each window stages at grid point `t`. -/
theorem idx_val : ∀ t : Fin cfg0.N, win0_0.index t = ![t.val / 8, 0]
    ∧ win0_1.index t = ![0, t.val % 8]
    ∧ win0_2.index t = ![t.val / 8, t.val % 8]
    ∧ win0_3.index t = ![0, t.val % 8]
    ∧ win0_4.index t = ![t.val / 8, t.val % 8] :=
  (by decide +kernel : ∀ t : Fin grid0.N, _)

/-- What grid point `t` stores at place `y` of its block is the reference's value at the array index of that place. -/
theorem point (c : Dev nD) (t : Fin cfg0.N) (y) :
    k0_pay1 (iblk m c 3 t) (iblk m c 0 t) (iblk m c 1 t) (iblk m c 2 t) y
      = REF (m ((c : Thread nD τ).loc main_arg0)) (m ((c : Thread nD τ).loc main_arg1)) (m ((c : Thread nD τ).loc
        main_arg2)) (m ((c : Thread nD τ).loc main_arg3)) (((cfg0.win 4).blk t).view.emb y) := by
  pointwise [k0_pay1, REF]
  blk_point [iblk, V, idx_val t]

/-- The result array after the run is the reference's result: the blocks tile the array. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point m c t y

end Cert.Out1Ideal.Value
-- ==== Proof.Norm.lean ====
/- Values of the normalisation with scale and shift, computed by the kernel sixteen rows at a time. -/
module

public import proofs.«01_k».proof.Proof.Gen.NormIdeal.Frame
public import proofs.«01_k».proof.Proof.Gen.NormIdeal.Value
public import proofs.«01_k».proof.Proof.Gen.NormRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.NormRefIdeal.Value

open Cert.NormRefIdeal Cert.NormRefIdeal.Gen

/-- The reference's result as a function of its arguments. -/
def REF (x0 : FVec Ideal Cert.NormRefIdeal.S8192x4096 .f32) (x1 : FVec Ideal Cert.NormRefIdeal.S4096 .f32) (x2 x3 : FVec Ideal Cert.NormRefIdeal.S1x4096 .f32) : FVec Ideal Cert.NormRefIdeal.S8192x4096 .bf16 :=
  truncf .bf16 (addf (mulf (mulf (mulf x0 (broadcastInDim S8192x4096 ![0, 1] bcast_S8192x1_S8192x4096_0_1 (Host.rsqrt (addf (Host.divf (broadcastInDim S8192x1 ![0] bcast_S8192_S8192x1_0 (Host.reduceAdd (mulf x0 x0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 x1))) (broadcastInDim S8192x4096 ![0, 1] bcast_S1x4096_S8192x4096_0_1 (addf (broadcastInDim S1x4096 ![] bcast_S_S1x4096 (constant S_ .f32 0x3F800000#32)) x2))) (broadcastInDim S8192x4096 ![0, 1] bcast_S1x4096_S8192x4096_0_1 x3)) bitsLt_bf16_f32

end Cert.NormRefIdeal.Value

namespace Cert.NormIdeal.Value

open Cert.NormIdeal Cert.NormIdeal.Gen
open Cert.NormRefIdeal.Value (REF)

variable (m : (ℓ : Loc nD τ sig) → Buf (Elt Ideal) ℓ)

/-- Which block each window stages at grid point `t`. -/
theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

/-- The sixteen rows that trip `k` of the loop reads and writes. -/
abbrev band (k : Fin k0_t1_loop.trips) : Rect S256x4096 := Rect.unit (s := S256x4096) (k0_off1 k) S16x4096.size (k0_off1_inb k)

/-- What trip `k` stores at place `y` of its sixteen rows is the reference's value at the array index of that place. -/
theorem point (c : Dev nD) (t : Fin cfg0.N) (k : Fin k0_t1_loop.trips) (y : S16x4096.Idx) :
    k0_pay1 (iblk m c 1 t) (iblk m c 2 t) (iblk m c 3 t) (View.ld (iblk m c 0 t) (band k)) y
      = REF (m ((c : Thread nD τ).loc main_arg0)) (m ((c : Thread nD τ).loc main_arg1)) (m ((c : Thread nD τ).loc main_arg2)) (m ((c : Thread nD τ).loc main_arg3)) (((cfg0.win 4).blk t).view.emb ((band k).emb y)) := by
  pointwise [k0_pay1, REF]
  rw [← mul_assoc]
  blk_point [iblk, V, idx_val t, band, k0_off1_eq]

/-- One trip stores one piece: its sixteen rows, computed from the sixteen rows it reads. -/
theorem trip_eq (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S256x4096 .bf16) (harg5 : arg5.IsWhole) (v0 v2 v6 : Vec Ideal S1x4096 .f32) (X : BufTy.Contents (Elt Ideal) arg1.view.ty) (k : Fin k0_t1_loop.trips) :
    tripL_k0_t1 (F := Ideal) 𝒱 c bd i arg1 harg1 arg2 harg2 arg3 harg3 arg4 harg4 arg5 harg5 v0 v2 v6 X k
      = [⟨band k, k0_pay1 v0 v2 v6 (View.ld (arg1.view.read (Elt Ideal) X) (band k))⟩] := by
  unfold tripL_k0_t1 trip_k0_t1
  rfl

/-- Every piece that the first `n` trips store is a block of `G`, where each trip's is. -/
theorem pieces (G : S256x4096.Idx → Elt Ideal .bf16) (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S256x4096 .bf16) (harg5 : arg5.IsWhole) (v0 v2 v6 : Vec Ideal S1x4096 .f32) (X : BufTy.Contents (Elt Ideal) arg1.view.ty)
    (h : ∀ (k : Fin k0_t1_loop.trips) (y : S16x4096.Idx), k0_pay1 v0 v2 v6 (View.ld (arg1.view.read (Elt Ideal) X) (band k)) y = G ((band k).emb y)) :
    ∀ n, n ≤ k0_t1_loop.trips → ∀ p ∈ pb_k0_t1 (F := Ideal) 𝒱 c bd i arg1 harg1 arg2 harg2 arg3 harg3 arg4 harg4 arg5 harg5 v0 v2 v6 X n, ∀ x : p.1.shape.Idx, p.2 x = G (p.1.emb x)
  | 0, _, p, hp, x => by simp only [pb_k0_t1] at hp; exact absurd hp List.not_mem_nil
  | n + 1, hn, p, hp, x => by
    rw [pb_k0_t1_succ (F := Ideal) 𝒱 c bd i arg1 harg1 arg2 harg2 arg3 harg3 arg4 harg4 arg5 harg5 v0 v2 v6 X ⟨n, hn⟩, trip_eq] at hp
    rcases List.mem_append.mp hp with hp | hp
    · obtain rfl := List.mem_singleton.mp hp
      exact h ⟨n, hn⟩ x
    · exact pieces G 𝒱 c bd i arg1 harg1 arg2 harg2 arg3 harg3 arg4 harg4 arg5 harg5 v0 v2 v6 X h n (Nat.le_of_succ_le hn) p hp x

/-- Every piece that the body stores is a block of `G`, where each trip's is. -/
theorem body_pieces (G : S256x4096.Idx → Elt Ideal .bf16) (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S256x4096 .bf16) (harg5 : arg5.IsWhole) (x0 : Vec Ideal S256x4096 .f32) (x1 x2 x3 : Vec Ideal S1x4096 .f32)
    (h : ∀ (k : Fin k0_t1_loop.trips) (y : S16x4096.Idx), k0_pay1 x1 x2 x3 (View.ld x0 (band k)) y = G ((band k).emb y)) :
    ∀ p ∈ (kernelRun0_A (F := Ideal) c i arg1 harg1 arg2 harg2 arg3 harg3 arg4 harg4 arg5 harg5 x0 x1 x2 x3).1, ∀ x : p.1.shape.Idx, p.2 x = G (p.1.emb x) := by
  unfold kernelRun0_A
  refine pieces G _ _ _ _ _ _ _ _ _ _ _ _ _ _ _ _ _ _ (fun k y => ?_) _ le_rfl
  simp only [View.readAt_eq_ld, harg1.read_unread, harg2.read_unread, harg3.read_unread, harg4.read_unread, View.ld_unit_zero (S := S1x4096) (show (![0, 0] : Fin 2 → Nat) = fun _ => 0 from funext fun a => by fin_cases a <;> rfl)]
  exact h k y

/-- The reference's values at the places of the block that grid point `t` writes. -/
def BLK (c : Dev nD) (t : Fin cfg0.N) (y : S256x4096.Idx) : Elt Ideal .bf16 :=
  REF (m ((c : Thread nD τ).loc main_arg0)) (m ((c : Thread nD τ).loc main_arg1)) (m ((c : Thread nD τ).loc main_arg2)) (m ((c : Thread nD τ).loc main_arg3)) (((cfg0.win 4).blk t).view.emb y)

/-- What the body leaves in the output's staging buffer at grid point `t` is the reference's values there. -/
theorem out_eq (c : Dev nD) (t : Fin cfg0.N) (y : S256x4096.Idx) : outsAt0 m c t y = BLK m c t y := by
  unfold outsAt0 out0_A_4
  rw [View.read_writes_junk_eq_canon]
  exact View.canon_apply_of_pieces (BLK m c t) _ (body_pieces (BLK m c t) c _ _ _ _ _ _ _ _ _ _ _ _ _ _ _ (point m c t)) y (cover0_A_4 c _ _ _ _ _ _ _ _ _ _ _ _ _ _ _ y)

/-- The result array after the run is the reference's result: the blocks tile the array. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4]
  exact out_eq m c t y

end Cert.NormIdeal.Value
-- ==== Proof.Final.lean ====
/- Values of the closing normalisation, computed by the kernel sixteen rows at a time. -/
module

public import proofs.«01_k».proof.Proof.Gen.FinalIdeal.Frame
public import proofs.«01_k».proof.Proof.Gen.FinalIdeal.Value
public import proofs.«01_k».proof.Proof.Gen.FinalRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FinalRefIdeal.Value

open Cert.FinalRefIdeal Cert.FinalRefIdeal.Gen

/-- The reference's result as a function of its arguments. -/
def REF (x0 : FVec Ideal Cert.FinalRefIdeal.S8192x4096 .f32) (x1 : FVec Ideal Cert.FinalRefIdeal.S4096 .f32) : FVec Ideal Cert.FinalRefIdeal.S8192x4096 .f32 :=
  mulf (mulf x0 (broadcastInDim S8192x4096 ![0, 1] bcast_S8192x1_S8192x4096_0_1 (Host.rsqrt (addf (Host.divf (broadcastInDim S8192x1 ![0] bcast_S8192_S8192x1_0 (Host.reduceAdd (mulf x0 x0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 x1))

end Cert.FinalRefIdeal.Value

namespace Cert.FinalIdeal.Value

open Cert.FinalIdeal Cert.FinalIdeal.Gen
open Cert.FinalRefIdeal.Value (REF)

variable (m : (ℓ : Loc nD τ sig) → Buf (Elt Ideal) ℓ)

/-- Which block each window stages at grid point `t`. -/
theorem idx_val : ∀ t : Fin cfg0.N, win0_0.index t = ![t.val, 0]
    ∧ win0_1.index t = ![0, 0]
    ∧ win0_2.index t = ![t.val, 0] :=
  (by decide +kernel : ∀ t : Fin grid0.N, _)

/-- The sixteen rows that trip `k` of the loop reads and writes. -/
abbrev band (k : Fin k0_t1_loop.trips) : Rect S256x4096 := Rect.unit (s := S256x4096) (k0_off1 k) S16x4096.size (k0_off1_inb k)

/-- What trip `k` stores at place `y` of its sixteen rows is the reference's value at the array index of that place. -/
theorem point (c : Dev nD) (t : Fin cfg0.N) (k : Fin k0_t1_loop.trips) (y : S16x4096.Idx) :
    k0_pay1 (iblk m c 1 t) (View.ld (iblk m c 0 t) (band k)) y
      = REF (m ((c : Thread nD τ).loc main_arg0)) (m ((c : Thread nD τ).loc main_arg1)) (((cfg0.win 2).blk t).view.emb ((band k).emb y)) := by
  pointwise [k0_pay1, REF]
  blk_point [iblk, V, idx_val t, band, k0_off1_eq]

/-- One trip stores one piece: its sixteen rows, computed from the sixteen rows it reads. -/
theorem trip_eq (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (v0 : Vec Ideal S1x4096 .f32) (X : BufTy.Contents (Elt Ideal) arg1.view.ty) (k : Fin k0_t1_loop.trips) :
    tripL_k0_t1 (F := Ideal) 𝒱 c bd i arg1 harg1 arg2 harg2 arg3 harg3 v0 X k
      = [⟨band k, k0_pay1 v0 (View.ld (arg1.view.read (Elt Ideal) X) (band k))⟩] := by
  unfold tripL_k0_t1 trip_k0_t1
  rfl

/-- Every piece that the first `n` trips store is a block of `G`, where each trip's is. -/
theorem pieces (G : S256x4096.Idx → Elt Ideal .f32) (𝒱 : Variants) (c : Dev nD) (bd : Option 𝒱.V) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (v0 : Vec Ideal S1x4096 .f32) (X : BufTy.Contents (Elt Ideal) arg1.view.ty)
    (h : ∀ (k : Fin k0_t1_loop.trips) (y : S16x4096.Idx), k0_pay1 v0 (View.ld (arg1.view.read (Elt Ideal) X) (band k)) y = G ((band k).emb y)) :
    ∀ n, n ≤ k0_t1_loop.trips → ∀ p ∈ pb_k0_t1 (F := Ideal) 𝒱 c bd i arg1 harg1 arg2 harg2 arg3 harg3 v0 X n, ∀ x : p.1.shape.Idx, p.2 x = G (p.1.emb x)
  | 0, _, p, hp, x => by simp only [pb_k0_t1] at hp; exact absurd hp List.not_mem_nil
  | n + 1, hn, p, hp, x => by
    rw [pb_k0_t1_succ (F := Ideal) 𝒱 c bd i arg1 harg1 arg2 harg2 arg3 harg3 v0 X ⟨n, hn⟩, trip_eq] at hp
    rcases List.mem_append.mp hp with hp | hp
    · obtain rfl := List.mem_singleton.mp hp
      exact h ⟨n, hn⟩ x
    · exact pieces G 𝒱 c bd i arg1 harg1 arg2 harg2 arg3 harg3 v0 X h n (Nat.le_of_succ_le hn) p hp x

/-- Every piece that the body stores is a block of `G`, where each trip's is. -/
theorem body_pieces (G : S256x4096.Idx → Elt Ideal .f32) (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S256x4096 .f32) (harg3 : arg3.IsWhole) (x0 : Vec Ideal S256x4096 .f32) (x1 : Vec Ideal S1x4096 .f32)
    (h : ∀ (k : Fin k0_t1_loop.trips) (y : S16x4096.Idx), k0_pay1 x1 (View.ld x0 (band k)) y = G ((band k).emb y)) :
    ∀ p ∈ (kernelRun0_A (F := Ideal) c i arg1 harg1 arg2 harg2 arg3 harg3 x0 x1).1, ∀ x : p.1.shape.Idx, p.2 x = G (p.1.emb x) := by
  unfold kernelRun0_A
  refine pieces G _ _ _ _ _ _ _ _ _ _ _ _ (fun k y => ?_) _ le_rfl
  rw [harg1.read_unread, View.readAt_eq_ld, harg2.read_unread, View.ld_unit_zero (S := S1x4096) (funext fun a => by fin_cases a <;> rfl)]
  exact h k y

/-- The reference's values at the places of the block that grid point `t` writes. -/
def BLK (c : Dev nD) (t : Fin cfg0.N) (y : S256x4096.Idx) : Elt Ideal .f32 :=
  REF (m ((c : Thread nD τ).loc main_arg0)) (m ((c : Thread nD τ).loc main_arg1)) (((cfg0.win 2).blk t).view.emb y)

/-- What the body leaves in the output's staging buffer at grid point `t` is the reference's values there. -/
theorem out_eq (c : Dev nD) (t : Fin cfg0.N) (y : S256x4096.Idx) : outsAt0 m c t y = BLK m c t y := by
  unfold outsAt0 out0_A_2
  rw [View.read_writes_junk_eq_canon]
  exact View.canon_apply_of_pieces (BLK m c t) _ (body_pieces (BLK m c t) c _ _ _ _ _ _ _ _ _ (point m c t)) y (cover0_A_2 c _ _ _ _ _ _ _ _ _ y)

/-- The result array after the run is the reference's result: the blocks tile the array. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  rw [after0_2]
  exact out_eq m c t y

end Cert.FinalIdeal.Value
-- ==== Proof.ModIdealFrame.lean ====
/- The frame of the first modulation call over the extended reals: what its body does at a grid point, what the staging buffers hold after
   each point, and the run of the whole call. The body stores the activation table at point 0 only; the later points
   read it, and the last one has it written back. -/
module

public import proofs.«01_k».proof.Proof.Gen.ModIdeal.Skeleton
public import proofs.«01_k».proof.Proof.Gen.ModIdeal.Loops
public import proofs.«01_k».proof.Proof.Gen.ModIdeal.Frame
public import Idealize.ShloMosaic.Lib.Pipeline.ValueKit
public import Idealize.ShloMosaic.Lib.Pipeline.TableIdle

@[expose] public section

set_option maxRecDepth 16384

noncomputable section

namespace Cert.ModIdeal.Run

open Cert.ModIdeal Cert.ModIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The algebra of assertions the run is stated over. -/
abbrev MM (F : FTy → Type) [FloatOps F] := MT nD τ sig Unit (Elt F) ℕ (UR sig nD τ) ℕ

/-! ## The body in two parts -/

/-- The body's first part, run at point 0: it stores the activations, each repeated along its row. -/
def first (arg1 : Memref sig .tc .vmem S4096x1 .f32) (arg5 : Memref sig .tc .vmem S4096x128 .f32) :
    Prog (TpuEff nD τ sig (Elt F) Λ₀ .tc) PUnit := do
  let x : Vec F S4096x1 .f32 ← Prog.lift (.load arg1 (Rect.unit (s := S4096x1) ![0, 0] S4096x1.size inb_S4096x1_S4096x1_0_0).toLoadRect (View.loadsAt_vmem h_S4096x1))
  let _ : Vec F S4096x128 .f32 ← Prog.lift (.load arg5 (Rect.unit (s := S4096x128) ![0, 0] S4096x128.size inb_S4096x128_S4096x128_0_0).toLoadRect (View.loadsAt_vmem h_S4096x128))
  Prog.lift (.store arg5 (Rect.unit (s := S4096x128) ![0, 0] S4096x128.size inb_S4096x128_S4096x128_0_0) (k0_pay1 x) Finset.univ (View.stores_vmem_bits_univ h_S4096x128 rfl) (.inl rfl))
  pure ⟨⟩

/-- The body's second part, run at every point: the loop over the rows, and the store of its sum and the bias. -/
def second (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S4096x128 .f32) (harg5 : arg5.IsWhole) :
    Prog (TpuEff nD τ sig (Elt F) Λ₀ .tc) PUnit := do
  let s : FVec F S8x512 .f32 ← Scf.Loop.for k0_t1_loop k0_t1_ok (k0_pay2 (F := F)) (k0_t1_body i arg1 harg1 arg2 harg2 arg3 harg3 arg4 harg4 arg5 harg5)
  let x : Vec F S1x512 .f32 ← Prog.lift (.load arg3 (Rect.unit (s := S1x512) ![0, 0] S1x512.size inb_S1x512_S1x512_0_0).toLoadRect (View.loadsAt_vmem h_S1x512))
  let _ : Vec F S1x512 .f32 ← Prog.lift (.load arg4 (Rect.unit (s := S1x512) ![0, 0] S1x512.size inb_S1x512_S1x512_0_0).toLoadRect (View.loadsAt_vmem h_S1x512))
  Prog.lift (.store arg4 (Rect.unit (s := S1x512) ![0, 0] S1x512.size inb_S1x512_S1x512_0_0) (k0_pay4 s x) Finset.univ (View.stores_vmem_bits_univ h_S1x512 rfl) (.inl rfl))
  pure ⟨⟩

/-- At a point where the condition holds the body is its two parts in turn. -/
theorem body_pos (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S4096x128 .f32) (harg5 : arg5.IsWhole) (h : k0_cond1 i = 1#1) :
    cc0_adaln_mod (F := F) i arg1 harg1 arg2 harg2 arg3 harg3 arg4 harg4 arg5 harg5
      = first arg1 arg5 >>= fun _ => second i arg1 harg1 arg2 harg2 arg3 harg3 arg4 harg4 arg5 harg5 := by
  rw [cc0_adaln_mod_eq_skeleton]; unfold cc0_adaln_mod_skel
  rw [dif_pos h]; rfl

/-- At another point it is the second part alone. -/
theorem body_neg (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S4096x128 .f32) (harg5 : arg5.IsWhole) (h : ¬ k0_cond1 i = 1#1) :
    cc0_adaln_mod (F := F) i arg1 harg1 arg2 harg2 arg3 harg3 arg4 harg4 arg5 harg5
      = second i arg1 harg1 arg2 harg2 arg3 harg3 arg4 harg4 arg5 harg5 := by
  rw [cc0_adaln_mod_eq_skeleton]; unfold cc0_adaln_mod_skel
  rw [dif_neg h]; rfl

/-! ## What each part leaves -/

/-- The rows that trip `k` of the loop reads of the activations and of the weights. -/
abbrev actRows (k : Fin k0_t1_loop.trips) : Rect S4096x128 := Rect.unit (s := S4096x128) (k0_off1 k) S128x128.size (k0_off1_inb k)
abbrev wRows (k : Fin k0_t1_loop.trips) : Rect S4096x512 := Rect.unit (s := S4096x512) (k0_off2 k) S128x512.size (k0_off2_inb k)

/-- The eight partial rows before trip `n`, from the weights `w` and the activations `a`. -/
def acc (w : Vec F S4096x512 .f32) (a : Vec F S4096x128 .f32) : ℕ → FVec F S8x512 .f32
  | 0 => k0_pay2
  | n + 1 => if h : n < k0_t1_loop.trips then k0_pay3 (acc w a n) (View.ld a (actRows ⟨n, h⟩)) (View.ld w (wRows ⟨n, h⟩)) else acc w a n

/-- The row of sums that the body leaves in its first output. -/
def row (w : Vec F S4096x512 .f32) (b : Vec F S1x512 .f32) (a : Vec F S4096x128 .f32) : Vec F S1x512 .f32 :=
  k0_pay4 (acc w a k0_t1_loop.trips) b

/-- What one trip yields. -/
theorem trip_eq (𝒱 : Variants) (c : Dev nD) (bd : Option 𝒱.V) (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S4096x128 .f32) (harg5 : arg5.IsWhole)
    (w : BufTy.Contents (Elt F) arg2.view.ty) (a : BufTy.Contents (Elt F) arg5.view.ty) (k : Fin k0_t1_loop.trips) (s : FVec F S8x512 .f32) :
    tripR_k0_t1 (F := F) 𝒱 c bd i arg1 harg1 arg2 harg2 arg3 harg3 arg4 harg4 arg5 harg5 w a k s
      = k0_pay3 s (View.ld (arg5.view.read (Elt F) a) (actRows k)) (View.ld (arg2.view.read (Elt F) w) (wRows k)) := by
  unfold tripR_k0_t1 trip_k0_t1
  rfl

/-- The value the loop carries is `acc`, whatever buffers hold the operands. -/
theorem st_eq (𝒱 : Variants) (c : Dev nD) (bd : Option 𝒱.V) (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S4096x128 .f32) (harg5 : arg5.IsWhole)
    (w : Vec F S4096x512 .f32) (a : Vec F S4096x128 .f32) :
    ∀ n, n ≤ k0_t1_loop.trips → st_k0_t1 (F := F) 𝒱 c bd i arg1 harg1 arg2 harg2 arg3 harg3 arg4 harg4 arg5 harg5 (harg2.unread w) (harg5.unread a) k0_pay2 n = acc w a n
  | 0, _ => by rw [st_k0_t1_zero]; rfl
  | n + 1, hn => by
    rw [st_k0_t1_succ (F := F) 𝒱 c bd i arg1 harg1 arg2 harg2 arg3 harg3 arg4 harg4 arg5 harg5 _ _ k0_pay2 ⟨n, hn⟩, trip_eq,
      st_eq 𝒱 c bd i arg1 harg1 arg2 harg2 arg3 harg3 arg4 harg4 arg5 harg5 w a n (Nat.le_of_succ_le hn), harg2.read_unread, harg5.read_unread]
    rw [acc.eq_2, dif_pos (show n < k0_t1_loop.trips from hn)]

theorem hz2 : (![0, 0] : Fin 2 → ℕ) = fun _ => 0 := funext fun a => by fin_cases a <;> rfl

set_option maxHeartbeats 1000000 in
/-- The first part leaves the activations, each repeated along its row, whatever was there before. -/
theorem first_run (c : Dev nD) (arg1 : Memref sig .tc .vmem S4096x1 .f32) (harg1 : arg1.IsWhole) (arg5 : Memref sig .tc .vmem S4096x128 .f32) (harg5 : arg5.IsWhole)
    (x : Vec F S4096x1 .f32) (d : Vec F S4096x128 .f32) (E : Set ℕ) (K : PUnit → sProp (MM F)) :
    iprop(owns (c : Thread nD τ) arg1 fullShare x ∗ owns (c : Thread nD τ) arg5 fullShare d
        ∗ (iprop(owns (c : Thread nD τ) arg1 fullShare x ∗ owns (c : Thread nD τ) arg5 fullShare (k0_pay1 x)) -∗ K ⟨⟩))
      ⊢ wp frame (wpE (defs₀ (F := F)) Variants.none c none) E (first arg1 arg5) K := by
  unfold first
  unfold owns
  iintro ⟨⟨%f0, %hf0, H0⟩, ⟨%f4, %hf4, H4⟩, Hk⟩
  obtain rfl := harg1.eq_unread hf0
  sl_exec
  sl_step
  iapply Hk
  isplitl [H0]
  · iexists _; isplitr; · ipureintro; exact harg1.read_unread _
    iexact H0
  iexists _; isplitr
  swap; · iexact H4
  ipureintro
  refine (View.read_writes_of_cover _ _ _ arg5.view.junk _ ?_).trans ((View.read_writes_junk_eq_canon _ _).trans ?_)
  · exact fun y => ⟨_, List.mem_singleton_self _, View.mem_set_unit_zero hz2 inb_S4096x128_S4096x128_0_0 y⟩
  · rw [View.canon_cons_unit_zero hz2, View.readAt_eq_ld, harg1.read_unread, View.ld_unit_zero (S := S4096x1) hz2]

set_option maxHeartbeats 1000000 in
/-- The second part leaves its operands as they were and the row of sums in its output. -/
theorem second_run (c : Dev nD) (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S4096x128 .f32) (harg5 : arg5.IsWhole)
    (w : Vec F S4096x512 .f32) (b : Vec F S1x512 .f32) (a : Vec F S4096x128 .f32) (d : Vec F S1x512 .f32) (E : Set ℕ) (K : PUnit → sProp (MM F)) :
    iprop(owns (c : Thread nD τ) arg2 fullShare w ∗ owns (c : Thread nD τ) arg3 fullShare b ∗ owns (c : Thread nD τ) arg4 fullShare d ∗ owns (c : Thread nD τ) arg5 fullShare a
        ∗ (iprop(owns (c : Thread nD τ) arg2 fullShare w ∗ owns (c : Thread nD τ) arg3 fullShare b ∗ owns (c : Thread nD τ) arg4 fullShare (row w b a) ∗ owns (c : Thread nD τ) arg5 fullShare a) -∗ K ⟨⟩))
      ⊢ wp frame (wpE (defs₀ (F := F)) Variants.none c none) E (second i arg1 harg1 arg2 harg2 arg3 harg3 arg4 harg4 arg5 harg5) K := by
  unfold second
  unfold owns
  iintro ⟨⟨%f1, %hf1, H1⟩, ⟨%f2, %hf2, H2⟩, ⟨%f3, %hf3, H3⟩, ⟨%f4, %hf4, H4⟩, Hk⟩
  obtain rfl := harg2.eq_unread hf1; obtain rfl := harg3.eq_unread hf2; obtain rfl := harg5.eq_unread hf4
  sl_exec
  sl_step
  iapply Hk
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_of_cover _ _ _ arg4.view.junk _ ?_).trans ((View.read_writes_junk_eq_canon _ _).trans ?_)
    · exact fun y => ⟨_, List.mem_singleton_self _, View.mem_set_unit_zero hz2 inb_S1x512_S1x512_0_0 y⟩
    · rw [View.canon_cons_unit_zero hz2, View.readAt_eq_ld, harg3.read_unread, View.ld_unit_zero (S := S1x512) hz2]
      rw [st_eq (F := F) _ _ _ _ _ _ _ _ _ _ _ _ _ _ w a k0_t1_loop.trips le_rfl]
      rfl
  · iexists _; isplitr; · ipureintro; exact harg5.read_unread _
    iexact H4

/-- The whole body at the first point: it leaves the activations and the row of sums. -/
theorem run_pos (c : Dev nD) (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S4096x128 .f32) (harg5 : arg5.IsWhole) (h : k0_cond1 i = 1#1)
    (x : Vec F S4096x1 .f32) (w : Vec F S4096x512 .f32) (b : Vec F S1x512 .f32) (d : Vec F S1x512 .f32) (e : Vec F S4096x128 .f32) (E : Set ℕ) (K : PUnit → sProp (MM F)) :
    iprop(owns (c : Thread nD τ) arg1 fullShare x ∗ owns (c : Thread nD τ) arg2 fullShare w ∗ owns (c : Thread nD τ) arg3 fullShare b ∗ owns (c : Thread nD τ) arg4 fullShare d ∗ owns (c : Thread nD τ) arg5 fullShare e
        ∗ (iprop(owns (c : Thread nD τ) arg1 fullShare x ∗ owns (c : Thread nD τ) arg2 fullShare w ∗ owns (c : Thread nD τ) arg3 fullShare b ∗ owns (c : Thread nD τ) arg4 fullShare (row w b (k0_pay1 x)) ∗ owns (c : Thread nD τ) arg5 fullShare (k0_pay1 x)) -∗ K ⟨⟩))
      ⊢ wp frame (wpE (defs₀ (F := F)) Variants.none c none) E (cc0_adaln_mod i arg1 harg1 arg2 harg2 arg3 harg3 arg4 harg4 arg5 harg5) K := by
  rw [body_pos i arg1 harg1 arg2 harg2 arg3 harg3 arg4 harg4 arg5 harg5 h, wp_bind_eq]
  iintro ⟨H0, H1, H2, H3, H4, Hk⟩
  iapply (first_run c arg1 harg1 arg5 harg5 x e E (fun _ => wp frame (wpE (defs₀ (F := F)) Variants.none c none) E (second i arg1 harg1 arg2 harg2 arg3 harg3 arg4 harg4 arg5 harg5) K))
  isplitl [H0]; · iexact H0
  isplitl [H4]; · iexact H4
  iintro ⟨H0, H4⟩
  iapply (second_run c i arg1 harg1 arg2 harg2 arg3 harg3 arg4 harg4 arg5 harg5 w b (k0_pay1 x) d E K)
  isplitl [H1]; · iexact H1
  isplitl [H2]; · iexact H2
  isplitl [H3]; · iexact H3
  isplitl [H4]; · iexact H4
  iintro ⟨H1, H2, H3, H4⟩
  iapply Hk
  isplitl [H0]; · iexact H0
  isplitl [H1]; · iexact H1
  isplitl [H2]; · iexact H2
  isplitl [H3]; · iexact H3
  iexact H4

/-- The whole body at a later point, where the activations `a` are already there: it leaves the row of sums. -/
theorem run_neg (c : Dev nD) (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S4096x128 .f32) (harg5 : arg5.IsWhole) (h : ¬ k0_cond1 i = 1#1)
    (w : Vec F S4096x512 .f32) (b : Vec F S1x512 .f32) (a : Vec F S4096x128 .f32) (d : Vec F S1x512 .f32) (E : Set ℕ) (K : PUnit → sProp (MM F)) :
    iprop(owns (c : Thread nD τ) arg2 fullShare w ∗ owns (c : Thread nD τ) arg3 fullShare b ∗ owns (c : Thread nD τ) arg4 fullShare d ∗ owns (c : Thread nD τ) arg5 fullShare a
        ∗ (iprop(owns (c : Thread nD τ) arg2 fullShare w ∗ owns (c : Thread nD τ) arg3 fullShare b ∗ owns (c : Thread nD τ) arg4 fullShare (row w b a) ∗ owns (c : Thread nD τ) arg5 fullShare a) -∗ K ⟨⟩))
      ⊢ wp frame (wpE (defs₀ (F := F)) Variants.none c none) E (cc0_adaln_mod i arg1 harg1 arg2 harg2 arg3 harg3 arg4 harg4 arg5 harg5) K := by
  rw [body_neg i arg1 harg1 arg2 harg2 arg3 harg3 arg4 harg4 arg5 harg5 h]
  exact second_run c i arg1 harg1 arg2 harg2 arg3 harg3 arg4 harg4 arg5 harg5 w b a d E K

/-! ## What the staging buffers hold after each point -/

variable (m : (ℓ : Loc nD τ sig) → Buf (Elt F) ℓ) (ρ : Dev nD → PrngReg)

/-- The first grid point. -/
abbrev t0 : Fin cfg0.N := ⟨0, by decide⟩

/-- The table of activations, stored at the first point. -/
def table (c : Dev nD) : Vec F S4096x128 .f32 := k0_pay1 (iblk m c 0 t0)

/-- The proof data: each input's buffer keeps its block; the row of sums of the point's columns; the table. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => row (iblk m c 1 t) (iblk m c 2 t) (table m c)
    | ⟨4, _⟩ => table m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = row (iblk m c 1 t) (iblk m c 2 t) (table m c) := by dsimp only [dats]
theorem after0_4 (c : Dev nD) (t : Fin cfg0.N) : (dats m 0 c).after 4 t = table m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The condition holds at the first point alone. -/
theorem cond_iff : ∀ t : Fin cfg0.N, k0_cond1 (grid0.coords t) = 1#1 ↔ t.val = 0 :=
  (by decide +kernel : ∀ t : Fin grid0.N, _)

/-- The table's window is idle but at the first point. -/
theorem idle_4 : ∀ t : Fin cfg0.N, cfg0.idle 4 (grid0.coords t) = !decide (t.val = 0) :=
  (by decide +kernel : ∀ t : Fin grid0.N, _)

/-- The table's buffer is fresh before the first point and after the last. -/
theorem fresh_4 : ∀ n, n ≤ cfg0.N → cfg0.fresh 4 n = (decide (n = 0) || decide (n = 24)) :=
  cfg0.fresh_tab 4 (fun n => decide (n = 0) || decide (n = 24)) rfl fun t => by
    rw [idle_4 t]
    have hN : t.val < 24 := t.isLt
    have hf : (cfg0.win 4).flush t = decide (t.val = 23) := by
      rw [Bool.eq_iff_iff, flush0_4 t, decide_eq_true_iff]; omega
    rw [hf]
    by_cases h : t.val = 0
    · simp [h]
    · by_cases h' : t.val = 23
      · simp [h']
      · simp [h, h']; omega

/-- After the first point the table's buffer holds the table. -/
theorem before0_4 (c : Dev nD) (t : Fin cfg0.N) (h : t.val ≠ 0) (d) : (dats m 0 c).before 4 t d = table m c := by
  have hN : t.val < 24 := t.isLt
  rw [(dats m 0 c).before_out_traj 4 rfl (fun _ _ => rfl) (fun t _ _ _ => by rw [after0_4, after0_4]) t.val t rfl d,
    fresh_4 t.val (Nat.le_of_lt t.isLt), if_neg (by simp [h]; omega), after0_4]

/-! ## The body at a grid point -/

/-- What the body is called with at point `t`, -/
def bodyPre (c : Dev nD) (t : Fin cfg0.N) : sProp (MM F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (MM F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- It suffices to leave the table: where the window is idle the table is what the body found. -/
theorem leaves_4 (c : Dev nD) (t : Fin cfg0.N) :
    owns (c : Thread nD τ) (st0_4 t) fullShare (table m c) ⊢ (dats m 0 c).leavesExact 4 t := by
  by_cases h : t.val = 0
  · rw [show (dats m 0 c).leavesExact 4 t = owns (c : Thread nD τ) (st0_4 t) fullShare ((dats m 0 c).after 4 t) from by
      unfold Dat.leavesExact; rw [show cfg0.idle 4 (cfg0.grid.coords t) = false from (idle_4 t).trans (by simp [h])], after0_4]
  · have hi : cfg0.idle 4 (cfg0.grid.coords t) = true := (idle_4 t).trans (by simp [h])
    cases hf : (cfg0.win 4).flush t
    · rw [Dat.leavesExact_idle (dats m 0 c) 4 t hi hf]
      iintro H
      iexists (table m c)
      rw [before0_4 m c t h]
      iexact H
    · rw [show (dats m 0 c).leavesExact 4 t = owns (c : Thread nD τ) (st0_4 t) fullShare ((dats m 0 c).after 4 t) from by
        unfold Dat.leavesExact; rw [hi, hf], after0_4]

theorem leaves_in (c : Dev nD) (t : Fin cfg0.N) :
    (dats m 0 c).leavesExact 0 t = owns (c : Thread nD τ) (st0_0 t) fullShare (iblk m c 0 t)
    ∧ (dats m 0 c).leavesExact 1 t = owns (c : Thread nD τ) (st0_1 t) fullShare (iblk m c 1 t)
    ∧ (dats m 0 c).leavesExact 2 t = owns (c : Thread nD τ) (st0_2 t) fullShare (iblk m c 2 t)
    ∧ (dats m 0 c).leavesExact 3 t = owns (c : Thread nD τ) (st0_3 t) fullShare (row (iblk m c 1 t) (iblk m c 2 t) (table m c)) := by
  refine ⟨?_, ?_, ?_, ?_⟩
  · rw [← after0_0]
  · rw [← after0_1]
  · rw [← after0_2]
  · rw [← after0_3]

set_option maxHeartbeats 400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  obtain ⟨e0, e1, e2, e3⟩ := leaves_in m c t
  rw [show (dats m 0 c).Φ t.succ = (dats m 0 c).Φ t.castSucc from rfl,
    show (dats m 0 c).owesAt () t.succ = (dats m 0 c).owesAt () t.castSucc from rfl, e0, e1, e2, e3]
  by_cases h : t.val = 0
  · obtain rfl : t = t0 := Fin.ext h
    rw [show table m c = k0_pay1 (iblk m c 0 t0) from rfl]
    iintro ⟨HΦ, Ho, ⟨%d0, H0⟩, ⟨%d1, H1⟩, ⟨%d2, H2⟩, ⟨%d3, H3⟩, ⟨%d4, H4⟩⟩
    iapply (run_pos c (grid0.coords t0) _ _ _ _ _ _ _ _ _ _ ((cond_iff t0).mpr rfl) (iblk m c 0 t0) (iblk m c 1 t0) (iblk m c 2 t0) _ _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t0)
    unfold table
    iexact H4
  · simp only [before0_4 m c t h]
    iintro ⟨HΦ, Ho, ⟨%d0, H0⟩, ⟨%d1, H1⟩, ⟨%d2, H2⟩, ⟨%d3, H3⟩, ⟨%d4, H4⟩⟩
    iapply (run_neg c (grid0.coords t) _ _ _ _ _ _ _ _ _ _ (fun hc => h ((cond_iff t).mp hc)) (iblk m c 1 t) (iblk m c 2 t) (table m c) _ Set.univ _)
    isplitl [H1]; · iexact H1
    isplitl [H2]; · iexact H2
    isplitl [H3]; · iexact H3
    isplitl [H4]; · iexact H4
    iintro ⟨H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4

/-- The body that the pipeline calls at point `t` is the one above. -/
theorem body_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run of the call -/

set_option backward.isDefEq.respectTransparency.types false in
/-- Every run ends, with the arrays at what the proof data says and every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_all m ρ)

/-- The argument arrays end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_all m ρ))

end Cert.ModIdeal.Run

end
-- ==== Proof.Mod.lean ====
/- Values of the first modulation call: the activations it leaves, and the row of sums over them. -/
module

public import proofs.«01_k».proof.Proof.ModFrame
public import proofs.«01_k».proof.Proof.ModIdealFrame
public import proofs.«01_k».proof.Proof.Gen.ModRefIdeal.Run
public import Idealize.ShloMosaic.Lib.Pipeline.ValueKit
public import Idealize.ShloMosaic.Lib.Pointwise

@[expose] public section

set_option maxRecDepth 16384
set_option maxHeartbeats 800000

noncomputable section

open Idealize.ShloMosaic Idealize.ShloMosaic.TcCoe Idealize.SL.Sem
open Idealize.ShloMosaic.Pipeline (Dat)

namespace Cert.ModIdeal.Value

open Cert.ModIdeal Cert.ModIdeal.Gen Cert.ModIdeal.Run

/-- The activation of one number: it times its logistic. -/
def silu (x : EReal) : EReal := x * Ideal.div 1 (1 + Ideal.exp (-x))

/-- The modulation's row and the table of activations, as functions of the arguments. -/
def MODO (v : FVec Ideal S1x4096 .f32) (w : FVec Ideal S4096x12288 .f32) (b : FVec Ideal S12288 .f32) : FVec Ideal S1x12288 .f32 :=
  fun i => ((∑ k : Fin 4096, silu (v (ix2 0 k)) * w (ix2 k (i 1))) + b (ix1 (i 1)) : EReal)
def ACT (v : FVec Ideal S1x4096 .f32) : FVec Ideal S4096x128 .f32 := fun i => silu (v (ix2 0 (i 0)))

variable (m : (ℓ : Loc nD τ sig) → Buf (Elt Ideal) ℓ) (c : Dev nD)

abbrev CC : FVec Ideal S1x4096 .f32 := m ((c : Thread nD τ).loc main_arg0)
abbrev WW : FVec Ideal S4096x12288 .f32 := m ((c : Thread nD τ).loc main_arg1)
abbrev BB : FVec Ideal S12288 .f32 := m ((c : Thread nD τ).loc main_arg2)

/-- Which block each window stages at grid point `t`. -/
theorem idx_val : ∀ t : Fin cfg0.N, win0_0.index t = ![0, 0]
    ∧ win0_1.index t = ![0, t.val]
    ∧ win0_2.index t = ![0, t.val]
    ∧ win0_3.index t = ![0, t.val]
    ∧ win0_4.index t = ![0, 0] :=
  (by decide +kernel : ∀ t : Fin grid0.N, _)

/-- What the host hands the call: the conditioning as a column, the bias as a row. -/
theorem V0_at (i : Fin 4096) (j : Fin 1) : V m c main_v0 (ix2 i j) = CC m c (ix2 0 i) := by
  show StableHlo.after hostOps0 (fun b => m (c, b)) (Proc.devRef .tc main_v0) (ix2 i j) = _
  after_results
  pointwise []
theorem V1_at (i : Fin 12288) : V m c main_v1 (ix2 0 i) = BB m c (ix1 i) := by
  show StableHlo.after hostOps0 (fun b => m (c, b)) (Proc.devRef .tc main_v1) (ix2 0 i) = _
  after_results
  pointwise []

theorem pay1_at (x : Vec Ideal S4096x1 .f32) (r : Fin 4096) (l : Fin 128) : k0_pay1 x (ix2 r l) = silu (x (ix2 r 0)) := by
  pointwise [k0_pay1, silu]
  rfl

/-- The table holds the activation of its row. -/
theorem table_at (r : Fin 4096) (l : Fin 128) : table m c (ix2 r l) = silu (CC m c (ix2 0 r)) := by
  unfold table
  rw [pay1_at]
  refine congrArg silu ?_
  show V m c main_v0 (((cfg0.win 0).blk t0).view.emb (ix2 r 0 : S4096x1.Idx)) = _
  have e : ((cfg0.win 0).blk t0).view.emb (ix2 r 0 : S4096x1.Idx) = (ix2 r 0 : S4096x1.Idx) := by blk_ext [idx_val t0]
  rw [e]
  exact V0_at m c r 0

/-- One trip adds sixteen products to each of the eight partial rows. -/
theorem pay3_at (s : FVec Ideal S8x512 .f32) (a : Vec Ideal S128x128 .f32) (w : Vec Ideal S128x512 .f32) (A : Fin 128 → EReal)
    (h : ∀ (r : Fin 128) (l : Fin 128), a (ix2 r l) = A r) (R : Fin 8) (J : Fin 512) :
    k0_pay3 s a w (ix2 R J) = (s (ix2 R J) + ∑ q : Fin 16, w (ix2 ⟨q * 8 + R, by omega⟩ J) * A ⟨q * 8 + R, by omega⟩ : EReal) := by
  pointwise [k0_pay3, h]
  refine congrArg (fun e : EReal => s (ix2 R J) + e) (Finset.sum_congr (M := EReal) rfl fun q _ => ?_)
  split_ifs <;> rfl

theorem pay4_at (s : FVec Ideal S8x512 .f32) (b : Vec Ideal S1x512 .f32) (J : Fin 512) :
    k0_pay4 s b (ix2 0 J) = ((∑ R : Fin 8, s (ix2 R J)) + b (ix2 0 J) : EReal) := by
  pointwise [k0_pay4]

/-- The product that row `n` of the weights adds to column `J`. -/
def TRM (w : Vec Ideal S4096x512 .f32) (J : Fin 512) (n : ℕ) : EReal :=
  w (ix2 ⟨n % 4096, by omega⟩ J) * silu (CC m c (ix2 0 ⟨n % 4096, by omega⟩))

theorem trips_eq : k0_t1_loop.trips = 32 := by decide

/-- The rows of the table and of the weights that trip `n` reads. -/
theorem act_at (n : ℕ) (ht : n < k0_t1_loop.trips) (hn : n + 1 ≤ 32) (r l : Fin 128) :
    View.ld (table m c) (actRows ⟨n, ht⟩) (ix2 r l) = silu (CC m c (ix2 0 ⟨(128 * n + r) % 4096, by omega⟩)) := by
  refine (View.ld_unit_apply_of (Val := Elt Ideal) (e := .f32) (table m c) (k0_off1 ⟨n, ht⟩) _ _ (ix2 r l) (ix2 (⟨(128 * n + r) % 4096, by omega⟩ : Fin 4096) l) fun b => ?_).trans (table_at m c _ l)
  refine Eq.trans ?_ (congrArg (fun e : ℕ => e + _) (congrFun (k0_off1_eq ⟨n, ht⟩) b)).symm
  fin_cases b
  · show (128 * n + (r : ℕ)) % 4096 = 128 * n + (r : ℕ)
    exact Nat.mod_eq_of_lt (by omega)
  · show (l : ℕ) = 0 + (l : ℕ)
    omega
theorem w_row (w : Vec Ideal S4096x512 .f32) (n : ℕ) (ht : n < k0_t1_loop.trips) (hn : n + 1 ≤ 32) (r : Fin 128) (J : Fin 512) :
    View.ld w (wRows ⟨n, ht⟩) (ix2 r J) = w (ix2 ⟨(128 * n + r) % 4096, by omega⟩ J) := by
  refine (View.ld_unit_apply_of (Val := Elt Ideal) (e := .f32) w (k0_off2 ⟨n, ht⟩) _ _ (ix2 r J) (ix2 (⟨(128 * n + r) % 4096, by omega⟩ : Fin 4096) J) fun b => ?_)
  refine Eq.trans ?_ (congrArg (fun e : ℕ => e + _) (congrFun (k0_off2_eq ⟨n, ht⟩) b)).symm
  fin_cases b
  · show (128 * n + (r : ℕ)) % 4096 = 128 * n + (r : ℕ)
    exact Nat.mod_eq_of_lt (by omega)
  · show (J : ℕ) = 0 + (J : ℕ)
    omega

theorem sum_step (f : ℕ → EReal) (n : ℕ) :
    ∑ q ∈ Finset.range (16 * (n + 1)), f q = ((∑ q ∈ Finset.range (16 * n), f q) + ∑ q : Fin 16, f (16 * n + q) : EReal) := by
  rw [Nat.mul_add, Finset.sum_range_add]
  exact congrArg (fun e : EReal => (∑ q ∈ Finset.range (16 * n), f q) + e) (Finset.sum_range (M := EReal) fun q => f (16 * n + q))

/-- The eight partial rows before trip `n`. -/
theorem acc_at (w : Vec Ideal S4096x512 .f32) (R : Fin 8) (J : Fin 512) :
    ∀ n, n ≤ 32 → acc w (table m c) n (ix2 R J) = ∑ q ∈ Finset.range (16 * n), TRM m c w J (q * 8 + R)
  | 0, _ => by
    rw [acc.eq_1]
    pointwise [k0_pay2]
    rfl
  | n + 1, hn => by
    have ht : n < k0_t1_loop.trips := by rw [trips_eq]; omega
    rw [acc.eq_2, dif_pos ht]
    refine (pay3_at _ _ _ (fun r => silu (CC m c (ix2 0 ⟨(128 * n + r) % 4096, by omega⟩))) (fun r l => act_at m c n ht hn r l) R J).trans ?_
    refine Eq.trans ?_ (sum_step (fun q => TRM m c w J (q * 8 + R)) n).symm
    refine congrArg₂ (fun x y : EReal => x + y) (acc_at w R J n (by omega)) (Finset.sum_congr (M := EReal) rfl fun q _ => ?_)
    unfold TRM
    refine congrArg₂ (fun x y : EReal => x * y) ((w_row w n ht hn _ J).trans (congrArg (fun i => w (ix2 i J)) (Fin.ext ?_))) (congrArg (fun i => silu (CC m c (ix2 0 i))) (Fin.ext ?_))
    · show (128 * n + (q * 8 + R)) % 4096 = ((16 * n + q) * 8 + R) % 4096
      congr 1; omega
    · show (128 * n + (q * 8 + R)) % 4096 = ((16 * n + q) * 8 + R) % 4096
      congr 1; omega

theorem row_at (w : Vec Ideal S4096x512 .f32) (b : Vec Ideal S1x512 .f32) (J : Fin 512) :
    row w b (table m c) (ix2 0 J) = ((∑ k : Fin 4096, silu (CC m c (ix2 0 k)) * w (ix2 k J)) + b (ix2 0 J) : EReal) := by
  unfold row
  rw [trips_eq, pay4_at]
  refine congrArg (fun e : EReal => e + b (ix2 0 J)) ?_
  have e : ∀ R : Fin 8, acc w (table m c) 32 (ix2 R J) = ∑ q : Fin 512, TRM m c w J ((q : ℕ) * 8 + R) := fun R => by
    rw [acc_at m c w R J 32 le_rfl]
    exact Finset.sum_range (M := EReal) fun q => TRM m c w J (q * 8 + R)
  rw [Finset.sum_congr (M := EReal) rfl fun R _ => e R, Finset.sum_comm]
  refine (Fin.sum_mul_add_fin (M := EReal) (L := 4096) 512 8 fun l => TRM m c w J l).trans ?_
  refine Finset.sum_congr (M := EReal) rfl fun k _ => ?_
  have ek : (⟨(k : ℕ) % 4096, by omega⟩ : Fin 4096) = k := Fin.ext (Nat.mod_eq_of_lt k.isLt)
  unfold TRM
  rw [ek]
  exact mul_comm _ _

/-- The weights and the bias that a point reads. -/
theorem w_at (t : Fin cfg0.N) (k : Fin 4096) (J : Fin 512) (C : Fin 12288) (eC : (C : ℕ) = t.val * 512 + J) :
    iblk m c 1 t (ix2 k J : S4096x512.Idx) = WW m c (ix2 k C) := by
  unfold WW
  blk_point [iblk, V, idx_val t]
theorem b_at (t : Fin cfg0.N) (J : Fin 512) (C : Fin 12288) (eC : (C : ℕ) = t.val * 512 + J) :
    iblk m c 2 t (ix2 0 J : S1x512.Idx) = BB m c (ix1 C) := by
  show V m c main_v1 (((cfg0.win 2).blk t).view.emb (ix2 0 J : S1x512.Idx)) = _
  have e : ((cfg0.win 2).blk t).view.emb (ix2 0 J : S1x512.Idx) = (ix2 0 C : S1x12288.Idx) := by blk_ext [idx_val t]
  rw [e]
  exact V1_at m c C

/-- The modulation's row after the run. -/
theorem final_mod : (dats m 0 c).arrAt 3 (cfgs 0).N = MODO (CC m c) (WW m c) (BB m c) := by
  refine (dats m 0 c).arrAt_eq_of_covers 3 _ (by decide +kernel) fun t hf y => ?_
  blk_simp; rw [after0_3]
  have ht : t.val < 24 := t.isLt
  obtain ⟨J, rfl⟩ : ∃ J : Fin 512, y = (ix2 0 J : S1x512.Idx) := ⟨y 1, by
    funext b
    fin_cases b
    · exact Subsingleton.elim (α := Fin 1) _ _
    · rfl⟩
  have ey : ((cfg0.win 3).blk t).view.emb (ix2 0 J : S1x512.Idx) = (ix2 0 (⟨t.val * 512 + J, by omega⟩ : Fin 12288) : S1x12288.Idx) := by blk_ext [idx_val t]
  refine Eq.trans ?_ (congrArg (MODO (CC m c) (WW m c) (BB m c)) ey.symm)
  refine (row_at m c _ _ J).trans ?_
  rw [b_at m c t J ⟨t.val * 512 + J, by omega⟩ rfl]
  refine congrArg (fun e : EReal => e + _) (Finset.sum_congr (M := EReal) rfl fun k _ => ?_)
  rw [w_at m c t k J ⟨t.val * 512 + J, by omega⟩ rfl]
  rfl

/-- The table of activations after the run: it is written back once, at the last point. -/
theorem final_act : (dats m 0 c).arrAt 4 (cfgs 0).N = ACT (CC m c) := by
  refine (dats m 0 c).arrAt_eq_of_covers 4 _ (by decide +kernel) fun t hf y => ?_
  blk_simp; rw [after0_4]
  idx_vars y
  have ey : ((cfg0.win 4).blk t).view.emb (ix2 y0 y1 : S4096x128.Idx) = (ix2 y0 y1 : S4096x128.Idx) := by blk_ext [idx_val t]
  refine Eq.trans ?_ (congrArg (ACT (CC m c)) ey.symm)
  exact table_at m c y0 y1

/-- What the run leaves in the two results and in the arguments. -/
theorem run (ρ : Dev nD → PrngReg) : θ_run defs (onTc (τ := τ) (main (F := Ideal))) ⟨m, fun _ => 0, ρ⟩ (fun r => ∀ c : Dev nD,
      r.2.mem ((c.tc : Thread nD τ).loc main_v2_0) = MODO (CC m c) (WW m c) (BB m c)
      ∧ r.2.mem ((c.tc : Thread nD τ).loc main_v2_1) = ACT (CC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_mod m c), ((h.1 c).1 4).trans (final_act m c), h.2.1 c⟩)
    (θ_run_and (run_main m ρ) (frame m ρ))

end Cert.ModIdeal.Value

namespace Cert.ModRefIdeal.Value

open Cert.ModRefIdeal Cert.ModRefIdeal.Gen
open Cert.ModIdeal.Value (MODO ACT silu)

/-- The reference's two results are the same functions of its arguments. -/
theorem ref_mod (v : FVec Ideal S1x4096 .f32) (w : FVec Ideal S4096x12288 .f32) (b : FVec Ideal S12288 .f32) :
    addf (Host.dotGeneral dot_S1x4096_S4096x12288_S1x12288_1_0_0_1_n_n none (mulf v (Host.divf (broadcastInDim S1x4096 ![] bcast_S_S1x4096 (constant S_ .f32 0x3F800000#32)) (addf (broadcastInDim S1x4096 ![] bcast_S_S1x4096 (constant S_ .f32 0x3F800000#32)) (Host.exp (Host.negf v))))) w) (broadcastInDim S1x12288 ![1] bcast_S12288_S1x12288_1 b) = MODO v w b := by
  funext (i : S1x12288.Idx)
  obtain ⟨C, rfl⟩ : ∃ C : Fin 12288, i = ix2 0 C := ⟨i 1, by
    funext b
    fin_cases b
    · exact Subsingleton.elim (α := Fin 1) _ _
    · rfl⟩
  pointwise []
  rfl

theorem ref_act (v : FVec Ideal S1x4096 .f32) :
    broadcastInDim S4096x128 ![0, 1] bcast_S4096x1_S4096x128_0_1 (shapeCast S4096x1 (mulf v (Host.divf (broadcastInDim S1x4096 ![] bcast_S_S1x4096 (constant S_ .f32 0x3F800000#32)) (addf (broadcastInDim S1x4096 ![] bcast_S_S1x4096 (constant S_ .f32 0x3F800000#32)) (Host.exp (Host.negf v))))) shapeCasts_S1x4096_S4096x1) = ACT v := by
  funext (i : S4096x128.Idx)
  idx_vars i
  pointwise []
  rfl

end Cert.ModRefIdeal.Value

end
-- ==== Proof.lean ====
/- The claims, one by one, from the runs of the programs and the value theorems of the modules beside this one. -/
module

public import proofs.«01_k».proof.Defs
public import Idealize.ShloMosaic.Adequacy
public import Idealize.ShloMosaic.Init
public import Idealize.ShloMosaic.Lib.Claim
public import proofs.«01_k».proof.Proof.Gen.Ret
public import proofs.«01_k».proof.Proof.Gen.Ret.Frame
public import proofs.«01_k».proof.Proof.Gen.RetIdeal
public import proofs.«01_k».proof.Proof.Gen.RetIdeal.Frame
public import proofs.«01_k».proof.Proof.Gen.RetRefIdeal
public import proofs.«01_k».proof.Proof.Gen.RetRefIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpRefIdeal
public import proofs.«01_k».proof.Proof.Gen.UpRefIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownRefIdeal
public import proofs.«01_k».proof.Proof.Gen.DownRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.Gen.ConvRefIdeal.Run
public import proofs.«01_k».proof.Proof.Gen.InRet
public import proofs.«01_k».proof.Proof.Gen.InRet.Frame
public import proofs.«01_k».proof.Proof.Gen.InRetIdeal
public import proofs.«01_k».proof.Proof.Gen.InRetIdeal.Frame
public import proofs.«01_k».proof.Proof.Gen.InRetRefIdeal
public import proofs.«01_k».proof.Proof.Gen.InRetRefIdeal.Run
public import proofs.«01_k».proof.Proof.Gen.InQ
public import proofs.«01_k».proof.Proof.Gen.InQ.Frame
public import proofs.«01_k».proof.Proof.Gen.InQIdeal
public import proofs.«01_k».proof.Proof.Gen.InQIdeal.Frame
public import proofs.«01_k».proof.Proof.Gen.InQRefIdeal
public import proofs.«01_k».proof.Proof.Gen.InQRefIdeal.Run
public import proofs.«01_k».proof.Proof.Gen.InKv
public import proofs.«01_k».proof.Proof.Gen.InKv.Frame
public import proofs.«01_k».proof.Proof.Gen.InKvIdeal
public import proofs.«01_k».proof.Proof.Gen.InKvIdeal.Frame
public import proofs.«01_k».proof.Proof.Gen.InKvRefIdeal
public import proofs.«01_k».proof.Proof.Gen.InKvRefIdeal.Run
public import proofs.«01_k».proof.Proof.Gen.Out0
public import proofs.«01_k».proof.Proof.Gen.Out0.Frame
public import proofs.«01_k».proof.Proof.Gen.Out0Ideal
public import proofs.«01_k».proof.Proof.Gen.Out0Ideal.Frame
public import proofs.«01_k».proof.Proof.Gen.Out0RefIdeal
public import proofs.«01_k».proof.Proof.Gen.Out0RefIdeal.Run
public import proofs.«01_k».proof.Proof.Gen.Out1
public import proofs.«01_k».proof.Proof.Gen.Out1.Frame
public import proofs.«01_k».proof.Proof.Gen.Out1Ideal
public import proofs.«01_k».proof.Proof.Gen.Out1Ideal.Frame
public import proofs.«01_k».proof.Proof.Gen.Out1RefIdeal
public import proofs.«01_k».proof.Proof.Gen.Out1RefIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.Gen.Final
public import proofs.«01_k».proof.Proof.Gen.Final.Frame
public import proofs.«01_k».proof.Proof.Gen.FinalIdeal
public import proofs.«01_k».proof.Proof.Gen.FinalIdeal.Frame
public import proofs.«01_k».proof.Proof.Gen.FinalRefIdeal
public import proofs.«01_k».proof.Proof.Gen.FinalRefIdeal.Run
public import proofs.«01_k».proof.Proof.Gen.Moba
public import proofs.«01_k».proof.Proof.MobaFrame
public import proofs.«01_k».proof.Proof.Gen.MobaIdeal
public import proofs.«01_k».proof.Proof.MobaIdealFrame
public import proofs.«01_k».proof.Proof.Moba
public import proofs.«01_k».proof.Proof.Gen.MobaRefIdeal
public import proofs.«01_k».proof.Proof.Gen.MobaRefIdeal.Run
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModRefIdeal
public import proofs.«01_k».proof.Proof.Gen.ModRefIdeal.Run
public import proofs.«01_k».proof.Proof.Ret
public import proofs.«01_k».proof.Proof.Up
public import proofs.«01_k».proof.Proof.Down
public import proofs.«01_k».proof.Proof.Conv
public import proofs.«01_k».proof.Proof.InRet
public import proofs.«01_k».proof.Proof.InQ
public import proofs.«01_k».proof.Proof.InKv
public import proofs.«01_k».proof.Proof.Out0
public import proofs.«01_k».proof.Proof.Out1
public import proofs.«01_k».proof.Proof.Norm
public import proofs.«01_k».proof.Proof.Final
public import proofs.«01_k».proof.Proof.Mod

@[expose] public section

set_option maxRecDepth 16384

noncomputable section

namespace Cert.Proof

open Idealize.ShloMosaic Idealize.SL.Sem

/-- `Ret`'s reference runs, leaves its arguments as they were and every counter at zero. -/
theorem frame_RetRef : Cert.quiescent_RetRefIdeal (hRetRefIdeal := Cert.RetRefIdeal.Gen.facts) := fun m g _ =>
  (θ_run Cert.RetRefIdeal.defs _ _).mono (fun r h => ⟨fun c => (h c).2.2, sem_eq_zero_of_no_sems (by decide) r.2⟩)
    (Cert.RetRefIdeal.Value.run m g)

set_option maxHeartbeats 1600000 in
/-- `Ret` and its reference end with equal results over the extended reals: retention's rows and the modulation row. -/
theorem algebraic_Ret : Cert.algebraic_RetIdeal_RetRefIdeal (hRetIdeal := Cert.RetIdeal.Gen.facts)
    (hRetRefIdeal := Cert.RetRefIdeal.Gen.facts) := by
  intro m g m' g' _ hargs
  refine ⟨fun c => Cert.RetRefIdeal.Value.RETO (m ((c.tc : Thread Cert.RetIdeal.nD Cert.RetIdeal.τ).loc Cert.RetIdeal.main_arg0)),
    fun c => Cert.RetRefIdeal.Value.MODO (m ((c.tc : Thread Cert.RetIdeal.nD Cert.RetIdeal.τ).loc Cert.RetIdeal.main_arg1))
      (m ((c.tc : Thread Cert.RetIdeal.nD Cert.RetIdeal.τ).loc Cert.RetIdeal.main_arg2))
      (m ((c.tc : Thread Cert.RetIdeal.nD Cert.RetIdeal.τ).loc Cert.RetIdeal.main_arg3)), ?_, ?_⟩
  · refine (θ_run Cert.RetIdeal.defs _ _).mono (fun r h c => ?_) (Cert.RetIdeal.Value.run m g)
    exact ⟨(h c).1.trans ((Cert.RetIdeal.Value.final8 m c).symm.trans (Cert.RetIdeal.Value.final_o m c)),
      (h c).2.1.trans ((Cert.RetIdeal.Value.final9 m c).symm.trans (Cert.RetIdeal.Value.final_mod m c)), (h c).2.2⟩
  · refine (θ_run Cert.RetRefIdeal.defs _ _).mono (fun r h c => ?_) (Cert.RetRefIdeal.Value.run m' g')
    obtain ⟨e0, e1, e2, e3⟩ := hargs c
    refine ⟨(h c).1.trans ?_, (h c).2.1.trans ?_, (h c).2.2⟩
    · exact congrArg Cert.RetRefIdeal.Value.RETO e0
    · exact congr (congr (congrArg Cert.RetRefIdeal.Value.MODO e1) e2) e3

/-- `Up`'s reference runs, leaves its arguments as they were and every counter at zero. -/
theorem frame_UpRef : Cert.quiescent_UpRefIdeal (hUpRefIdeal := Cert.UpRefIdeal.Gen.facts) := fun m g _ =>
  (θ_run Cert.UpRefIdeal.defs _ _).mono (fun r h => ⟨fun c => (h c).2, sem_eq_zero_of_no_sems (by decide) r.2⟩)
    (Cert.UpRefIdeal.Value.run m g)

set_option maxHeartbeats 1600000 in
/-- `Up` and its reference end with equal results over the extended reals. -/
theorem algebraic_Up : Cert.algebraic_UpIdeal_UpRefIdeal (hUpIdeal := Cert.UpIdeal.Gen.facts)
    (hUpRefIdeal := Cert.UpRefIdeal.Gen.facts) := by
  pair_intro
  · run_from Cert.UpIdeal.Gen.run_main m g
  · run_from Cert.UpRefIdeal.Value.run m' g'
    exact (Cert.UpIdeal.Value.final m c).symm

/-- `Down`'s reference runs, leaves its arguments as they were and every counter at zero. -/
theorem frame_DownRef : Cert.quiescent_DownRefIdeal (hDownRefIdeal := Cert.DownRefIdeal.Gen.facts) := fun m g _ =>
  (θ_run Cert.DownRefIdeal.defs _ _).mono (fun r h => ⟨fun c => (h c).2, sem_eq_zero_of_no_sems (by decide) r.2⟩)
    (Cert.DownRefIdeal.Value.run m g)

set_option maxHeartbeats 1600000 in
/-- `Down` and its reference end with equal results over the extended reals. -/
theorem algebraic_Down : Cert.algebraic_DownIdeal_DownRefIdeal (hDownIdeal := Cert.DownIdeal.Gen.facts)
    (hDownRefIdeal := Cert.DownRefIdeal.Gen.facts) := by
  pair_intro
  · run_from Cert.DownIdeal.Gen.run_main m g
  · run_from Cert.DownRefIdeal.Value.run m' g'
    exact (Cert.DownIdeal.Value.final m c).symm

/-- `Conv`'s reference runs, leaves its arguments as they were and every counter at zero. -/
theorem frame_ConvRef : Cert.quiescent_ConvRefIdeal (hConvRefIdeal := Cert.ConvRefIdeal.Gen.facts) := fun m g _ =>
  (θ_run Cert.ConvRefIdeal.defs _ _).mono (fun r h => ⟨fun c => (h c).2, sem_eq_zero_of_no_sems (by decide) r.2⟩)
    (Cert.ConvRefIdeal.Value.run m g)

set_option maxHeartbeats 1600000 in
/-- `Conv` and its reference end with equal results over the extended reals. -/
theorem algebraic_Conv : Cert.algebraic_ConvIdeal_ConvRefIdeal (hConvIdeal := Cert.ConvIdeal.Gen.facts)
    (hConvRefIdeal := Cert.ConvRefIdeal.Gen.facts) := by
  pair_intro
  · run_from Cert.ConvIdeal.Gen.run_main m g
  · run_from Cert.ConvRefIdeal.Value.run m' g'
    exact (Cert.ConvIdeal.Value.final m c).symm

/-- `InRet`'s reference runs, leaves its arguments as they were and every counter at zero. -/
theorem frame_InRetRef : Cert.quiescent_InRetRefIdeal (hInRetRefIdeal := Cert.InRetRefIdeal.Gen.facts) := fun m g _ =>
  (θ_run Cert.InRetRefIdeal.defs _ _).mono (fun r h => ⟨fun c => (h c).2, sem_eq_zero_of_no_sems (by decide) r.2⟩)
    (Cert.InRetRefIdeal.Value.run m g)

set_option maxHeartbeats 1600000 in
/-- `InRet` and its reference end with equal results over the extended reals. -/
theorem algebraic_InRet : Cert.algebraic_InRetIdeal_InRetRefIdeal (hInRetIdeal := Cert.InRetIdeal.Gen.facts)
    (hInRetRefIdeal := Cert.InRetRefIdeal.Gen.facts) := by
  pair_intro
  · run_from Cert.InRetIdeal.Gen.run_main m g
  · run_from Cert.InRetRefIdeal.Value.run m' g'
    exact (Cert.InRetIdeal.Value.final m c).symm

/-- `InQ`'s reference runs, leaves its arguments as they were and every counter at zero. -/
theorem frame_InQRef : Cert.quiescent_InQRefIdeal (hInQRefIdeal := Cert.InQRefIdeal.Gen.facts) := fun m g _ =>
  (θ_run Cert.InQRefIdeal.defs _ _).mono (fun r h => ⟨fun c => (h c).2, sem_eq_zero_of_no_sems (by decide) r.2⟩)
    (Cert.InQRefIdeal.Value.run m g)

set_option maxHeartbeats 1600000 in
/-- `InQ` and its reference end with equal results over the extended reals. -/
theorem algebraic_InQ : Cert.algebraic_InQIdeal_InQRefIdeal (hInQIdeal := Cert.InQIdeal.Gen.facts)
    (hInQRefIdeal := Cert.InQRefIdeal.Gen.facts) := by
  pair_intro
  · run_from Cert.InQIdeal.Gen.run_main m g
  · run_from Cert.InQRefIdeal.Value.run m' g'
    exact (Cert.InQIdeal.Value.final m c).symm

/-- `InKv`'s reference runs, leaves its arguments as they were and every counter at zero. -/
theorem frame_InKvRef : Cert.quiescent_InKvRefIdeal (hInKvRefIdeal := Cert.InKvRefIdeal.Gen.facts) := fun m g _ =>
  (θ_run Cert.InKvRefIdeal.defs _ _).mono (fun r h => ⟨fun c => (h c).2, sem_eq_zero_of_no_sems (by decide) r.2⟩)
    (Cert.InKvRefIdeal.Value.run m g)

set_option maxHeartbeats 1600000 in
/-- `InKv` and its reference end with equal results over the extended reals. -/
theorem algebraic_InKv : Cert.algebraic_InKvIdeal_InKvRefIdeal (hInKvIdeal := Cert.InKvIdeal.Gen.facts)
    (hInKvRefIdeal := Cert.InKvRefIdeal.Gen.facts) := by
  pair_intro
  · run_from Cert.InKvIdeal.Gen.run_main m g
  · run_from Cert.InKvRefIdeal.Value.run m' g'
    exact (Cert.InKvIdeal.Value.final m c).symm

/-- `Out0`'s reference runs, leaves its arguments as they were and every counter at zero. -/
theorem frame_Out0Ref : Cert.quiescent_Out0RefIdeal (hOut0RefIdeal := Cert.Out0RefIdeal.Gen.facts) := fun m g _ =>
  (θ_run Cert.Out0RefIdeal.defs _ _).mono (fun r h => ⟨fun c => (h c).2, sem_eq_zero_of_no_sems (by decide) r.2⟩)
    (Cert.Out0RefIdeal.Value.run m g)

set_option maxHeartbeats 1600000 in
/-- `Out0` and its reference end with equal results over the extended reals. -/
theorem algebraic_Out0 : Cert.algebraic_Out0Ideal_Out0RefIdeal (hOut0Ideal := Cert.Out0Ideal.Gen.facts)
    (hOut0RefIdeal := Cert.Out0RefIdeal.Gen.facts) := by
  pair_intro
  · run_from Cert.Out0Ideal.Gen.run_main m g
  · run_from Cert.Out0RefIdeal.Value.run m' g'
    exact (Cert.Out0Ideal.Value.final m c).symm

/-- `Out1`'s reference runs, leaves its arguments as they were and every counter at zero. -/
theorem frame_Out1Ref : Cert.quiescent_Out1RefIdeal (hOut1RefIdeal := Cert.Out1RefIdeal.Gen.facts) := fun m g _ =>
  (θ_run Cert.Out1RefIdeal.defs _ _).mono (fun r h => ⟨fun c => (h c).2, sem_eq_zero_of_no_sems (by decide) r.2⟩)
    (Cert.Out1RefIdeal.Value.run m g)

set_option maxHeartbeats 1600000 in
/-- `Out1` and its reference end with equal results over the extended reals. -/
theorem algebraic_Out1 : Cert.algebraic_Out1Ideal_Out1RefIdeal (hOut1Ideal := Cert.Out1Ideal.Gen.facts)
    (hOut1RefIdeal := Cert.Out1RefIdeal.Gen.facts) := by
  pair_intro
  · run_from Cert.Out1Ideal.Gen.run_main m g
  · run_from Cert.Out1RefIdeal.Value.run m' g'
    exact (Cert.Out1Ideal.Value.final m c).symm

/-- `Norm`'s reference runs, leaves its arguments as they were and every counter at zero. -/
theorem frame_NormRef : Cert.quiescent_NormRefIdeal (hNormRefIdeal := Cert.NormRefIdeal.Gen.facts) := fun m g _ =>
  (θ_run Cert.NormRefIdeal.defs _ _).mono (fun r h => ⟨fun c => (h c).2, sem_eq_zero_of_no_sems (by decide) r.2⟩)
    (Cert.NormRefIdeal.Value.run m g)

set_option maxHeartbeats 1600000 in
/-- `Norm` and its reference end with equal results over the extended reals. -/
theorem algebraic_Norm : Cert.algebraic_NormIdeal_NormRefIdeal (hNormIdeal := Cert.NormIdeal.Gen.facts)
    (hNormRefIdeal := Cert.NormRefIdeal.Gen.facts) := by
  pair_intro
  · run_from Cert.NormIdeal.Gen.run_main m g
  · run_from Cert.NormRefIdeal.Value.run m' g'
    exact (Cert.NormIdeal.Value.final m c).symm

/-- `Final`'s reference runs, leaves its arguments as they were and every counter at zero. -/
theorem frame_FinalRef : Cert.quiescent_FinalRefIdeal (hFinalRefIdeal := Cert.FinalRefIdeal.Gen.facts) := fun m g _ =>
  (θ_run Cert.FinalRefIdeal.defs _ _).mono (fun r h => ⟨fun c => (h c).2, sem_eq_zero_of_no_sems (by decide) r.2⟩)
    (Cert.FinalRefIdeal.Value.run m g)

set_option maxHeartbeats 1600000 in
/-- `Final` and its reference end with equal results over the extended reals. -/
theorem algebraic_Final : Cert.algebraic_FinalIdeal_FinalRefIdeal (hFinalIdeal := Cert.FinalIdeal.Gen.facts)
    (hFinalRefIdeal := Cert.FinalRefIdeal.Gen.facts) := by
  pair_intro
  · run_from Cert.FinalIdeal.Gen.run_main m g
  · run_from Cert.FinalRefIdeal.Value.run m' g'
    exact (Cert.FinalIdeal.Value.final m c).symm

/-- `Moba`'s reference runs, leaves its arguments as they were and every counter at zero. -/
theorem frame_MobaRef : Cert.quiescent_MobaRefIdeal (hMobaRefIdeal := Cert.MobaRefIdeal.Gen.facts) := fun m g _ =>
  (θ_run Cert.MobaRefIdeal.defs _ _).mono (fun r h => ⟨fun c => (h c).2.2, sem_eq_zero_of_no_sems (by decide) r.2⟩)
    (Cert.MobaRefIdeal.Value.run m g)

/-- `Moba` and its reference end with equal copies of the two down-projection weights over the extended reals. -/
theorem algebraic_Moba : Cert.algebraic_MobaIdeal_MobaRefIdeal (hMobaIdeal := Cert.MobaIdeal.Gen.facts)
    (hMobaRefIdeal := Cert.MobaRefIdeal.Gen.facts) := by
  intro m g m' g' _ hargs
  refine ⟨fun c => Cert.MobaIdeal.Value.COPY (Cert.MobaIdeal.Value.WA m c), fun c => Cert.MobaIdeal.Value.COPY (Cert.MobaIdeal.Value.WB m c),
    Cert.MobaIdeal.Value.run m g, ?_⟩
  refine (θ_run Cert.MobaRefIdeal.defs _ _).mono (fun r h c => ?_) (Cert.MobaRefIdeal.Value.run m' g')
  obtain ⟨_, _, e2, e3, _⟩ := hargs c
  refine ⟨(h c).1.trans ?_, (h c).2.1.trans ?_, (h c).2.2⟩
  · exact congrArg Cert.MobaIdeal.Value.COPY e2
  · exact congrArg Cert.MobaIdeal.Value.COPY e3

/-- `Mod`'s reference runs, leaves its arguments as they were and every counter at zero. -/
theorem frame_ModRef : Cert.quiescent_ModRefIdeal (hModRefIdeal := Cert.ModRefIdeal.Gen.facts) := fun m g _ =>
  (θ_run Cert.ModRefIdeal.defs _ _).mono (fun r h => ⟨fun c => (h c).2.2, sem_eq_zero_of_no_sems (by decide) r.2⟩)
    (Cert.ModRefIdeal.Value.run m g)

/-- `Mod` and its reference end with equal results over the extended reals: the modulation row and the table of activations. -/
theorem algebraic_Mod : Cert.algebraic_ModIdeal_ModRefIdeal (hModIdeal := Cert.ModIdeal.Gen.facts)
    (hModRefIdeal := Cert.ModRefIdeal.Gen.facts) := by
  intro m g m' g' _ hargs
  refine ⟨fun c => Cert.ModIdeal.Value.MODO (Cert.ModIdeal.Value.CC m c) (Cert.ModIdeal.Value.WW m c) (Cert.ModIdeal.Value.BB m c),
    fun c => Cert.ModIdeal.Value.ACT (Cert.ModIdeal.Value.CC m c), Cert.ModIdeal.Value.run m g, ?_⟩
  refine (θ_run Cert.ModRefIdeal.defs _ _).mono (fun r h c => ?_) (Cert.ModRefIdeal.Value.run m' g')
  obtain ⟨e0, e1, e2⟩ := hargs c
  refine ⟨((h c).1.trans (Cert.ModRefIdeal.Value.ref_mod _ _ _)).trans ?_, ((h c).2.1.trans (Cert.ModRefIdeal.Value.ref_act _)).trans ?_, (h c).2.2⟩
  · exact congr (congr (congrArg Cert.ModIdeal.Value.MODO e0) e1) e2
  · exact congrArg Cert.ModIdeal.Value.ACT e0

theorem claim : Cert.Claim :=
  ⟨Cert.Ret.Gen.facts,
    Cert.RetIdeal.Gen.facts,
    Cert.RetRefIdeal.Gen.facts,
    Cert.Up.Gen.facts,
    Cert.UpIdeal.Gen.facts,
    Cert.UpRefIdeal.Gen.facts,
    Cert.Down.Gen.facts,
    Cert.DownIdeal.Gen.facts,
    Cert.DownRefIdeal.Gen.facts,
    Cert.Conv.Gen.facts,
    Cert.ConvIdeal.Gen.facts,
    Cert.ConvRefIdeal.Gen.facts,
    Cert.InRet.Gen.facts,
    Cert.InRetIdeal.Gen.facts,
    Cert.InRetRefIdeal.Gen.facts,
    Cert.InQ.Gen.facts,
    Cert.InQIdeal.Gen.facts,
    Cert.InQRefIdeal.Gen.facts,
    Cert.InKv.Gen.facts,
    Cert.InKvIdeal.Gen.facts,
    Cert.InKvRefIdeal.Gen.facts,
    Cert.Out0.Gen.facts,
    Cert.Out0Ideal.Gen.facts,
    Cert.Out0RefIdeal.Gen.facts,
    Cert.Out1.Gen.facts,
    Cert.Out1Ideal.Gen.facts,
    Cert.Out1RefIdeal.Gen.facts,
    Cert.Norm.Gen.facts,
    Cert.NormIdeal.Gen.facts,
    Cert.NormRefIdeal.Gen.facts,
    Cert.Final.Gen.facts,
    Cert.FinalIdeal.Gen.facts,
    Cert.FinalRefIdeal.Gen.facts,
    Cert.Mod.Gen.facts,
    Cert.ModIdeal.Gen.facts,
    Cert.ModRefIdeal.Gen.facts,
    Cert.Moba.Gen.facts,
    Cert.MobaIdeal.Gen.facts,
    Cert.MobaRefIdeal.Gen.facts,
    fun m g _ => Cert.Ret.Gen.frame m g,
    fun m g _ => Cert.RetIdeal.Gen.frame m g,
    frame_RetRef,
    fun m g _ => Cert.Up.Gen.frame m g,
    fun m g _ => Cert.UpIdeal.Gen.frame m g,
    frame_UpRef,
    fun m g _ => Cert.Down.Gen.frame m g,
    fun m g _ => Cert.DownIdeal.Gen.frame m g,
    frame_DownRef,
    fun m g _ => Cert.Conv.Gen.frame m g,
    fun m g _ => Cert.ConvIdeal.Gen.frame m g,
    frame_ConvRef,
    fun m g _ => Cert.InRet.Gen.frame m g,
    fun m g _ => Cert.InRetIdeal.Gen.frame m g,
    frame_InRetRef,
    fun m g _ => Cert.InQ.Gen.frame m g,
    fun m g _ => Cert.InQIdeal.Gen.frame m g,
    frame_InQRef,
    fun m g _ => Cert.InKv.Gen.frame m g,
    fun m g _ => Cert.InKvIdeal.Gen.frame m g,
    frame_InKvRef,
    fun m g _ => Cert.Out0.Gen.frame m g,
    fun m g _ => Cert.Out0Ideal.Gen.frame m g,
    frame_Out0Ref,
    fun m g _ => Cert.Out1.Gen.frame m g,
    fun m g _ => Cert.Out1Ideal.Gen.frame m g,
    frame_Out1Ref,
    fun m g _ => Cert.Norm.Gen.frame m g,
    fun m g _ => Cert.NormIdeal.Gen.frame m g,
    frame_NormRef,
    fun m g _ => Cert.Final.Gen.frame m g,
    fun m g _ => Cert.FinalIdeal.Gen.frame m g,
    frame_FinalRef,
    fun m g _ => Cert.Mod.Run.frame m g,
    fun m g _ => Cert.ModIdeal.Run.frame m g,
    frame_ModRef,
    fun m g _ => Cert.Moba.Run.frame m g,
    fun m g _ => Cert.MobaIdeal.Run.frame m g,
    frame_MobaRef,
    trivial,
    algebraic_Ret,
    trivial,
    algebraic_Up,
    trivial,
    algebraic_Down,
    trivial,
    algebraic_Conv,
    trivial,
    algebraic_InRet,
    trivial,
    algebraic_InQ,
    trivial,
    algebraic_InKv,
    trivial,
    algebraic_Out0,
    trivial,
    algebraic_Out1,
    trivial,
    algebraic_Norm,
    trivial,
    algebraic_Final,
    trivial,
    algebraic_Mod,
    trivial,
    algebraic_Moba⟩

end Cert.Proof

end
